-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v49_0)) (v1 : (c : Dev Cert.Kernel5Ideal.nD) → Buf (Elt Ideal) ((c.tc : Thread Cert.Kernel5Ideal.nD Cert.Kernel5Ideal.τ).loc Cert.Kernel5Ideal.main_v49_1)) (v2 : (c : Dev Cert.Kernel5Ideal.nD) → Buf (Elt Ideal) ((c.tc : Thread Cert.Kernel5Ideal.nD Cert.Kernel5Ideal.τ).loc Cert.Kernel5Ideal.main_v49_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v49_0) = v0 c
          ∧ r.2.mem ((c.tc : Thread Cert.Kernel5Ideal.nD Cert.Kernel5Ideal.τ).loc Cert.Kernel5Ideal.main_v49_1) = v1 c
          ∧ r.2.mem ((c.tc : Thread Cert.Kernel5Ideal.nD Cert.Kernel5Ideal.τ).loc Cert.Kernel5Ideal.main_v49_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v214) = v0 c
          ∧ r.2.mem ((c.tc : Thread Cert.Reference5Ideal.nD Cert.Reference5Ideal.τ).loc Cert.Reference5Ideal.main_v217) = v1 c
          ∧ r.2.mem ((c.tc : Thread Cert.Reference5Ideal.nD Cert.Reference5Ideal.τ).loc Cert.Reference5Ideal.main_v218) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v82) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_qk_finite : Cert.Pre_qk_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_qk_finite.lean ====
abbrev S8x8x4352x256 : Shape := ⟨4, ![8, 8, 4352, 256]⟩
abbrev S8x8x4352x128 : Shape := ⟨4, ![8, 8, 4352, 128]⟩
abbrev S8x4352x6400 : Shape := ⟨3, ![8, 4352, 6400]⟩
abbrev S_ : Shape := ⟨0, ![]⟩

class Facts : Prop where
  bitsLt_bf16_f32 : FTy.bits .bf16 < FTy.bits .f32
  bcast_S_S8x8x4352x256 : S_.BroadcastsInDim S8x8x4352x256 (![] : Fin 0 → Fin S8x8x4352x256.rank)

variable [Facts]

def fn {F : FTy → Type} [FloatOps F] (main_arg0 : FVec F S8x8x4352x256 .bf16) (main_arg1 : FVec F S8x8x4352x256 .bf16) (main_arg2 : FVec F S8x8x4352x128 .bf16) (main_arg3 : FVec F S8x4352x6400 .bf16) : IVec S8x8x4352x256 1 :=
  let main_v0 : FVec F S8x8x4352x256 .f32 := (extf .f32 · bitsLt_bf16_f32) main_arg0
  let main_v1 : FVec F S8x8x4352x256 .f32 := Host.absf main_v0
  let main_cst : FVec F S_ .f32 := constant S_ .f32 0x7F800000#32
  let main_v2 : FVec F S8x8x4352x256 .f32 := broadcastInDim S8x8x4352x256 ![] bcast_S_S8x8x4352x256 main_cst
  let main_v3 : IVec S8x8x4352x256 1 := cmpf .olt main_v1 main_v2
  let main_v4 : FVec F S8x8x4352x256 .f32 := (extf .f32 · bitsLt_bf16_f32) main_arg1
  let main_v5 : FVec F S8x8x4352x256 .f32 := Host.absf main_v4
  let main_cst_0 : FVec F S_ .f32 := constant S_ .f32 0x7F800000#32
  let main_v6 : FVec F S8x8x4352x256 .f32 := broadcastInDim S8x8x4352x256 ![] bcast_S_S8x8x4352x256 main_cst_0
  let main_v7 : IVec S8x8x4352x256 1 := cmpf .olt main_v5 main_v6
  let main_v8 : IVec S8x8x4352x256 1 := andi main_v3 main_v7
  main_v8
-- ==== Kernel.lean ====
abbrev S8x8x4352x256 : Shape := ⟨4, ![8, 8, 4352, 256]⟩
abbrev S8x8x4352x128 : Shape := ⟨4, ![8, 8, 4352, 128]⟩
abbrev S8x4352x6400 : Shape := ⟨3, ![8, 4352, 6400]⟩
abbrev S8x4352x1024 : Shape := ⟨3, ![8, 4352, 1024]⟩
abbrev S1x1x256x256 : Shape := ⟨4, ![1, 1, 256, 256]⟩
abbrev S1x1x4352x256 : Shape := ⟨4, ![1, 1, 4352, 256]⟩
abbrev S1x1x4352x128 : Shape := ⟨4, ![1, 1, 4352, 128]⟩
abbrev S1x256x128 : Shape := ⟨3, ![1, 256, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x1x256x128 : Shape := ⟨4, ![1, 1, 256, 128]⟩
abbrev S4352x256 : Shape := ⟨2, ![4352, 256]⟩
abbrev S256x4352 : Shape := ⟨2, ![256, 4352]⟩
abbrev S4352x128 : Shape := ⟨2, ![4352, 128]⟩

abbrev nBuf : Space → Nat
  | .hbm => 5
  | .vmem => 10
  | .smem => 0
  | _ => 0

abbrev bufTy : (tb : Table) → Fin (tcTables nBuf tb) → BufTy
  | .hbm, ⟨0, _⟩ => ⟨S8x8x4352x256, .bf16⟩
  | .hbm, ⟨1, _⟩ => ⟨S8x8x4352x256, .bf16⟩
  | .hbm, ⟨2, _⟩ => ⟨S8x8x4352x128, .bf16⟩
  | .hbm, ⟨3, _⟩ => ⟨S8x4352x6400, .bf16⟩
  | .hbm, ⟨4, _⟩ => ⟨S8x4352x1024, .bf16⟩
  | .local _ .vmem, ⟨0, _⟩ => ⟨S1x1x256x256, .bf16⟩
  | .local _ .vmem, ⟨1, _⟩ => ⟨S1x1x256x256, .bf16⟩
  | .local _ .vmem, ⟨2, _⟩ => ⟨S1x1x4352x256, .bf16⟩
  | .local _ .vmem, ⟨3, _⟩ => ⟨S1x1x4352x256, .bf16⟩
  | .local _ .vmem, ⟨4, _⟩ => ⟨S1x1x4352x128, .bf16⟩
  | .local _ .vmem, ⟨5, _⟩ => ⟨S1x1x4352x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | _, _ => ⟨S8x8x4352x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 17], ![false, false, false]⟩

def k0_cond1 (i : grid0.Coords) : BitVec 1 :=
  let arg2 : BitVec 32 := BitVec.ofNat 32 (i 2).val
  let c0_i32 : BitVec 32 := 0#32
  let v13 : BitVec 1 := Scalar.cmpi .eq arg2 c0_i32
  let v14 : BitVec 32 := Scalar.extui v13
  let c0_i32_8 : BitVec 32 := 0#32
  let v15 : BitVec 1 := Scalar.cmpi .ne v14 c0_i32_8
  v15

def k0_cond2 (i : grid0.Coords) : BitVec 1 :=
  let arg2 : BitVec 32 := BitVec.ofNat 32 (i 2).val
  let c0_i32_9 : BitVec 32 := 0#32
  let v16 : BitVec 1 := Scalar.cmpi .sgt arg2 c0_i32_9
  let v17 : BitVec 32 := Scalar.extui v16
  let c0_i32_10 : BitVec 32 := 0#32
  let v18 : BitVec 1 := Scalar.cmpi .ne v17 c0_i32_10
  v18

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c42_i32 : BitVec 32 := 42#32
  let v0 : BitVec 32 := Scalar.addi c42_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x8x4352x256 : Shape := ⟨4, ![8, 8, 4352, 256]⟩
abbrev S8x8x4352x128 : Shape := ⟨4, ![8, 8, 4352, 128]⟩
abbrev S8x4352x6400 : Shape := ⟨3, ![8, 4352, 6400]⟩
abbrev S8x4352x1024 : Shape := ⟨3, ![8, 4352, 1024]⟩
abbrev S8x256x1024 : Shape := ⟨3, ![8, 256, 1024]⟩
abbrev S_ : Shape := ⟨0, ![]⟩
abbrev S8x8x256x256 : Shape := ⟨4, ![8, 8, 256, 256]⟩
abbrev S8x8x256x128 : Shape := ⟨4, ![8, 8, 256, 128]⟩
abbrev S8x8x256 : Shape := ⟨3, ![8, 8, 256]⟩
abbrev S8x8x256x1 : Shape := ⟨4, ![8, 8, 256, 1]⟩
abbrev S8x256x8x128 : Shape := ⟨4, ![8, 256, 8, 128]⟩
abbrev S8x4096x1024 : Shape := ⟨3, ![8, 4096, 1024]⟩
abbrev S8x8x4096x256 : Shape := ⟨4, ![8, 8, 4096, 256]⟩
abbrev S8x8x4096x4352 : Shape := ⟨4, ![8, 8, 4096, 4352]⟩
abbrev S8x8x4096 : Shape := ⟨3, ![8, 8, 4096]⟩
abbrev S8x8x4096x1 : Shape := ⟨4, ![8, 8, 4096, 1]⟩
abbrev S8x8x4096x128 : Shape := ⟨4, ![8, 8, 4096, 128]⟩
abbrev S8x4096x8x128 : Shape := ⟨4, ![8, 4096, 8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8x8x4352x256, .bf16⟩
  | .hbm, ⟨1, _⟩ => ⟨S8x8x4352x256, .bf16⟩
  | .hbm, ⟨2, _⟩ => ⟨S8x8x4352x128, .bf16⟩
  | .hbm, ⟨3, _⟩ => ⟨S8x4352x6400, .bf16⟩
  | .hbm, ⟨4, _⟩ => ⟨S8x8x4352x256, .f32⟩
  | .hbm, ⟨5, _⟩ => ⟨S8x8x4352x256, .f32⟩
  | .hbm, ⟨6, _⟩ => ⟨S8x8x4352x128, .f32⟩
  | .hbm, ⟨7, _⟩ => ⟨S8x4352x1024, .bf16⟩
  | .hbm, ⟨8, _⟩ => ⟨S8x4352x1024, .f32⟩
  | .hbm, ⟨9, _⟩ => ⟨S8x256x1024, .f32⟩
  | .hbm, ⟨10, _⟩ => ⟨S8x256x1024, .f32⟩
  | .hbm, ⟨11, _⟩ => ⟨S8x256x1024, .f32⟩
  | .hbm, ⟨12, _⟩ => ⟨S_, .f32⟩
  | .hbm, ⟨13, _⟩ => ⟨S8x256x1024, .f32⟩
  | .hbm, ⟨14, _⟩ => ⟨S8x256x1024, .f32⟩
  | .hbm, ⟨15, _⟩ => ⟨S_, .f32⟩
  | .hbm, ⟨16, _⟩ => ⟨S8x256x1024, .f32⟩
  | .hbm, ⟨17, _⟩ => ⟨S8x256x1024, .f32⟩
  | .hbm, ⟨18, _⟩ => ⟨S8x256x1024, .f32⟩
  | .hbm, ⟨19, _⟩ => ⟨S8x8x256x256, .f32⟩
  | .hbm, ⟨20, _⟩ => ⟨S8x8x256x256, .f32⟩
  | .hbm, ⟨21, _⟩ => ⟨S8x8x256x128, .f32⟩
  | .hbm, ⟨22, _⟩ => ⟨S8x8x256x256, .f32⟩
  | .hbm, ⟨23, _⟩ => ⟨S_, .f32⟩
  | .hbm, ⟨24, _⟩ => ⟨S8x8x256, .f32⟩
  | .hbm, ⟨25, _⟩ => ⟨S_, .f32⟩
  | .hbm, ⟨26, _⟩ => ⟨S8x8x256, .f32⟩
  | .hbm, ⟨27, _⟩ => ⟨S8x8x256, .f32⟩
  | .hbm, ⟨28, _⟩ => ⟨S8x8x256x1, .f32⟩
  | .hbm, ⟨29, _⟩ => ⟨S8x8x256x256, .f32⟩
  | .hbm, ⟨30, _⟩ => ⟨S8x8x256x256, .f32⟩
  | .hbm, ⟨31, _⟩ => ⟨S8x8x256x256, .f32⟩
  | .hbm, ⟨32, _⟩ => ⟨S_, .f32⟩
  | .hbm, ⟨33, _⟩ => ⟨S8x8x256, .f32⟩
  | .hbm, ⟨34, _⟩ => ⟨S8x8x256x1, .f32⟩
  | .hbm, ⟨35, _⟩ => ⟨S8x8x256x256, .f32⟩
  | .hbm, ⟨36, _⟩ => ⟨S8x8x256x256, .f32⟩
  | .hbm, ⟨37, _⟩ => ⟨S8x8x256x128, .f32⟩
  | .hbm, ⟨38, _⟩ => ⟨S8x256x8x128, .f32⟩
  | .hbm, ⟨39, _⟩ => ⟨S8x256x1024, .f32⟩
  | .hbm, ⟨40, _⟩ => ⟨S8x256x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x8x4096x256, .f32⟩
  | .hbm, ⟨52, _⟩ => ⟨S8x8x4096x4352, .f32⟩
  | .hbm, ⟨53, _⟩ => ⟨S_, .f32⟩
  | .hbm, ⟨54, _⟩ => ⟨S8x8x4096, .f32⟩
  | .hbm, ⟨55, _⟩ => ⟨S_, .f32⟩
  | .hbm, ⟨56, _⟩ => ⟨S8x8x4096, .f32⟩
  | .hbm, ⟨57, _⟩ => ⟨S8x8x4096, .f32⟩
  | .hbm, ⟨58, _⟩ => ⟨S8x8x4096x1, .f32⟩
  | .hbm, ⟨59, _⟩ => ⟨S8x8x4096x4352, .f32⟩
  | .hbm, ⟨60, _⟩ => ⟨S8x8x4096x4352, .f32⟩
  | .hbm, ⟨61, _⟩ => ⟨S8x8x4096x4352, .f32⟩
  | .hbm, ⟨62, _⟩ => ⟨S_, .f32⟩
  | .hbm, ⟨63, _⟩ => ⟨S8x8x4096, .f32⟩
  | .hbm, ⟨64, _⟩ => ⟨S8x8x4096x1, .f32⟩
  | .hbm, ⟨65, _⟩ => ⟨S8x8x4096x4352, .f32⟩
  | .hbm, ⟨66, _⟩ => ⟨S8x8x4096x4352, .f32⟩
  | .hbm, ⟨67, _⟩ => ⟨S8x8x4096x128, .f32⟩
  | .hbm, ⟨68, _⟩ => ⟨S8x4096x8x128, .f32⟩
  | .hbm, ⟨69, _⟩ => ⟨S8x4096x1024, .f32⟩
  | .hbm, ⟨70, _⟩ => ⟨S8x4096x1024, .f32⟩
  | .hbm, ⟨71, _⟩ => ⟨S8x4352x1024, .f32⟩
  | .hbm, ⟨72, _⟩ => ⟨S8x4352x1024, .bf16⟩
  | _, _ => ⟨S8x8x4352x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]
-- ==== Kernel2.lean ====
abbrev S34816x2048 : Shape := ⟨2, ![34816, 2048]⟩
abbrev S16x6144 : Shape := ⟨2, ![16, 6144]⟩
abbrev S2048 : Shape := ⟨1, ![2048]⟩
abbrev S2048x6480 : Shape := ⟨2, ![2048, 6480]⟩
abbrev S16 : Shape := ⟨1, ![16]⟩
abbrev S16x2048 : Shape := ⟨2, ![16, 2048]⟩
abbrev S_ : Shape := ⟨0, ![]⟩
abbrev S16x1 : Shape := ⟨2, ![16, 1]⟩
abbrev S16x1x2048 : Shape := ⟨3, ![16, 1, 2048]⟩
abbrev S16x2x2048 : Shape := ⟨3, ![16, 2, 2048]⟩
abbrev S2048x512 : Shape := ⟨2, ![2048, 512]⟩
abbrev S2048x768 : Shape := ⟨2, ![2048, 768]⟩
abbrev S2048x1024 : Shape := ⟨2, ![2048, 1024]⟩
abbrev S2048x6400 : Shape := ⟨2, ![2048, 6400]⟩
abbrev S2048x64 : Shape := ⟨2, ![2048, 64]⟩
abbrev S2048x8 : Shape := ⟨2, ![2048, 8]⟩
abbrev S2048x80 : Shape := ⟨2, ![2048, 80]⟩
abbrev S2048x128 : Shape := ⟨2, ![2048, 128]⟩
abbrev S1x2048 : Shape := ⟨2, ![1, 2048]⟩
abbrev S34816x6400 : Shape := ⟨2, ![34816, 6400]⟩
abbrev S34816x128 : Shape := ⟨2, ![34816, 128]⟩
abbrev S1024x2048 : Shape := ⟨2, ![1024, 2048]⟩
abbrev S2048x1280 : Shape := ⟨2, ![2048, 1280]⟩
abbrev S1024x1280 : Shape := ⟨2, ![1024, 1280]⟩
abbrev S1024x128 : Shape := ⟨2, ![1024, 128]⟩
abbrev S1x2x2048 : Shape := ⟨3, ![1, 2, 2048]⟩
abbrev S2x2048 : Shape := ⟨2, ![2, 2048]⟩
abbrev S256x2048 : Shape := ⟨2, ![256, 2048]⟩
abbrev S256 : Shape := ⟨1, ![256]⟩
abbrev S256x1 : Shape := ⟨2, ![256, 1]⟩

abbrev nBuf : Space → Nat
  | .hbm => 48
  | .vmem => 12
  | .smem => 0
  | _ => 0

abbrev bufTy : (tb : Table) → Fin (tcTables nBuf tb) → BufTy
  | .hbm, ⟨0, _⟩ => ⟨S34816x2048, .f32⟩
  | .hbm, ⟨1, _⟩ => ⟨S16x6144, .f32⟩
  | .hbm, ⟨2, _⟩ => ⟨S2048, .f32⟩
  | .hbm, ⟨3, _⟩ => ⟨S2048x6480, .f32⟩
  | .hbm, ⟨4, _⟩ => ⟨S16, .i32⟩
  | .hbm, ⟨5, _⟩ => ⟨S16, .i1⟩
  | .hbm, ⟨6, _⟩ => ⟨S16, .i1⟩
  | .hbm, ⟨7, _⟩ => ⟨S16x2048, .f32⟩
  | .hbm, ⟨8, _⟩ => ⟨S16x2048, .f32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S16x1, .i32⟩
  | .hbm, ⟨14, _⟩ => ⟨S16x2048, .f32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S16x1, .i32⟩
  | .hbm, ⟨20, _⟩ => ⟨S16x2048, .f32⟩
  | .hbm, ⟨21, _⟩ => ⟨S16x1x2048, .f32⟩
  | .hbm, ⟨22, _⟩ => ⟨S16x1x2048, .f32⟩
  | .hbm, ⟨23, _⟩ => ⟨S16x2x2048, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x768, .f32⟩
  | .hbm, ⟨34, _⟩ => ⟨S2048x1024, .f32⟩
  | .hbm, ⟨35, _⟩ => ⟨S2048x6400, .f32⟩
  | .hbm, ⟨36, _⟩ => ⟨S2048x64, .f32⟩
  | .hbm, ⟨37, _⟩ => ⟨S2048x8, .f32⟩
  | .hbm, ⟨38, _⟩ => ⟨S2048x8, .f32⟩
  | .hbm, ⟨39, _⟩ => ⟨S2048x80, .f32⟩
  | .hbm, ⟨40, _⟩ => ⟨S_, .i32⟩
  | .hbm, ⟨41, _⟩ => ⟨S_, .f32⟩
  | .hbm, ⟨42, _⟩ => ⟨S2048x128, .f32⟩
  | .hbm, ⟨43, _⟩ => ⟨S2048x6400, .bf16⟩
  | .hbm, ⟨44, _⟩ => ⟨S2048x128, .bf16⟩
  | .hbm, ⟨45, _⟩ => ⟨S1x2048, .f32⟩
  | .hbm, ⟨46, _⟩ => ⟨S34816x6400, .bf16⟩
  | .hbm, ⟨47, _⟩ => ⟨S34816x128, .f32⟩
  | .local _ .vmem, ⟨0, _⟩ => ⟨S1024x2048, .f32⟩
  | .local _ .vmem, ⟨1, _⟩ => ⟨S1024x2048, .f32⟩
  | .local _ .vmem, ⟨2, _⟩ => ⟨S16x2x2048, .f32⟩
  | .local _ .vmem, ⟨3, _⟩ => ⟨S1x2048, .f32⟩
  | .local _ .vmem, ⟨4, _⟩ => ⟨S2048x1280, .bf16⟩
  | .local _ .vmem, ⟨5, _⟩ => ⟨S2048x1280, .bf16⟩
  | .local _ .vmem, ⟨6, _⟩ => ⟨S2048x128, .bf16⟩
  | .local _ .vmem, ⟨7, _⟩ => ⟨S1024x1280, .bf16⟩
  | .local _ .vmem, ⟨8, _⟩ => ⟨S1024x1280, .bf16⟩
  | .local _ .vmem, ⟨9, _⟩ => ⟨S1024x128, .f32⟩
  | .local _ .vmem, ⟨10, _⟩ => ⟨S1024x128, .f32⟩
  | .local _ .vmem, ⟨11, _⟩ => ⟨S1024x2048, .bf16⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_c_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_call0_v0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![34, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_6 : BitVec 32) : Fin 3 → Nat :=
  let arg0 : BitVec 32 := BitVec.ofNat 32 (i 0).val
  let c4_i32 : BitVec 32 := 4#32
  let v9 : BitVec 32 := Scalar.muli arg0 c4_i32
  let v10 : BitVec 32 := Scalar.addi v9 c0_i32_6
  let c0_i32_7 : BitVec 32 := 0#32
  let v12 : BitVec 1 := Scalar.cmpi .sgt v10 c0_i32_7
  let v13 : BitVec 32 := Scalar.extui v12
  let c0_i32_8 : BitVec 32 := 0#32
  let v14 : BitVec 1 := Scalar.cmpi .slt v10 c0_i32_8
  let v15 : BitVec 32 := Scalar.extui v14
  let v16 : BitVec 32 := Scalar.subi v13 v15
  let c17_i32 : BitVec 32 := 17#32
  let c0_i32_9 : BitVec 32 := 0#32
  let v17 : BitVec 1 := Scalar.cmpi .sgt c17_i32 c0_i32_9
  let v18 : BitVec 32 := Scalar.extui v17
  let c0_i32_10 : BitVec 32 := 0#32
  let v19 : BitVec 1 := Scalar.cmpi .slt c17_i32 c0_i32_10
  let v20 : BitVec 32 := Scalar.extui v19
  let v21 : BitVec 32 := Scalar.subi v18 v20
  let v22 : BitVec 1 := Scalar.cmpi .ne v16 v21
  let v23 : BitVec 32 := Scalar.remsi v10 c17_i32
  let c0_i32_11 : BitVec 32 := 0#32
  let v24 : BitVec 1 := Scalar.cmpi .ne v23 c0_i32_11
  let v25 : BitVec 1 := Scalar.andi v22 v24
  let v11 : BitVec 32 := Scalar.divsi v10 c17_i32
  let c1_i32 : BitVec 32 := 1#32
  let v26 : BitVec 32 := Scalar.subi v11 c1_i32
  let v27 : BitVec 32 := Scalar.select v25 v26 v11
  let c2_i32 : BitVec 32 := 2#32
  let v40 : BitVec 32 := Scalar.muli v27 c2_i32
  let c17_i32_12 : BitVec 32 := 17#32
  let c0_i32_13 : BitVec 32 := 0#32
  let v28 : BitVec 1 := Scalar.cmpi .eq c17_i32_12 c0_i32_13
  let c1_i32_14 : BitVec 32 := 1#32
  let v29 : BitVec 32 := Scalar.select v28 c1_i32_14 c17_i32_12
  let v30 : BitVec 32 := Scalar.remsi v10 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let c0_i32_18 : BitVec 32 := 0#32
  let v38 : BitVec 1 := Scalar.cmpi .ne v37 c0_i32_18
  let v39 : BitVec 32 := Scalar.extui v38
  let v41 : BitVec 32 := Scalar.addi v40 v39
  let v42 : Index := Scalar.indexCast v41
  let c0_19 : Index := 0#32
  let c0_20 : Index := 0#32
  ![v42.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S34816x2048 : Shape := ⟨2, ![34816, 2048]⟩
abbrev S16x6144 : Shape := ⟨2, ![16, 6144]⟩
abbrev S2048 : Shape := ⟨1, ![2048]⟩
abbrev S2048x6480 : Shape := ⟨2, ![2048, 6480]⟩
abbrev S8x4352x2048 : Shape := ⟨3, ![8, 4352, 2048]⟩
abbrev S16x2048 : Shape := ⟨2, ![16, 2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x2048 : Shape := ⟨2, ![8, 2048]⟩
abbrev S8x1x2048 : Shape := ⟨3, ![8, 1, 2048]⟩
abbrev S8x256x2048 : Shape := ⟨3, ![8, 256, 2048]⟩
abbrev S8x256 : Shape := ⟨2, ![8, 256]⟩
abbrev S8x256x1 : Shape := ⟨3, ![8, 256, 1]⟩
abbrev S1x2048 : Shape := ⟨2, ![1, 2048]⟩
abbrev S8x256x6480 : Shape := ⟨3, ![8, 256, 6480]⟩
abbrev S8x4096x6480 : Shape := ⟨3, ![8, 4096, 6480]⟩
abbrev S8x4352x6480 : Shape := ⟨3, ![8, 4352, 6480]⟩
abbrev S34816x6480 : Shape := ⟨2, ![34816, 6480]⟩
abbrev S34816x4096 : Shape := ⟨2, ![34816, 4096]⟩
abbrev S34816x16 : Shape := ⟨2, ![34816, 16]⟩
abbrev S34816x768 : Shape := ⟨2, ![34816, 768]⟩
abbrev S34816x512 : Shape := ⟨2, ![34816, 512]⟩
abbrev S34816x64 : Shape := ⟨2, ![34816, 64]⟩
abbrev S34816x1024 : Shape := ⟨2, ![34816, 1024]⟩
abbrev S34816x6400 : Shape := ⟨2, ![34816, 6400]⟩
abbrev S34816x48 : Shape := ⟨2, ![34816, 48]⟩
abbrev S34816x128 : Shape := ⟨2, ![34816, 128]⟩

abbrev nBuf : Space → Nat
  | .hbm => 81
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S16x6144, .f32⟩
  | .hbm, ⟨2, _⟩ => ⟨S2048, .f32⟩
  | .hbm, ⟨3, _⟩ => ⟨S2048x6480, .f32⟩
  | .hbm, ⟨4, _⟩ => ⟨S8x4352x2048, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S8x4096x2048, .f32⟩
  | .hbm, ⟨9, _⟩ => ⟨S8x4096x2048, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x2048, .f32⟩
  | .hbm, ⟨21, _⟩ => ⟨S8x4096x2048, .f32⟩
  | .hbm, ⟨22, _⟩ => ⟨S1x1x2048, .f32⟩
  | .hbm, ⟨23, _⟩ => ⟨S8x4096x2048, .f32⟩
  | .hbm, ⟨24, _⟩ => ⟨S8x4096x2048, .f32⟩
  | .hbm, ⟨25, _⟩ => ⟨S8x2048, .f32⟩
  | .hbm, ⟨26, _⟩ => ⟨S8x1x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x4096x2048, .f32⟩
  | .hbm, ⟨31, _⟩ => ⟨S8x4096x2048, .f32⟩
  | .hbm, ⟨32, _⟩ => ⟨S8x2048, .f32⟩
  | .hbm, ⟨33, _⟩ => ⟨S8x1x2048, .f32⟩
  | .hbm, ⟨34, _⟩ => ⟨S8x4096x2048, .f32⟩
  | .hbm, ⟨35, _⟩ => ⟨S8x4096x2048, .f32⟩
  | .hbm, ⟨36, _⟩ => ⟨S8x256x2048, .f32⟩
  | .hbm, ⟨37, _⟩ => ⟨S8x256x2048, .f32⟩
  | .hbm, ⟨38, _⟩ => ⟨S_, .f32⟩
  | .hbm, ⟨39, _⟩ => ⟨S8x256, .f32⟩
  | .hbm, ⟨40, _⟩ => ⟨S8x256x1, .f32⟩
  | .hbm, ⟨41, _⟩ => ⟨S_, .f32⟩
  | .hbm, ⟨42, _⟩ => ⟨S8x256x1, .f32⟩
  | .hbm, ⟨43, _⟩ => ⟨S8x256x1, .f32⟩
  | .hbm, ⟨44, _⟩ => ⟨S_, .f32⟩
  | .hbm, ⟨45, _⟩ => ⟨S8x256x1, .f32⟩
  | .hbm, ⟨46, _⟩ => ⟨S8x256x1, .f32⟩
  | .hbm, ⟨47, _⟩ => ⟨S8x256x1, .f32⟩
  | .hbm, ⟨48, _⟩ => ⟨S8x256x2048, .f32⟩
  | .hbm, ⟨49, _⟩ => ⟨S8x256x2048, .f32⟩
  | .hbm, ⟨50, _⟩ => ⟨S1x1x2048, .f32⟩
  | .hbm, ⟨51, _⟩ => ⟨S8x256x2048, .f32⟩
  | .hbm, ⟨52, _⟩ => ⟨S8x256x2048, .f32⟩
  | .hbm, ⟨53, _⟩ => ⟨S1x2048, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S1x1x2048, .f32⟩
  | .hbm, ⟨59, _⟩ => ⟨S8x256x2048, .f32⟩
  | .hbm, ⟨60, _⟩ => ⟨S8x256x2048, .f32⟩
  | .hbm, ⟨61, _⟩ => ⟨S1x2048, .f32⟩
  | .hbm, ⟨62, _⟩ => ⟨S2048, .f32⟩
  | .hbm, ⟨63, _⟩ => ⟨S1x1x2048, .f32⟩
  | .hbm, ⟨64, _⟩ => ⟨S8x256x2048, .f32⟩
  | .hbm, ⟨65, _⟩ => ⟨S8x256x2048, .f32⟩
  | .hbm, ⟨66, _⟩ => ⟨S8x256x6480, .f32⟩
  | .hbm, ⟨67, _⟩ => ⟨S8x4096x6480, .f32⟩
  | .hbm, ⟨68, _⟩ => ⟨S8x4352x6480, .f32⟩
  | .hbm, ⟨69, _⟩ => ⟨S34816x6480, .f32⟩
  | .hbm, ⟨70, _⟩ => ⟨S34816x4096, .f32⟩
  | .hbm, ⟨71, _⟩ => ⟨S34816x16, .f32⟩
  | .hbm, ⟨72, _⟩ => ⟨S34816x768, .f32⟩
  | .hbm, ⟨73, _⟩ => ⟨S34816x512, .f32⟩
  | .hbm, ⟨74, _⟩ => ⟨S34816x64, .f32⟩
  | .hbm, ⟨75, _⟩ => ⟨S34816x1024, .f32⟩
  | .hbm, ⟨76, _⟩ => ⟨S34816x6400, .f32⟩
  | .hbm, ⟨77, _⟩ => ⟨S_, .f32⟩
  | .hbm, ⟨78, _⟩ => ⟨S34816x48, .f32⟩
  | .hbm, ⟨79, _⟩ => ⟨S34816x128, .f32⟩
  | .hbm, ⟨80, _⟩ => ⟨S34816x6400, .bf16⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== Kernel3.lean ====
abbrev S34816x2048 : Shape := ⟨2, ![34816, 2048]⟩
abbrev S8x4352x512 : Shape := ⟨3, ![8, 4352, 512]⟩
abbrev S8x4352x1024 : Shape := ⟨3, ![8, 4352, 1024]⟩
abbrev S16x6144 : Shape := ⟨2, ![16, 6144]⟩
abbrev S2048x2048 : Shape := ⟨2, ![2048, 2048]⟩
abbrev S2048 : Shape := ⟨1, ![2048]⟩
abbrev S16 : Shape := ⟨1, ![16]⟩
abbrev S16x2048 : Shape := ⟨2, ![16, 2048]⟩
abbrev S_ : Shape := ⟨0, ![]⟩
abbrev S16x1 : Shape := ⟨2, ![16, 1]⟩
abbrev S16x1x2048 : Shape := ⟨3, ![16, 1, 2048]⟩
abbrev S34816x512 : Shape := ⟨2, ![34816, 512]⟩
abbrev S34816x1024 : Shape := ⟨2, ![34816, 1024]⟩
abbrev S1x2048 : Shape := ⟨2, ![1, 2048]⟩
abbrev S512x2048 : Shape := ⟨2, ![512, 2048]⟩
abbrev S512x512 : Shape := ⟨2, ![512, 512]⟩
abbrev S512x1024 : Shape := ⟨2, ![512, 1024]⟩
abbrev S1024x2048 : Shape := ⟨2, ![1024, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩
abbrev S8x4352x2048 : Shape := ⟨3, ![8, 4352, 2048]⟩
abbrev S8x4096x2048 : Shape := ⟨3, ![8, 4096, 2048]⟩

abbrev nBuf : Space → Nat
  | .hbm => 25
  | .vmem => 13
  | .smem => 0
  | _ => 0

abbrev bufTy : (tb : Table) → Fin (tcTables nBuf tb) → BufTy
  | .hbm, ⟨0, _⟩ => ⟨S34816x2048, .f32⟩
  | .hbm, ⟨1, _⟩ => ⟨S8x4352x512, .bf16⟩
  | .hbm, ⟨2, _⟩ => ⟨S8x4352x512, .bf16⟩
  | .hbm, ⟨3, _⟩ => ⟨S8x4352x1024, .bf16⟩
  | .hbm, ⟨4, _⟩ => ⟨S16x6144, .f32⟩
  | .hbm, ⟨5, _⟩ => ⟨S2048x2048, .f32⟩
  | .hbm, ⟨6, _⟩ => ⟨S2048, .f32⟩
  | .hbm, ⟨7, _⟩ => ⟨S16, .i32⟩
  | .hbm, ⟨8, _⟩ => ⟨S16, .i1⟩
  | .hbm, ⟨9, _⟩ => ⟨S16x2048, .f32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S16x1, .i32⟩
  | .hbm, ⟨15, _⟩ => ⟨S16x2048, .f32⟩
  | .hbm, ⟨16, _⟩ => ⟨S16x1x2048, .f32⟩
  | .hbm, ⟨17, _⟩ => ⟨S34816x512, .bf16⟩
  | .hbm, ⟨18, _⟩ => ⟨S34816x512, .bf16⟩
  | .hbm, ⟨19, _⟩ => ⟨S34816x1024, .bf16⟩
  | .hbm, ⟨20, _⟩ => ⟨S2048x2048, .bf16⟩
  | .hbm, ⟨21, _⟩ => ⟨S1x2048, .f32⟩
  | .hbm, ⟨22, _⟩ => ⟨S34816x2048, .f32⟩
  | .hbm, ⟨23, _⟩ => ⟨S8x4352x2048, .f32⟩
  | .hbm, ⟨24, _⟩ => ⟨S8x4096x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S16x1x2048, .f32⟩
  | .local _ .vmem, ⟨9, _⟩ => ⟨S2048x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![68], ![false]⟩

def k0_off1 (i : grid0.Coords) (c0_i32 : BitVec 32) : Fin 3 → Nat :=
  let arg0 : BitVec 32 := BitVec.ofNat 32 (i 0).val
  let c2_i32 : BitVec 32 := 2#32
  let v17 : BitVec 32 := Scalar.muli arg0 c2_i32
  let v18 : BitVec 32 := Scalar.addi v17 c0_i32
  let c0_i32_11 : BitVec 32 := 0#32
  let v20 : BitVec 1 := Scalar.cmpi .sgt v18 c0_i32_11
  let v21 : BitVec 32 := Scalar.extui v20
  let c0_i32_12 : BitVec 32 := 0#32
  let v22 : BitVec 1 := Scalar.cmpi .slt v18 c0_i32_12
  let v23 : BitVec 32 := Scalar.extui v22
  let v24 : BitVec 32 := Scalar.subi v21 v23
  let c17_i32 : BitVec 32 := 17#32
  let c0_i32_13 : BitVec 32 := 0#32
  let v25 : BitVec 1 := Scalar.cmpi .sgt c17_i32 c0_i32_13
  let v26 : BitVec 32 := Scalar.extui v25
  let c0_i32_14 : BitVec 32 := 0#32
  let v27 : BitVec 1 := Scalar.cmpi .slt c17_i32 c0_i32_14
  let v28 : BitVec 32 := Scalar.extui v27
  let v29 : BitVec 32 := Scalar.subi v26 v28
  let v30 : BitVec 1 := Scalar.cmpi .ne v24 v29
  let v31 : BitVec 32 := Scalar.remsi v18 c17_i32
  let c0_i32_15 : BitVec 32 := 0#32
  let v32 : BitVec 1 := Scalar.cmpi .ne v31 c0_i32_15
  let v33 : BitVec 1 := Scalar.andi v30 v32
  let v19 : BitVec 32 := Scalar.divsi v18 c17_i32
  let c1_i32 : BitVec 32 := 1#32
  let v34 : BitVec 32 := Scalar.subi v19 c1_i32
  let v35 : BitVec 32 := Scalar.select v33 v34 v19
  let c2_i32_23 : BitVec 32 := 2#32
  let v48 : BitVec 32 := Scalar.muli v35 c2_i32_23
  let c17_i32_16 : BitVec 32 := 17#32
  let c0_i32_17 : BitVec 32 := 0#32
  let v36 : BitVec 1 := Scalar.cmpi .eq c17_i32_16 c0_i32_17
  let c1_i32_18 : BitVec 32 := 1#32
  let v37 : BitVec 32 := Scalar.select v36 c1_i32_18 c17_i32_16
  let v38 : BitVec 32 := Scalar.remsi v18 v37
  let c0_i32_20 : BitVec 32 := 0#32
  let v40 : BitVec 1 := Scalar.cmpi .slt v38 c0_i32_20
  let c0_i32_21 : BitVec 32 := 0#32
  let v41 : BitVec 1 := Scalar.cmpi .slt v37 c0_i32_21
  let v42 : BitVec 1 := Scalar.xori v40 v41
  let c0_i32_19 : BitVec 32 := 0#32
  let v39 : BitVec 1 := Scalar.cmpi .ne v38 c0_i32_19
  let v43 : BitVec 1 := Scalar.andi v42 v39
  let v44 : BitVec 32 := Scalar.addi v38 v37
  let v45 : BitVec 32 := Scalar.select v43 v44 v38
  let c0_i32_22 : BitVec 32 := 0#32
  let v46 : BitVec 1 := Scalar.cmpi .ne v45 c0_i32_22
  let v47 : BitVec 32 := Scalar.extui v46
  let v49 : BitVec 32 := Scalar.addi v48 v47
  let v50 : Index := Scalar.indexCast v49
  let c0_24 : Index := 0#32
  let c0_25 : Index := 0#32
  ![v50.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S34816x2048 : Shape := ⟨2, ![34816, 2048]⟩
abbrev S8x4352x512 : Shape := ⟨3, ![8, 4352, 512]⟩
abbrev S8x4352x1024 : Shape := ⟨3, ![8, 4352, 1024]⟩
abbrev S16x6144 : Shape := ⟨2, ![16, 6144]⟩
abbrev S2048x2048 : Shape := ⟨2, ![2048, 2048]⟩
abbrev S2048 : Shape := ⟨1, ![2048]⟩
abbrev S8x4096x512 : Shape := ⟨3, ![8, 4096, 512]⟩
abbrev S8x4096x1024 : Shape := ⟨3, ![8, 4096, 1024]⟩
abbrev S8x4352x2048 : Shape := ⟨3, ![8, 4352, 2048]⟩
abbrev S8x4096x2048 : Shape := ⟨3, ![8, 4096, 2048]⟩
abbrev S8x6144 : Shape := ⟨2, ![8, 6144]⟩
abbrev S8x2048 : Shape := ⟨2, ![8, 2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S8x4352x512, .bf16⟩
  | .hbm, ⟨2, _⟩ => ⟨S8x4352x512, .bf16⟩
  | .hbm, ⟨3, _⟩ => ⟨S8x4352x1024, .bf16⟩
  | .hbm, ⟨4, _⟩ => ⟨S16x6144, .f32⟩
  | .hbm, ⟨5, _⟩ => ⟨S2048x2048, .f32⟩
  | .hbm, ⟨6, _⟩ => ⟨S2048, .f32⟩
  | .hbm, ⟨7, _⟩ => ⟨S8x4096x512, .bf16⟩
  | .hbm, ⟨8, _⟩ => ⟨S8x4096x512, .f32⟩
  | .hbm, ⟨9, _⟩ => ⟨S8x4096x512, .bf16⟩
  | .hbm, ⟨10, _⟩ => ⟨S8x4096x512, .f32⟩
  | .hbm, ⟨11, _⟩ => ⟨S8x4096x1024, .bf16⟩
  | .hbm, ⟨12, _⟩ => ⟨S8x4096x1024, .f32⟩
  | .hbm, ⟨13, _⟩ => ⟨S8x4352x2048, .f32⟩
  | .hbm, ⟨14, _⟩ => ⟨S8x4096x2048, .f32⟩
  | .hbm, ⟨15, _⟩ => ⟨S8x6144, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S8x1x2048, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x2048, .f32⟩
  | .hbm, ⟨37, _⟩ => ⟨S8x4096x2048, .f32⟩
  | .hbm, ⟨38, _⟩ => ⟨S1x1x2048, .f32⟩
  | .hbm, ⟨39, _⟩ => ⟨S8x4096x2048, .f32⟩
  | .hbm, ⟨40, _⟩ => ⟨S8x4096x2048, .f32⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel4.lean ====
abbrev S34816x2048 : Shape := ⟨2, ![34816, 2048]⟩
abbrev S8x4352x512 : Shape := ⟨3, ![8, 4352, 512]⟩
abbrev S8x4352x1024 : Shape := ⟨3, ![8, 4352, 1024]⟩
abbrev S16x6144 : Shape := ⟨2, ![16, 6144]⟩
abbrev S2048x2048 : Shape := ⟨2, ![2048, 2048]⟩
abbrev S2048 : Shape := ⟨1, ![2048]⟩
abbrev S16 : Shape := ⟨1, ![16]⟩
abbrev S16x2048 : Shape := ⟨2, ![16, 2048]⟩
abbrev S_ : Shape := ⟨0, ![]⟩
abbrev S16x1 : Shape := ⟨2, ![16, 1]⟩
abbrev S16x1x2048 : Shape := ⟨3, ![16, 1, 2048]⟩
abbrev S34816x512 : Shape := ⟨2, ![34816, 512]⟩
abbrev S34816x1024 : Shape := ⟨2, ![34816, 1024]⟩
abbrev S1x2048 : Shape := ⟨2, ![1, 2048]⟩
abbrev S512x2048 : Shape := ⟨2, ![512, 2048]⟩
abbrev S512x512 : Shape := ⟨2, ![512, 512]⟩
abbrev S512x1024 : Shape := ⟨2, ![512, 1024]⟩
abbrev S1024x2048 : Shape := ⟨2, ![1024, 2048]⟩
abbrev S1x1x2048 : Shape := ⟨3, ![1, 1, 2048]⟩
abbrev S256x2048 : Shape := ⟨2, ![256, 2048]⟩

abbrev nBuf : Space → Nat
  | .hbm => 23
  | .vmem => 13
  | .smem => 0
  | _ => 0

abbrev bufTy : (tb : Table) → Fin (tcTables nBuf tb) → BufTy
  | .hbm, ⟨0, _⟩ => ⟨S34816x2048, .f32⟩
  | .hbm, ⟨1, _⟩ => ⟨S8x4352x512, .bf16⟩
  | .hbm, ⟨2, _⟩ => ⟨S8x4352x512, .bf16⟩
  | .hbm, ⟨3, _⟩ => ⟨S8x4352x1024, .bf16⟩
  | .hbm, ⟨4, _⟩ => ⟨S16x6144, .f32⟩
  | .hbm, ⟨5, _⟩ => ⟨S2048x2048, .f32⟩
  | .hbm, ⟨6, _⟩ => ⟨S2048, .f32⟩
  | .hbm, ⟨7, _⟩ => ⟨S16, .i32⟩
  | .hbm, ⟨8, _⟩ => ⟨S16, .i1⟩
  | .hbm, ⟨9, _⟩ => ⟨S16x2048, .f32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S16x1, .i32⟩
  | .hbm, ⟨15, _⟩ => ⟨S16x2048, .f32⟩
  | .hbm, ⟨16, _⟩ => ⟨S16x1x2048, .f32⟩
  | .hbm, ⟨17, _⟩ => ⟨S34816x512, .bf16⟩
  | .hbm, ⟨18, _⟩ => ⟨S34816x512, .bf16⟩
  | .hbm, ⟨19, _⟩ => ⟨S34816x1024, .bf16⟩
  | .hbm, ⟨20, _⟩ => ⟨S2048x2048, .bf16⟩
  | .hbm, ⟨21, _⟩ => ⟨S1x2048, .f32⟩
  | .hbm, ⟨22, _⟩ => ⟨S34816x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S16x1x2048, .f32⟩
  | .local _ .vmem, ⟨9, _⟩ => ⟨S2048x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![68], ![false]⟩

def k0_off1 (i : grid0.Coords) (c0_i32 : BitVec 32) : Fin 3 → Nat :=
  let arg0 : BitVec 32 := BitVec.ofNat 32 (i 0).val
  let c2_i32 : BitVec 32 := 2#32
  let v17 : BitVec 32 := Scalar.muli arg0 c2_i32
  let v18 : BitVec 32 := Scalar.addi v17 c0_i32
  let c0_i32_11 : BitVec 32 := 0#32
  let v20 : BitVec 1 := Scalar.cmpi .sgt v18 c0_i32_11
  let v21 : BitVec 32 := Scalar.extui v20
  let c0_i32_12 : BitVec 32 := 0#32
  let v22 : BitVec 1 := Scalar.cmpi .slt v18 c0_i32_12
  let v23 : BitVec 32 := Scalar.extui v22
  let v24 : BitVec 32 := Scalar.subi v21 v23
  let c17_i32 : BitVec 32 := 17#32
  let c0_i32_13 : BitVec 32 := 0#32
  let v25 : BitVec 1 := Scalar.cmpi .sgt c17_i32 c0_i32_13
  let v26 : BitVec 32 := Scalar.extui v25
  let c0_i32_14 : BitVec 32 := 0#32
  let v27 : BitVec 1 := Scalar.cmpi .slt c17_i32 c0_i32_14
  let v28 : BitVec 32 := Scalar.extui v27
  let v29 : BitVec 32 := Scalar.subi v26 v28
  let v30 : BitVec 1 := Scalar.cmpi .ne v24 v29
  let v31 : BitVec 32 := Scalar.remsi v18 c17_i32
  let c0_i32_15 : BitVec 32 := 0#32
  let v32 : BitVec 1 := Scalar.cmpi .ne v31 c0_i32_15
  let v33 : BitVec 1 := Scalar.andi v30 v32
  let v19 : BitVec 32 := Scalar.divsi v18 c17_i32
  let c1_i32 : BitVec 32 := 1#32
  let v34 : BitVec 32 := Scalar.subi v19 c1_i32
  let v35 : BitVec 32 := Scalar.select v33 v34 v19
  let c2_i32_23 : BitVec 32 := 2#32
  let v48 : BitVec 32 := Scalar.muli v35 c2_i32_23
  let c17_i32_16 : BitVec 32 := 17#32
  let c0_i32_17 : BitVec 32 := 0#32
  let v36 : BitVec 1 := Scalar.cmpi .eq c17_i32_16 c0_i32_17
  let c1_i32_18 : BitVec 32 := 1#32
  let v37 : BitVec 32 := Scalar.select v36 c1_i32_18 c17_i32_16
  let v38 : BitVec 32 := Scalar.remsi v18 v37
  let c0_i32_20 : BitVec 32 := 0#32
  let v40 : BitVec 1 := Scalar.cmpi .slt v38 c0_i32_20
  let c0_i32_21 : BitVec 32 := 0#32
  let v41 : BitVec 1 := Scalar.cmpi .slt v37 c0_i32_21
  let v42 : BitVec 1 := Scalar.xori v40 v41
  let c0_i32_19 : BitVec 32 := 0#32
  let v39 : BitVec 1 := Scalar.cmpi .ne v38 c0_i32_19
  let v43 : BitVec 1 := Scalar.andi v42 v39
  let v44 : BitVec 32 := Scalar.addi v38 v37
  let v45 : BitVec 32 := Scalar.select v43 v44 v38
  let c0_i32_22 : BitVec 32 := 0#32
  let v46 : BitVec 1 := Scalar.cmpi .ne v45 c0_i32_22
  let v47 : BitVec 32 := Scalar.extui v46
  let v49 : BitVec 32 := Scalar.addi v48 v47
  let v50 : Index := Scalar.indexCast v49
  let c0_24 : Index := 0#32
  let c0_25 : Index := 0#32
  ![v50.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S34816x2048 : Shape := ⟨2, ![34816, 2048]⟩
abbrev S8x4352x512 : Shape := ⟨3, ![8, 4352, 512]⟩
abbrev S8x4352x1024 : Shape := ⟨3, ![8, 4352, 1024]⟩
abbrev S16x6144 : Shape := ⟨2, ![16, 6144]⟩
abbrev S2048x2048 : Shape := ⟨2, ![2048, 2048]⟩
abbrev S2048 : Shape := ⟨1, ![2048]⟩
abbrev S8x256x512 : Shape := ⟨3, ![8, 256, 512]⟩
abbrev S8x256x1024 : Shape := ⟨3, ![8, 256, 1024]⟩
abbrev S8x4096x512 : Shape := ⟨3, ![8, 4096, 512]⟩
abbrev S8x4096x1024 : Shape := ⟨3, ![8, 4096, 1024]⟩
abbrev S8x4352x2048 : Shape := ⟨3, ![8, 4352, 2048]⟩
abbrev S8x4096x2048 : Shape := ⟨3, ![8, 4096, 2048]⟩
abbrev S8x256x2048 : Shape := ⟨3, ![8, 256, 2048]⟩
abbrev S16x2048 : Shape := ⟨2, ![16, 2048]⟩
abbrev S8x2048 : Shape := ⟨2, ![8, 2048]⟩
abbrev S1x2048 : Shape := ⟨2, ![1, 2048]⟩
abbrev S8x1x2048 : Shape := ⟨3, ![8, 1, 2048]⟩
abbrev S1x1x2048 : Shape := ⟨3, ![1, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S8x4352x512, .bf16⟩
  | .hbm, ⟨2, _⟩ => ⟨S8x4352x512, .bf16⟩
  | .hbm, ⟨3, _⟩ => ⟨S8x4352x1024, .bf16⟩
  | .hbm, ⟨4, _⟩ => ⟨S16x6144, .f32⟩
  | .hbm, ⟨5, _⟩ => ⟨S2048x2048, .f32⟩
  | .hbm, ⟨6, _⟩ => ⟨S2048, .f32⟩
  | .hbm, ⟨7, _⟩ => ⟨S8x4352x512, .f32⟩
  | .hbm, ⟨8, _⟩ => ⟨S8x4352x512, .f32⟩
  | .hbm, ⟨9, _⟩ => ⟨S8x4352x1024, .f32⟩
  | .hbm, ⟨10, _⟩ => ⟨S8x256x512, .f32⟩
  | .hbm, ⟨11, _⟩ => ⟨S8x256x512, .f32⟩
  | .hbm, ⟨12, _⟩ => ⟨S8x256x1024, .f32⟩
  | .hbm, ⟨13, _⟩ => ⟨S8x4096x512, .f32⟩
  | .hbm, ⟨14, _⟩ => ⟨S8x4096x512, .f32⟩
  | .hbm, ⟨15, _⟩ => ⟨S8x4096x1024, .f32⟩
  | .hbm, ⟨16, _⟩ => ⟨S8x4352x2048, .f32⟩
  | .hbm, ⟨17, _⟩ => ⟨S8x4096x2048, .f32⟩
  | .hbm, ⟨18, _⟩ => ⟨S8x256x2048, .f32⟩
  | .hbm, ⟨19, _⟩ => ⟨S16x2048, .f32⟩
  | .hbm, ⟨20, _⟩ => ⟨S16x2048, .f32⟩
  | .hbm, ⟨21, _⟩ => ⟨S16x2048, .f32⟩
  | .hbm, ⟨22, _⟩ => ⟨S8x2048, .f32⟩
  | .hbm, ⟨23, _⟩ => ⟨S1x2048, .f32⟩
  | .hbm, ⟨24, _⟩ => ⟨S2048, .f32⟩
  | .hbm, ⟨25, _⟩ => ⟨S8x1x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S8x4096x2048, .f32⟩
  | .hbm, ⟨31, _⟩ => ⟨S8x256x2048, .f32⟩
  | .hbm, ⟨32, _⟩ => ⟨S8x256x2048, .f32⟩
  | .hbm, ⟨33, _⟩ => ⟨S1x1x2048, .f32⟩
  | .hbm, ⟨34, _⟩ => ⟨S8x256x2048, .f32⟩
  | .hbm, ⟨35, _⟩ => ⟨S8x256x2048, .f32⟩
  | .hbm, ⟨36, _⟩ => ⟨S8x256x2048, .f32⟩
  | .hbm, ⟨37, _⟩ => ⟨S8x4352x2048, .f32⟩
  | .hbm, ⟨38, _⟩ => ⟨S34816x2048, .f32⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel5.lean ====
abbrev S34816x6400 : Shape := ⟨2, ![34816, 6400]⟩
abbrev S34816x128 : Shape := ⟨2, ![34816, 128]⟩
abbrev S768 : Shape := ⟨1, ![768]⟩
abbrev S768x1536 : Shape := ⟨2, ![768, 1536]⟩
abbrev S512 : Shape := ⟨1, ![512]⟩
abbrev S512x2048 : Shape := ⟨2, ![512, 2048]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4352x128 : Shape := ⟨2, ![4352, 128]⟩
abbrev S768x8x192 : Shape := ⟨3, ![768, 8, 192]⟩
abbrev S768x8x256 : Shape := ⟨3, ![768, 8, 256]⟩
abbrev S768x2048 : Shape := ⟨2, ![768, 2048]⟩
abbrev S512x8x2x128 : Shape := ⟨4, ![512, 8, 2, 128]⟩
abbrev S512x2x8x128 : Shape := ⟨4, ![512, 2, 8, 128]⟩
abbrev S1x768 : Shape := ⟨2, ![1, 768]⟩
abbrev S1x512 : Shape := ⟨2, ![1, 512]⟩
abbrev S8x8x4352x256 : Shape := ⟨4, ![8, 8, 4352, 256]⟩
abbrev S8x8x4352x128 : Shape := ⟨4, ![8, 8, 4352, 128]⟩
abbrev S256x768 : Shape := ⟨2, ![256, 768]⟩
abbrev S256x512 : Shape := ⟨2, ![256, 512]⟩
abbrev S256x128 : Shape := ⟨2, ![256, 128]⟩
abbrev S1x8x256x256 : Shape := ⟨4, ![1, 8, 256, 256]⟩
abbrev S1x8x256x128 : Shape := ⟨4, ![1, 8, 256, 128]⟩
abbrev S256 : Shape := ⟨1, ![256]⟩
abbrev S256x1 : Shape := ⟨2, ![256, 1]⟩
abbrev S256x2048 : Shape := ⟨2, ![256, 2048]⟩
abbrev S1x1x256x128 : Shape := ⟨4, ![1, 1, 256, 128]⟩

abbrev nBuf : Space → Nat
  | .hbm => 66
  | .vmem => 20
  | .smem => 0
  | _ => 0

abbrev bufTy : (tb : Table) → Fin (tcTables nBuf tb) → BufTy
  | .hbm, ⟨0, _⟩ => ⟨S34816x6400, .bf16⟩
  | .hbm, ⟨1, _⟩ => ⟨S34816x128, .f32⟩
  | .hbm, ⟨2, _⟩ => ⟨S768, .f32⟩
  | .hbm, ⟨3, _⟩ => ⟨S768x1536, .f32⟩
  | .hbm, ⟨4, _⟩ => ⟨S512, .f32⟩
  | .hbm, ⟨5, _⟩ => ⟨S512x2048, .f32⟩
  | .hbm, ⟨6, _⟩ => ⟨S64, .i32⟩
  | .hbm, ⟨7, _⟩ => ⟨S64x64, .i32⟩
  | .hbm, ⟨8, _⟩ => ⟨S4096, .i32⟩
  | .hbm, ⟨9, _⟩ => ⟨S4096, .f32⟩
  | .hbm, ⟨10, _⟩ => ⟨S64, .i32⟩
  | .hbm, ⟨11, _⟩ => ⟨S1x64, .i32⟩
  | .hbm, ⟨12, _⟩ => ⟨S64x64, .i32⟩
  | .hbm, ⟨13, _⟩ => ⟨S4096, .i32⟩
  | .hbm, ⟨14, _⟩ => ⟨S4096, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S4096x1, .f32⟩
  | .hbm, ⟨24, _⟩ => ⟨S1x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x1, .f32⟩
  | .hbm, ⟨29, _⟩ => ⟨S1x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x64, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S4096x64, .f32⟩
  | .hbm, ⟨45, _⟩ => ⟨S_, .f32⟩
  | .hbm, ⟨46, _⟩ => ⟨S_, .f32⟩
  | .hbm, ⟨47, _⟩ => ⟨S4352x128, .f32⟩
  | .hbm, ⟨48, _⟩ => ⟨S_, .i32⟩
  | .hbm, ⟨49, _⟩ => ⟨S_, .f32⟩
  | .hbm, ⟨50, _⟩ => ⟨S4352x128, .f32⟩
  | .hbm, ⟨51, _⟩ => ⟨S768x8x192, .f32⟩
  | .hbm, ⟨52, _⟩ => ⟨S_, .i32⟩
  | .hbm, ⟨53, _⟩ => ⟨S_, .f32⟩
  | .hbm, ⟨54, _⟩ => ⟨S768x8x256, .f32⟩
  | .hbm, ⟨55, _⟩ => ⟨S768x2048, .f32⟩
  | .hbm, ⟨56, _⟩ => ⟨S768x2048, .bf16⟩
  | .hbm, ⟨57, _⟩ => ⟨S512x8x2x128, .f32⟩
  | .hbm, ⟨58, _⟩ => ⟨S512x2x8x128, .f32⟩
  | .hbm, ⟨59, _⟩ => ⟨S512x2048, .f32⟩
  | .hbm, ⟨60, _⟩ => ⟨S512x2048, .bf16⟩
  | .hbm, ⟨61, _⟩ => ⟨S1x768, .f32⟩
  | .hbm, ⟨62, _⟩ => ⟨S1x512, .f32⟩
  | .hbm, ⟨63, _⟩ => ⟨S8x8x4352x256, .bf16⟩
  | .hbm, ⟨64, _⟩ => ⟨S8x8x4352x256, .bf16⟩
  | .hbm, ⟨65, _⟩ => ⟨S8x8x4352x128, .bf16⟩
  | .local _ .vmem, ⟨0, _⟩ => ⟨S256x768, .bf16⟩
  | .local _ .vmem, ⟨1, _⟩ => ⟨S256x768, .bf16⟩
  | .local _ .vmem, ⟨2, _⟩ => ⟨S256x512, .bf16⟩
  | .local _ .vmem, ⟨3, _⟩ => ⟨S256x512, .bf16⟩
  | .local _ .vmem, ⟨4, _⟩ => ⟨S256x128, .f32⟩
  | .local _ .vmem, ⟨5, _⟩ => ⟨S256x128, .f32⟩
  | .local _ .vmem, ⟨6, _⟩ => ⟨S1x768, .f32⟩
  | .local _ .vmem, ⟨7, _⟩ => ⟨S1x512, .f32⟩
  | .local _ .vmem, ⟨8, _⟩ => ⟨S768x2048, .bf16⟩
  | .local _ .vmem, ⟨9, _⟩ => ⟨S512x2048, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x8x256x256, .bf16⟩
  | .local _ .vmem, ⟨15, _⟩ => ⟨S1x8x256x256, .bf16⟩
  | .local _ .vmem, ⟨16, _⟩ => ⟨S1x8x256x256, .bf16⟩
  | .local _ .vmem, ⟨17, _⟩ => ⟨S1x8x256x256, .bf16⟩
  | .local _ .vmem, ⟨18, _⟩ => ⟨S1x8x256x128, .bf16⟩
  | .local _ .vmem, ⟨19, _⟩ => ⟨S1x8x256x128, .bf16⟩
  | _, _ => ⟨S34816x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_call0_v0 : Ref sig .tc := ⟨.hbm, 46, rfl⟩
abbrev main_v37 : Ref sig .tc := ⟨.hbm, 47, rfl⟩
abbrev main_c : Ref sig .tc := ⟨.hbm, 48, rfl⟩
abbrev main_call1_v0 : Ref sig .tc := ⟨.hbm, 49, rfl⟩
abbrev main_v38 : Ref sig .tc := ⟨.hbm, 50, rfl⟩
abbrev main_v39 : Ref sig .tc := ⟨.hbm, 51, rfl⟩
abbrev main_c_2 : Ref sig .tc := ⟨.hbm, 52, rfl⟩
abbrev main_call2_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49_0 : Ref sig .tc := ⟨.hbm, 63, rfl⟩
abbrev main_v49_1 : Ref sig .tc := ⟨.hbm, 64, rfl⟩
abbrev main_v49_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S34816x6400 : Shape := ⟨2, ![34816, 6400]⟩
abbrev S34816x128 : Shape := ⟨2, ![34816, 128]⟩
abbrev S768 : Shape := ⟨1, ![768]⟩
abbrev S768x1536 : Shape := ⟨2, ![768, 1536]⟩
abbrev S512 : Shape := ⟨1, ![512]⟩
abbrev S512x2048 : Shape := ⟨2, ![512, 2048]⟩
abbrev S8x4352x6400 : Shape := ⟨3, ![8, 4352, 6400]⟩
abbrev S8x4352x128 : Shape := ⟨3, ![8, 4352, 128]⟩
abbrev S8x4352x64 : Shape := ⟨3, ![8, 4352, 64]⟩
abbrev S8x4352x512 : Shape := ⟨3, ![8, 4352, 512]⟩
abbrev S8x4352x768 : Shape := ⟨3, ![8, 4352, 768]⟩
abbrev S8x256x768 : Shape := ⟨3, ![8, 256, 768]⟩
abbrev S8x256x512 : Shape := ⟨3, ![8, 256, 512]⟩
abbrev S8x256x64 : Shape := ⟨3, ![8, 256, 64]⟩
abbrev S_ : Shape := ⟨0, ![]⟩
abbrev S8x256 : Shape := ⟨2, ![8, 256]⟩
abbrev S8x256x1 : Shape := ⟨3, ![8, 256, 1]⟩
abbrev S1x1x768 : Shape := ⟨3, ![1, 1, 768]⟩
abbrev S8x256x1536 : Shape := ⟨3, ![8, 256, 1536]⟩
abbrev S8x256x8x192 : Shape := ⟨4, ![8, 256, 8, 192]⟩
abbrev S1x1x512 : Shape := ⟨3, ![1, 1, 512]⟩
abbrev S8x256x2048 : Shape := ⟨3, ![8, 256, 2048]⟩
abbrev S8x256x8x256 : Shape := ⟨4, ![8, 256, 8, 256]⟩
abbrev S8x256x8x128 : Shape := ⟨4, ![8, 256, 8, 128]⟩
abbrev S8x256x8x64 : Shape := ⟨4, ![8, 256, 8, 64]⟩
abbrev S8x256x1x64 : Shape := ⟨4, ![8, 256, 1, 64]⟩
abbrev S8x8x256x192 : Shape := ⟨4, ![8, 8, 256, 192]⟩
abbrev S8x8x256x128 : Shape := ⟨4, ![8, 8, 256, 128]⟩
abbrev S8x4096x768 : Shape := ⟨3, ![8, 4096, 768]⟩
abbrev S8x4096x512 : Shape := ⟨3, ![8, 4096, 512]⟩
abbrev S8x4096x64 : Shape := ⟨3, ![8, 4096, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S8x4096 : Shape := ⟨2, ![8, 4096]⟩
abbrev S8x4096x1 : Shape := ⟨3, ![8, 4096, 1]⟩
abbrev S8x4096x1536 : Shape := ⟨3, ![8, 4096, 1536]⟩
abbrev S8x4096x8x192 : Shape := ⟨4, ![8, 4096, 8, 192]⟩
abbrev S8x4096x2048 : Shape := ⟨3, ![8, 4096, 2048]⟩
abbrev S8x4096x8x256 : Shape := ⟨4, ![8, 4096, 8, 256]⟩
abbrev S8x4096x8x128 : Shape := ⟨4, ![8, 4096, 8, 128]⟩
abbrev S8x4096x8x64 : Shape := ⟨4, ![8, 4096, 8, 64]⟩
abbrev S8x4096x1x64 : Shape := ⟨4, ![8, 4096, 1, 64]⟩
abbrev S8x4096x8x32 : Shape := ⟨4, ![8, 4096, 8, 32]⟩
abbrev S8x4096x8x16 : Shape := ⟨4, ![8, 4096, 8, 16]⟩
abbrev S4096x1x16 : Shape := ⟨3, ![4096, 1, 16]⟩
abbrev S1x4096x1x16 : Shape := ⟨4, ![1, 4096, 1, 16]⟩
abbrev S8x4096x1x32 : Shape := ⟨4, ![8, 4096, 1, 32]⟩
abbrev S8x4096x1x16 : Shape := ⟨4, ![8, 4096, 1, 16]⟩
abbrev S8x8x4096x192 : Shape := ⟨4, ![8, 8, 4096, 192]⟩
abbrev S8x8x4096x128 : Shape := ⟨4, ![8, 8, 4096, 128]⟩
abbrev S8x8x4352x192 : Shape := ⟨4, ![8, 8, 4352, 192]⟩
abbrev S8x8x4352x128 : Shape := ⟨4, ![8, 8, 4352, 128]⟩
abbrev S8x8x4352x64 : Shape := ⟨4, ![8, 8, 4352, 64]⟩
abbrev S8x8x4352x256 : Shape := ⟨4, ![8, 8, 4352, 256]⟩

abbrev nBuf : Space → Nat
  | .hbm => 243
  | .vmem => 0
  | .smem => 0
  | _ => 0

abbrev hbmTy0_0 (i : Nat) : BufTy := match i % 128 with
  | 0 => ⟨S34816x6400, .bf16⟩
  | 1 => ⟨S34816x128, .f32⟩
  | 2 => ⟨S768, .f32⟩
  | 3 => ⟨S768x1536, .f32⟩
  | 4 => ⟨S512, .f32⟩
  | 5 => ⟨S512x2048, .f32⟩
  | 6 => ⟨S8x4352x6400, .bf16⟩
  | 7 => ⟨S8x4352x6400, .f32⟩
  | 8 => ⟨S8x4352x128, .f32⟩
  | 9 => ⟨S8x4352x64, .f32⟩
  | 10 => ⟨S8x4352x512, .f32⟩
  | 11 => ⟨S8x4352x768, .f32⟩
  | 12 => ⟨S8x256x768, .f32⟩
  | 13 => ⟨S8x256x512, .f32⟩
  | 14 => ⟨S8x256x64, .f32⟩
  | 15 => ⟨S8x256x768, .f32⟩
  | 16 => ⟨S_, .f32⟩
  | 17 => ⟨S8x256, .f32⟩
  | 18 => ⟨S8x256x1, .f32⟩
  | 19 => ⟨S_, .f32⟩
  | 20 => ⟨S8x256x1, .f32⟩
  | 21 => ⟨S8x256x1, .f32⟩
  | 22 => ⟨S_, .f32⟩
  | 23 => ⟨S8x256x1, .f32⟩
  | 24 => ⟨S8x256x1, .f32⟩
  | 25 => ⟨S8x256x1, .f32⟩
  | 26 => ⟨S8x256x768, .f32⟩
  | 27 => ⟨S8x256x768, .f32⟩
  | 28 => ⟨S1x1x768, .f32⟩
  | 29 => ⟨S8x256x768, .f32⟩
  | 30 => ⟨S8x256x768, .f32⟩
  | 31 => ⟨S8x256x1536, .f32⟩
  | 32 => ⟨S8x256x8x192, .f32⟩
  | 33 => ⟨S8x256x512, .f32⟩
  | 34 => ⟨S_, .f32⟩
  | 35 => ⟨S8x256, .f32⟩
  | 36 => ⟨S8x256x1, .f32⟩
  | 37 => ⟨S_, .f32⟩
  | 38 => ⟨S8x256x1, .f32⟩
  | 39 => ⟨S8x256x1, .f32⟩
  | 40 => ⟨S_, .f32⟩
  | 41 => ⟨S8x256x1, .f32⟩
  | 42 => ⟨S8x256x1, .f32⟩
  | 43 => ⟨S8x256x1, .f32⟩
  | 44 => ⟨S8x256x512, .f32⟩
  | 45 => ⟨S8x256x512, .f32⟩
  | 46 => ⟨S1x1x512, .f32⟩
  | 47 => ⟨S8x256x512, .f32⟩
  | 48 => ⟨S8x256x512, .f32⟩
  | 49 => ⟨S8x256x2048, .f32⟩
  | 50 => ⟨S8x256x8x256, .f32⟩
  | 51 => ⟨S8x256x8x128, .f32⟩
  | 52 => ⟨S8x256x8x64, .f32⟩
  | 53 => ⟨S8x256x8x128, .f32⟩
  | 54 => ⟨S8x256x8x128, .f32⟩
  | 55 => ⟨S8x256x1x64, .f32⟩
  | 56 => ⟨S8x256x8x64, .f32⟩
  | 57 => ⟨S8x256x8x192, .f32⟩
  | 58 => ⟨S8x256x8x192, .f32⟩
  | 59 => ⟨S8x8x256x192, .f32⟩
  | 60 => ⟨S_, .f32⟩
  | 61 => ⟨S8x8x256x192, .f32⟩
  | 62 => ⟨S8x8x256x192, .f32⟩
  | 63 => ⟨S8x8x256x192, .f32⟩
  | 64 => ⟨S8x8x256x128, .f32⟩
  | 65 => ⟨S8x4096x768, .f32⟩
  | 66 => ⟨S8x4096x512, .f32⟩
  | 67 => ⟨S8x4096x64, .f32⟩
  | 68 => ⟨S64, .i32⟩
  | 69 => ⟨S64x64, .i32⟩
  | 70 => ⟨S4096, .i32⟩
  | 71 => ⟨S4096, .f32⟩
  | 72 => ⟨S64, .i32⟩
  | 73 => ⟨S1x64, .i32⟩
  | 74 => ⟨S64x64, .i32⟩
  | 75 => ⟨S4096, .i32⟩
  | 76 => ⟨S4096, .f32⟩
  | 77 => ⟨S16, .f32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S4096x1, .f32⟩
  | 86 => ⟨S1x16, .f32⟩
  | 87 => ⟨S4096x16, .f32⟩
  | 88 => ⟨S4096x16, .f32⟩
  | 89 => ⟨S4096x16, .f32⟩
  | 90 => ⟨S4096x1, .f32⟩
  | 91 => ⟨S1x16, .f32⟩
  | 92 => ⟨S4096x16, .f32⟩
  | 93 => ⟨S4096x16, .f32⟩
  | 94 => ⟨S4096x16, .f32⟩
  | 95 => ⟨S4096x16, .f32⟩
  | 96 => ⟨S4096x16, .f32⟩
  | 97 => ⟨S4096x16, .f32⟩
  | 98 => ⟨S4096x16, .f32⟩
  | 99 => ⟨S8x4096x768, .f32⟩
  | 100 => ⟨S_, .f32⟩
  | 101 => ⟨S8x4096, .f32⟩
  | 102 => ⟨S8x4096x1, .f32⟩
  | 103 => ⟨S_, .f32⟩
  | 104 => ⟨S8x4096x1, .f32⟩
  | 105 => ⟨S8x4096x1, .f32⟩
  | 106 => ⟨S_, .f32⟩
  | 107 => ⟨S8x4096x1, .f32⟩
  | 108 => ⟨S8x4096x1, .f32⟩
  | 109 => ⟨S8x4096x1, .f32⟩
  | 110 => ⟨S8x4096x768, .f32⟩
  | 111 => ⟨S8x4096x768, .f32⟩
  | 112 => ⟨S1x1x768, .f32⟩
  | 113 => ⟨S8x4096x768, .f32⟩
  | 114 => ⟨S8x4096x768, .f32⟩
  | 115 => ⟨S8x4096x1536, .f32⟩
  | 116 => ⟨S8x4096x8x192, .f32⟩
  | 117 => ⟨S8x4096x512, .f32⟩
  | 118 => ⟨S_, .f32⟩
  | 119 => ⟨S8x4096, .f32⟩
  | 120 => ⟨S8x4096x1, .f32⟩
  | 121 => ⟨S_, .f32⟩
  | 122 => ⟨S8x4096x1, .f32⟩
  | 123 => ⟨S8x4096x1, .f32⟩
  | 124 => ⟨S_, .f32⟩
  | 125 => ⟨S8x4096x1, .f32⟩
  | 126 => ⟨S8x4096x1, .f32⟩
  | 127 => ⟨S8x4096x1, .f32⟩
  | _ => ⟨S34816x6400, .bf16⟩

abbrev hbmTy0_1 (i : Nat) : BufTy := match i % 128 with
  | 0 => ⟨S8x4096x512, .f32⟩
  | 1 => ⟨S8x4096x512, .f32⟩
  | 2 => ⟨S1x1x512, .f32⟩
  | 3 => ⟨S8x4096x512, .f32⟩
  | 4 => ⟨S8x4096x512, .f32⟩
  | 5 => ⟨S8x4096x2048, .f32⟩
  | 6 => ⟨S8x4096x8x256, .f32⟩
  | 7 => ⟨S8x4096x8x128, .f32⟩
  | 8 => ⟨S8x4096x8x64, .f32⟩
  | 9 => ⟨S8x4096x8x128, .f32⟩
  | 10 => ⟨S8x4096x8x128, .f32⟩
  | 11 => ⟨S8x4096x1x64, .f32⟩
  | 12 => ⟨S8x4096x8x32, .f32⟩
  | 13 => ⟨S8x4096x8x32, .f32⟩
  | 14 => ⟨S8x4096x8x16, .f32⟩
  | 15 => ⟨S8x4096x8x16, .f32⟩
  | 16 => ⟨S4096x1x16, .f32⟩
  | 17 => ⟨S4096x1x16, .f32⟩
  | 18 => ⟨S1x4096x1x16, .f32⟩
  | 19 => ⟨S8x4096x8x16, .f32⟩
  | 20 => ⟨S8x4096x8x16, .f32⟩
  | 21 => ⟨S1x4096x1x16, .f32⟩
  | 22 => ⟨S8x4096x8x16, .f32⟩
  | 23 => ⟨S8x4096x8x16, .f32⟩
  | 24 => ⟨S8x4096x8x16, .f32⟩
  | 25 => ⟨S1x4096x1x16, .f32⟩
  | 26 => ⟨S8x4096x8x16, .f32⟩
  | 27 => ⟨S8x4096x8x16, .f32⟩
  | 28 => ⟨S1x4096x1x16, .f32⟩
  | 29 => ⟨S8x4096x8x16, .f32⟩
  | 30 => ⟨S8x4096x8x16, .f32⟩
  | 31 => ⟨S8x4096x8x16, .f32⟩
  | 32 => ⟨S8x4096x8x32, .f32⟩
  | 33 => ⟨S8x4096x8x16, .f32⟩
  | 34 => ⟨S8x4096x8x16, .f32⟩
  | 35 => ⟨S4096x1x16, .f32⟩
  | 36 => ⟨S4096x1x16, .f32⟩
  | 37 => ⟨S1x4096x1x16, .f32⟩
  | 38 => ⟨S8x4096x8x16, .f32⟩
  | 39 => ⟨S8x4096x8x16, .f32⟩
  | 40 => ⟨S1x4096x1x16, .f32⟩
  | 41 => ⟨S8x4096x8x16, .f32⟩
  | 42 => ⟨S8x4096x8x16, .f32⟩
  | 43 => ⟨S8x4096x8x16, .f32⟩
  | 44 => ⟨S1x4096x1x16, .f32⟩
  | 45 => ⟨S8x4096x8x16, .f32⟩
  | 46 => ⟨S8x4096x8x16, .f32⟩
  | 47 => ⟨S1x4096x1x16, .f32⟩
  | 48 => ⟨S8x4096x8x16, .f32⟩
  | 49 => ⟨S8x4096x8x16, .f32⟩
  | 50 => ⟨S8x4096x8x16, .f32⟩
  | 51 => ⟨S8x4096x8x32, .f32⟩
  | 52 => ⟨S8x4096x8x64, .f32⟩
  | 53 => ⟨S8x4096x1x32, .f32⟩
  | 54 => ⟨S8x4096x1x32, .f32⟩
  | 55 => ⟨S8x4096x1x16, .f32⟩
  | 56 => ⟨S8x4096x1x16, .f32⟩
  | 57 => ⟨S4096x1x16, .f32⟩
  | 58 => ⟨S4096x1x16, .f32⟩
  | 59 => ⟨S1x4096x1x16, .f32⟩
  | 60 => ⟨S8x4096x1x16, .f32⟩
  | 61 => ⟨S8x4096x1x16, .f32⟩
  | 62 => ⟨S1x4096x1x16, .f32⟩
  | 63 => ⟨S8x4096x1x16, .f32⟩
  | 64 => ⟨S8x4096x1x16, .f32⟩
  | 65 => ⟨S8x4096x1x16, .f32⟩
  | 66 => ⟨S1x4096x1x16, .f32⟩
  | 67 => ⟨S8x4096x1x16, .f32⟩
  | 68 => ⟨S8x4096x1x16, .f32⟩
  | 69 => ⟨S1x4096x1x16, .f32⟩
  | 70 => ⟨S8x4096x1x16, .f32⟩
  | 71 => ⟨S8x4096x1x16, .f32⟩
  | 72 => ⟨S8x4096x1x16, .f32⟩
  | 73 => ⟨S8x4096x1x32, .f32⟩
  | 74 => ⟨S8x4096x1x16, .f32⟩
  | 75 => ⟨S8x4096x1x16, .f32⟩
  | 76 => ⟨S4096x1x16, .f32⟩
  | 77 => ⟨S4096x1x16, .f32⟩
  | 78 => ⟨S1x4096x1x16, .f32⟩
  | 79 => ⟨S8x4096x1x16, .f32⟩
  | 80 => ⟨S8x4096x1x16, .f32⟩
  | 81 => ⟨S1x4096x1x16, .f32⟩
  | 82 => ⟨S8x4096x1x16, .f32⟩
  | 83 => ⟨S8x4096x1x16, .f32⟩
  | 84 => ⟨S8x4096x1x16, .f32⟩
  | 85 => ⟨S1x4096x1x16, .f32⟩
  | 86 => ⟨S8x4096x1x16, .f32⟩
  | 87 => ⟨S8x4096x1x16, .f32⟩
  | 88 => ⟨S1x4096x1x16, .f32⟩
  | 89 => ⟨S8x4096x1x16, .f32⟩
  | 90 => ⟨S8x4096x1x16, .f32⟩
  | 91 => ⟨S8x4096x1x16, .f32⟩
  | 92 => ⟨S8x4096x1x32, .f32⟩
  | 93 => ⟨S8x4096x1x64, .f32⟩
  | 94 => ⟨S8x4096x8x64, .f32⟩
  | 95 => ⟨S8x4096x8x192, .f32⟩
  | 96 => ⟨S8x4096x8x192, .f32⟩
  | 97 => ⟨S8x8x4096x192, .f32⟩
  | 98 => ⟨S_, .f32⟩
  | 99 => ⟨S8x8x4096x192, .f32⟩
  | 100 => ⟨S8x8x4096x192, .f32⟩
  | 101 => ⟨S8x8x4096x192, .f32⟩
  | 102 => ⟨S8x8x4096x128, .f32⟩
  | 103 => ⟨S8x8x4352x192, .f32⟩
  | 104 => ⟨S8x8x4352x192, .f32⟩
  | 105 => ⟨S8x8x4352x128, .f32⟩
  | 106 => ⟨S_, .f32⟩
  | 107 => ⟨S8x8x4352x64, .f32⟩
  | 108 => ⟨S8x8x4352x256, .f32⟩
  | 109 => ⟨S8x8x4352x256, .bf16⟩
  | 110 => ⟨S_, .f32⟩
  | 111 => ⟨S8x8x4352x64, .f32⟩
  | 112 => ⟨S8x8x4352x256, .f32⟩
  | 113 => ⟨S8x8x4352x256, .bf16⟩
  | 114 => ⟨S8x8x4352x128, .bf16⟩
  | _ => ⟨S34816x6400, .bf16⟩

abbrev hbmTy (i : Nat) : BufTy := match i / 128 with
  | 0 => hbmTy0_0 i
  | 1 => hbmTy0_1 i
  | _ => ⟨S34816x6400, .bf16⟩

abbrev bufTy : (tb : Table) → Fin (tcTables nBuf tb) → BufTy
  | .hbm, ⟨i, _⟩ => hbmTy i
  | _, _ => ⟨S34816x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_8 : Ref sig .tc := ⟨.hbm, 100, rfl⟩
abbrev main_v85 : Ref sig .tc := ⟨.hbm, 101, rfl⟩
abbrev main_v86 : Ref sig .tc := ⟨.hbm, 102, rfl⟩
abbrev main_cst_9 : Ref sig .tc := ⟨.hbm, 103, rfl⟩
abbrev main_v87 : Ref sig .tc := ⟨.hbm, 104, rfl⟩
abbrev main_v88 : Ref sig .tc := ⟨.hbm, 105, rfl⟩
abbrev main_cst_10 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_11 : Ref sig .tc := ⟨.hbm, 118, rfl⟩
abbrev main_v100 : Ref sig .tc := ⟨.hbm, 119, rfl⟩
abbrev main_v101 : Ref sig .tc := ⟨.hbm, 120, rfl⟩
abbrev main_cst_12 : Ref sig .tc := ⟨.hbm, 121, rfl⟩
abbrev main_v102 : Ref sig .tc := ⟨.hbm, 122, rfl⟩
abbrev main_v103 : Ref sig .tc := ⟨.hbm, 123, rfl⟩
abbrev main_cst_13 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_cst_14 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_cst_15 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_cst_16 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩

abbrev nD : Nat := 1
abbrev τ : Topo := Topo.v7x

variable {F : FTy → Type} [FloatOps F]
-- ==== Kernel6.lean ====
abbrev S8x2048 : Shape := ⟨2, ![8, 2048]⟩
abbrev S2048 : Shape := ⟨1, ![2048]⟩
abbrev S4x2048x6144 : Shape := ⟨3, ![4, 2048, 6144]⟩
abbrev S4x6144 : Shape := ⟨2, ![4, 6144]⟩
abbrev S_ : Shape := ⟨0, ![]⟩
abbrev S16x2048 : Shape := ⟨2, ![16, 2048]⟩
abbrev S1 : Shape := ⟨1, ![1]⟩
abbrev S4x1x6144 : Shape := ⟨3, ![4, 1, 6144]⟩
abbrev S4x16x6144 : Shape := ⟨3, ![4, 16, 6144]⟩
abbrev S1x2048x768 : Shape := ⟨3, ![1, 2048, 768]⟩
abbrev S1x1x768 : Shape := ⟨3, ![1, 1, 768]⟩
abbrev S1x16x768 : Shape := ⟨3, ![1, 16, 768]⟩
abbrev S2048x768 : Shape := ⟨2, ![2048, 768]⟩
abbrev S16x768 : Shape := ⟨2, ![16, 768]⟩
abbrev S1x768 : Shape := ⟨2, ![1, 768]⟩

abbrev nBuf : Space → Nat
  | .hbm => 14
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S4x2048x6144, .f32⟩
  | .hbm, ⟨3, _⟩ => ⟨S4x6144, .f32⟩
  | .hbm, ⟨4, _⟩ => ⟨S_, .f32⟩
  | .hbm, ⟨5, _⟩ => ⟨S16x2048, .f32⟩
  | .hbm, ⟨6, _⟩ => ⟨S_, .i32⟩
  | .hbm, ⟨7, _⟩ => ⟨S1, .i32⟩
  | .hbm, ⟨8, _⟩ => ⟨S16x2048, .f32⟩
  | .hbm, ⟨9, _⟩ => ⟨S_, .i32⟩
  | .hbm, ⟨10, _⟩ => ⟨S1, .i32⟩
  | .hbm, ⟨11, _⟩ => ⟨S16x2048, .f32⟩
  | .hbm, ⟨12, _⟩ => ⟨S4x1x6144, .f32⟩
  | .hbm, ⟨13, _⟩ => ⟨S4x16x6144, .f32⟩
  | .local _ .vmem, ⟨0, _⟩ => ⟨S16x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x2048 : Shape := ⟨2, ![8, 2048]⟩
abbrev S2048 : Shape := ⟨1, ![2048]⟩
abbrev S4x2048x6144 : Shape := ⟨3, ![4, 2048, 6144]⟩
abbrev S4x6144 : Shape := ⟨2, ![4, 6144]⟩
abbrev S_ : Shape := ⟨0, ![]⟩
abbrev S1x2048x6144 : Shape := ⟨3, ![1, 2048, 6144]⟩
abbrev S2048x6144 : Shape := ⟨2, ![2048, 6144]⟩
abbrev S8x6144 : Shape := ⟨2, ![8, 6144]⟩
abbrev S1x6144 : Shape := ⟨2, ![1, 6144]⟩
abbrev S6144 : Shape := ⟨1, ![6144]⟩
abbrev S7x6144 : Shape := ⟨2, ![7, 6144]⟩
abbrev S16x6144 : Shape := ⟨2, ![16, 6144]⟩
abbrev S1x16x6144 : Shape := ⟨3, ![1, 16, 6144]⟩
abbrev S4x16x6144 : Shape := ⟨3, ![4, 16, 6144]⟩

abbrev nBuf : Space → Nat
  | .hbm => 103
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S4x2048x6144, .f32⟩
  | .hbm, ⟨3, _⟩ => ⟨S4x6144, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048x6144, .f32⟩
  | .hbm, ⟨23, _⟩ => ⟨S2048x6144, .f32⟩
  | .hbm, ⟨24, _⟩ => ⟨S8x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S8x6144, .f32⟩
  | .hbm, ⟨29, _⟩ => ⟨S8x6144, .f32⟩
  | .hbm, ⟨30, _⟩ => ⟨S1x2048x6144, .f32⟩
  | .hbm, ⟨31, _⟩ => ⟨S2048x6144, .f32⟩
  | .hbm, ⟨32, _⟩ => ⟨S6144, .f32⟩
  | .hbm, ⟨33, _⟩ => ⟨S1x6144, .f32⟩
  | .hbm, ⟨34, _⟩ => ⟨S6144, .f32⟩
  | .hbm, ⟨35, _⟩ => ⟨S6144, .f32⟩
  | .hbm, ⟨36, _⟩ => ⟨S1x6144, .f32⟩
  | .hbm, ⟨37, _⟩ => ⟨S6144, .f32⟩
  | .hbm, ⟨38, _⟩ => ⟨S7x6144, .f32⟩
  | .hbm, ⟨39, _⟩ => ⟨S1x6144, .f32⟩
  | .hbm, ⟨40, _⟩ => ⟨S16x6144, .f32⟩
  | .hbm, ⟨41, _⟩ => ⟨S1x2048x6144, .f32⟩
  | .hbm, ⟨42, _⟩ => ⟨S2048x6144, .f32⟩
  | .hbm, ⟨43, _⟩ => ⟨S8x6144, .f32⟩
  | .hbm, ⟨44, _⟩ => ⟨S1x6144, .f32⟩
  | .hbm, ⟨45, _⟩ => ⟨S6144, .f32⟩
  | .hbm, ⟨46, _⟩ => ⟨S1x6144, .f32⟩
  | .hbm, ⟨47, _⟩ => ⟨S8x6144, .f32⟩
  | .hbm, ⟨48, _⟩ => ⟨S8x6144, .f32⟩
  | .hbm, ⟨49, _⟩ => ⟨S1x2048x6144, .f32⟩
  | .hbm, ⟨50, _⟩ => ⟨S2048x6144, .f32⟩
  | .hbm, ⟨51, _⟩ => ⟨S6144, .f32⟩
  | .hbm, ⟨52, _⟩ => ⟨S1x6144, .f32⟩
  | .hbm, ⟨53, _⟩ => ⟨S6144, .f32⟩
  | .hbm, ⟨54, _⟩ => ⟨S6144, .f32⟩
  | .hbm, ⟨55, _⟩ => ⟨S1x6144, .f32⟩
  | .hbm, ⟨56, _⟩ => ⟨S6144, .f32⟩
  | .hbm, ⟨57, _⟩ => ⟨S7x6144, .f32⟩
  | .hbm, ⟨58, _⟩ => ⟨S1x6144, .f32⟩
  | .hbm, ⟨59, _⟩ => ⟨S16x6144, .f32⟩
  | .hbm, ⟨60, _⟩ => ⟨S1x2048x6144, .f32⟩
  | .hbm, ⟨61, _⟩ => ⟨S2048x6144, .f32⟩
  | .hbm, ⟨62, _⟩ => ⟨S8x6144, .f32⟩
  | .hbm, ⟨63, _⟩ => ⟨S1x6144, .f32⟩
  | .hbm, ⟨64, _⟩ => ⟨S6144, .f32⟩
  | .hbm, ⟨65, _⟩ => ⟨S1x6144, .f32⟩
  | .hbm, ⟨66, _⟩ => ⟨S8x6144, .f32⟩
  | .hbm, ⟨67, _⟩ => ⟨S8x6144, .f32⟩
  | .hbm, ⟨68, _⟩ => ⟨S1x2048x6144, .f32⟩
  | .hbm, ⟨69, _⟩ => ⟨S2048x6144, .f32⟩
  | .hbm, ⟨70, _⟩ => ⟨S6144, .f32⟩
  | .hbm, ⟨71, _⟩ => ⟨S1x6144, .f32⟩
  | .hbm, ⟨72, _⟩ => ⟨S6144, .f32⟩
  | .hbm, ⟨73, _⟩ => ⟨S6144, .f32⟩
  | .hbm, ⟨74, _⟩ => ⟨S1x6144, .f32⟩
  | .hbm, ⟨75, _⟩ => ⟨S6144, .f32⟩
  | .hbm, ⟨76, _⟩ => ⟨S7x6144, .f32⟩
  | .hbm, ⟨77, _⟩ => ⟨S1x6144, .f32⟩
  | .hbm, ⟨78, _⟩ => ⟨S16x6144, .f32⟩
  | .hbm, ⟨79, _⟩ => ⟨S1x2048x6144, .f32⟩
  | .hbm, ⟨80, _⟩ => ⟨S2048x6144, .f32⟩
  | .hbm, ⟨81, _⟩ => ⟨S8x6144, .f32⟩
  | .hbm, ⟨82, _⟩ => ⟨S1x6144, .f32⟩
  | .hbm, ⟨83, _⟩ => ⟨S6144, .f32⟩
  | .hbm, ⟨84, _⟩ => ⟨S1x6144, .f32⟩
  | .hbm, ⟨85, _⟩ => ⟨S8x6144, .f32⟩
  | .hbm, ⟨86, _⟩ => ⟨S8x6144, .f32⟩
  | .hbm, ⟨87, _⟩ => ⟨S1x2048x6144, .f32⟩
  | .hbm, ⟨88, _⟩ => ⟨S2048x6144, .f32⟩
  | .hbm, ⟨89, _⟩ => ⟨S6144, .f32⟩
  | .hbm, ⟨90, _⟩ => ⟨S1x6144, .f32⟩
  | .hbm, ⟨91, _⟩ => ⟨S6144, .f32⟩
  | .hbm, ⟨92, _⟩ => ⟨S6144, .f32⟩
  | .hbm, ⟨93, _⟩ => ⟨S1x6144, .f32⟩
  | .hbm, ⟨94, _⟩ => ⟨S6144, .f32⟩
  | .hbm, ⟨95, _⟩ => ⟨S7x6144, .f32⟩
  | .hbm, ⟨96, _⟩ => ⟨S1x6144, .f32⟩
  | .hbm, ⟨97, _⟩ => ⟨S16x6144, .f32⟩
  | .hbm, ⟨98, _⟩ => ⟨S1x16x6144, .f32⟩
  | .hbm, ⟨99, _⟩ => ⟨S1x16x6144, .f32⟩
  | .hbm, ⟨100, _⟩ => ⟨S1x16x6144, .f32⟩
  | .hbm, ⟨101, _⟩ => ⟨S1x16x6144, .f32⟩
  | .hbm, ⟨102, _⟩ => ⟨S4x16x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩

abbrev nD : Nat := 1
abbrev τ : Topo := Topo.v7x

variable {F : FTy → Type} [FloatOps F]
-- ==== Proof.Softmax.lean ====
/- A softmax-weighted sum over the extended reals: dividing the weights before the sum, or the sum after it. -/
module

public import Idealize.ShloMosaic.Lib.Pointwise

@[expose] public section

noncomputable section

namespace Cert.Proof.Softmax

open Idealize.ShloMosaic

/-- The pattern of minus infinity. -/
theorem ofBits_negInf : Ideal.ofBits .f32 0xFF800000#32 = ⊥ := by
  simp [Ideal.ofBits, Ideal.ieee]

/-- The pattern of infinity. -/
theorem ofBits_posInf : Ideal.ofBits .f32 0x7F800000#32 = ⊤ := by
  simp [Ideal.ofBits, Ideal.ieee]

/-- An extended real that is an ordinary number. -/
def IsNum (x : EReal) : Prop := ∃ r : ℝ, x = (r : EReal)

/-- A number whose absolute value `max x (-x)` lies below infinity is an ordinary number. -/
theorem isNum_of_abs_lt {x : EReal} (h : max x (-x) < ⊤) : IsNum x := by
  induction x using EReal.rec with
  | bot => simp at h
  | coe r => exact ⟨r, rfl⟩
  | top => simp at h

/-- Products of ordinary numbers are ordinary. -/
theorem IsNum.mul {x y : EReal} (hx : IsNum x) (hy : IsNum y) : IsNum (x * y) := by
  obtain ⟨a, rfl⟩ := hx
  obtain ⟨b, rfl⟩ := hy
  exact ⟨a * b, (EReal.coe_mul a b).symm⟩

/-- A finite sum of ordinary numbers is ordinary. -/
theorem IsNum.sum {ι : Type} (s : Finset ι) {f : ι → EReal} (h : ∀ i, IsNum (f i)) : IsNum (∑ i ∈ s, f i) := by
  choose g hg using h
  refine ⟨∑ i ∈ s, g i, ?_⟩
  classical
  induction s using Finset.induction_on with
  | empty => simp
  | insert a s ha ih => rw [Finset.sum_insert ha, Finset.sum_insert ha, EReal.coe_add, hg a, ih]

/-- The running maximum from minus infinity of ordinary numbers is minus infinity or ordinary. -/
theorem fold_max_cases {ι : Type} (s : Finset ι) {f : ι → EReal} (h : ∀ i, IsNum (f i)) :
    (s = ∅ ∧ s.fold max ⊥ f = ⊥) ∨ IsNum (s.fold max ⊥ f) := by
  classical
  induction s using Finset.induction_on with
  | empty => exact Or.inl ⟨rfl, rfl⟩
  | insert a s ha ih =>
    right
    rw [Finset.fold_insert ha]
    rcases ih with ⟨_, hs⟩ | hs
    · rw [hs, max_eq_left bot_le]
      exact h a
    · rcases max_choice (f a) (s.fold max ⊥ f) with e | e
      · rw [e]; exact h a
      · rw [e]; exact hs

/-- The maximum of a nonempty row of ordinary numbers is ordinary. -/
theorem fold_max_isNum {n : ℕ} [NeZero n] {f : Fin n → EReal} (h : ∀ i, IsNum (f i)) :
    IsNum ((Finset.univ : Finset (Fin n)).fold max ⊥ f) := by
  rcases fold_max_cases Finset.univ h with ⟨hs, _⟩ | hs
  · exact absurd (Finset.mem_univ (0 : Fin n)) (by rw [hs]; simp)
  · exact hs

/-- A positive real factor moves out of a finite sum of extended reals. -/
theorem sum_mul_pos {ι : Type} (s : Finset ι) (f : ι → EReal) {c : ℝ} (hc : 0 < c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc.le) (EReal.coe_ne_top c) _ _

/-- The gate `x / (1 + exp (-x))`. -/
def gate (x : EReal) : EReal := x * Ideal.div 1 (1 + Ideal.exp (-x))

/-- The sum of the values `v` with the softmax of the scores `s` as weights. -/
def att {n : ℕ} (s v : Fin n → EReal) : EReal :=
  ∑ k, Ideal.div (Ideal.exp (s k - (Finset.univ : Finset (Fin n)).fold max ⊥ s))
    (∑ l, Ideal.exp (s l - (Finset.univ : Finset (Fin n)).fold max ⊥ s)) * v k

/-- THE LEMMA: for a nonempty row of finite scores `s`, whatever the values `v`, the sum of `exp (s - max s) * v` divided by
    the sum of the exponentials is the sum of the quotients times `v`. -/
theorem div_after {n : ℕ} [NeZero n] (s v : Fin n → EReal) (h : ∀ i, IsNum (s i)) :
    Ideal.div (∑ k, Ideal.exp (s k - (Finset.univ : Finset (Fin n)).fold max ⊥ s) * v k)
        (∑ k, Ideal.exp (s k - (Finset.univ : Finset (Fin n)).fold max ⊥ s))
      = att s v := by
  unfold att
  obtain ⟨M, hM⟩ := fold_max_isNum h
  choose r hr using h
  rw [hM]
  have he : ∀ k, Ideal.exp (s k - (M : EReal)) = ((Real.exp (r k - M) : ℝ) : EReal) := fun k => by
    rw [hr k, ← EReal.coe_sub, Ideal.exp_coe]
  have hL : (∑ k, Ideal.exp (s k - (M : EReal))) = ((∑ k, Real.exp (r k - M) : ℝ) : EReal) := by
    rw [Finset.sum_congr rfl fun k _ => he k]
    generalize (Finset.univ : Finset (Fin n)) = u
    classical
    induction u using Finset.induction_on with
    | empty => simp
    | insert a u ha ih => rw [Finset.sum_insert ha, Finset.sum_insert ha, EReal.coe_add, ih]
  have hpos : 0 < ∑ k, Real.exp (r k - M) :=
    Finset.sum_pos (fun k _ => Real.exp_pos _) ⟨0, Finset.mem_univ _⟩
  rw [hL, Ideal.div_coe hpos.ne', sum_mul_pos _ _ (one_div_pos.mpr hpos)]
  refine Finset.sum_congr rfl fun k _ => ?_
  rw [Ideal.div_coe hpos.ne', mul_right_comm]

end Cert.Proof.Softmax

end
-- ==== Proof.Attn.Block.lean ====
/- What one grid point of the attention kernel stores, entry by entry. -/
module

public import proofs.«01_k».proof.Proof.Gen.KernelIdeal.Skeleton
public import Idealize.ShloMosaic.Lib.Pointwise
public import proofs.«01_k».proof.Proof.Softmax

@[expose] public section

set_option maxRecDepth 16384

noncomputable section

namespace Cert.Proof.Attn

open Idealize.ShloMosaic Idealize.ShloMosaic.TcCoe Idealize.SL.Sem
open Cert.KernelIdeal Cert.KernelIdeal.Gen Cert.Proof.Softmax

/-- A block of latent rows: one row of finite queries against all 4352 finite keys. -/
theorem pay4_at (q : FVec Ideal S1x1x256x256 .bf16) (z : FVec Ideal S1x256x128 .bf16) (k : FVec Ideal S1x1x4352x256 .bf16)
    (v : FVec Ideal S1x1x4352x128 .bf16) (r : Fin 256) (l : Fin 128)
    (hq : ∀ d : Fin 256, IsNum (q (ix4 0 0 r d))) (hk : ∀ (y : Fin 4352) (d : Fin 256), IsNum (k (ix4 0 0 y d))) :
    k0_pay4 (F := Ideal) q z k v (ix3 0 r l : S1x256x128.Idx) = gate (z (ix3 0 r l))
      * att (fun y : Fin 4352 => ∑ d : Fin 256, q (ix4 0 0 r d) * k (ix4 0 0 y d)) (fun y => v (ix4 0 0 y l)) := by
  pointwise [k0_pay4, k0_pay1, k0_pay2]
  rw [ofBits_negInf, zero_sub]
  exact congrArg _ (div_after _ _ fun y => IsNum.sum _ fun d => (hq d).mul (hk y d))

/-- The block of context rows: one row of finite queries against the first 256 keys. -/
theorem pay3_at (q : FVec Ideal S1x1x256x256 .bf16) (z : FVec Ideal S1x256x128 .bf16) (k : FVec Ideal S1x1x256x256 .bf16)
    (v : FVec Ideal S1x1x256x128 .bf16) (r : Fin 256) (l : Fin 128)
    (hq : ∀ d : Fin 256, IsNum (q (ix4 0 0 r d))) (hk : ∀ (y : Fin 256) (d : Fin 256), IsNum (k (ix4 0 0 y d))) :
    k0_pay3 (F := Ideal) q z k v (ix3 0 r l : S1x256x128.Idx) = gate (z (ix3 0 r l))
      * att (fun y : Fin 256 => ∑ d : Fin 256, q (ix4 0 0 r d) * k (ix4 0 0 y d)) (fun y => v (ix4 0 0 y l)) := by
  pointwise [k0_pay3, k0_pay1, k0_pay2]
  rw [ofBits_negInf, zero_sub]
  exact congrArg _ (div_after _ _ fun y => IsNum.sum _ fun d => (hq d).mul (hk y d))

end Cert.Proof.Attn

end
-- ==== Proof.Attn.Spec.lean ====
/- Gated softmax attention, written once: the function that the kernel and the reference are both shown to compute. -/
module

public import proofs.«01_k».proof.Proof.Softmax

@[expose] public section

noncomputable section

namespace Cert.Proof.Attn

open Idealize.ShloMosaic Cert.Proof.Softmax

/-- A row of the context in batch row `b`, column `e`: the head is `e / 128`, the keys are the first 256. -/
def specC (Q K : FVec Ideal ⟨4, ![8, 8, 4352, 256]⟩ .bf16) (V : FVec Ideal ⟨4, ![8, 8, 4352, 128]⟩ .bf16) (Z : FVec Ideal ⟨3, ![8, 4352, 6400]⟩ .bf16)
    (b : Fin 8) (i : Fin 4352) (e : Fin 1024) : EReal :=
  gate (Z (ix3 b i ⟨5376 + e.val, by omega⟩))
    * att (fun y : Fin 256 => ∑ d : Fin 256, Q (ix4 b ⟨e.val / 128, by omega⟩ i d) * K (ix4 b ⟨e.val / 128, by omega⟩ ⟨y.val, by omega⟩ d))
        (fun y => V (ix4 b ⟨e.val / 128, by omega⟩ ⟨y.val, by omega⟩ ⟨e.val % 128, by omega⟩))

/-- A row of the latents: the keys are all 4352. -/
def specL (Q K : FVec Ideal ⟨4, ![8, 8, 4352, 256]⟩ .bf16) (V : FVec Ideal ⟨4, ![8, 8, 4352, 128]⟩ .bf16) (Z : FVec Ideal ⟨3, ![8, 4352, 6400]⟩ .bf16)
    (b : Fin 8) (i : Fin 4352) (e : Fin 1024) : EReal :=
  gate (Z (ix3 b i ⟨5376 + e.val, by omega⟩))
    * att (fun y : Fin 4352 => ∑ d : Fin 256, Q (ix4 b ⟨e.val / 128, by omega⟩ i d) * K (ix4 b ⟨e.val / 128, by omega⟩ y d))
        (fun y => V (ix4 b ⟨e.val / 128, by omega⟩ y ⟨e.val % 128, by omega⟩))

/-- The whole result: the first 256 rows are the context's. -/
def SPEC (Q K : FVec Ideal ⟨4, ![8, 8, 4352, 256]⟩ .bf16) (V : FVec Ideal ⟨4, ![8, 8, 4352, 128]⟩ .bf16) (Z : FVec Ideal ⟨3, ![8, 4352, 6400]⟩ .bf16) :
    FVec Ideal ⟨3, ![8, 4352, 1024]⟩ .bf16 := fun j =>
  if (j 1).val < 256 then specC Q K V Z (j 0) (j 1) (j 2) else specL Q K V Z (j 0) (j 1) (j 2)

/-- `specC` with the head and the lane of the column named. -/
theorem specC_col (Q K : FVec Ideal ⟨4, ![8, 8, 4352, 256]⟩ .bf16) (V : FVec Ideal ⟨4, ![8, 8, 4352, 128]⟩ .bf16) (Z : FVec Ideal ⟨3, ![8, 4352, 6400]⟩ .bf16)
    (b : Fin 8) (i : Fin 4352) (e : Fin 1024) (h : Fin 8) (l : Fin 128) (he : e.val = h.val * 128 + l.val) :
    specC Q K V Z b i e = gate (Z (ix3 b i ⟨5376 + e.val, by omega⟩))
      * att (fun y : Fin 256 => ∑ d : Fin 256, Q (ix4 b h i d) * K (ix4 b h ⟨y.val, by omega⟩ d)) (fun y => V (ix4 b h ⟨y.val, by omega⟩ l)) := by
  have e1 : (⟨e.val / 128, by omega⟩ : Fin 8) = h := Fin.ext (by show e.val / 128 = h.val; omega)
  have e2 : (⟨e.val % 128, by omega⟩ : Fin 128) = l := Fin.ext (by show e.val % 128 = l.val; omega)
  unfold specC
  rw [e1, e2]

/-- `specL` with the head and the lane of the column named. -/
theorem specL_col (Q K : FVec Ideal ⟨4, ![8, 8, 4352, 256]⟩ .bf16) (V : FVec Ideal ⟨4, ![8, 8, 4352, 128]⟩ .bf16) (Z : FVec Ideal ⟨3, ![8, 4352, 6400]⟩ .bf16)
    (b : Fin 8) (i : Fin 4352) (e : Fin 1024) (h : Fin 8) (l : Fin 128) (he : e.val = h.val * 128 + l.val) :
    specL Q K V Z b i e = gate (Z (ix3 b i ⟨5376 + e.val, by omega⟩))
      * att (fun y : Fin 4352 => ∑ d : Fin 256, Q (ix4 b h i d) * K (ix4 b h y d)) (fun y => V (ix4 b h y l)) := by
  have e1 : (⟨e.val / 128, by omega⟩ : Fin 8) = h := Fin.ext (by show e.val / 128 = h.val; omega)
  have e2 : (⟨e.val % 128, by omega⟩ : Fin 128) = l := Fin.ext (by show e.val % 128 = l.val; omega)
  unfold specL
  rw [e1, e2]

/-- Equal scores and equal values have equal attention. -/
theorem att_congr {n : ℕ} {s s' v v' : Fin n → EReal} (hs : ∀ y, s y = s' y) (hv : ∀ y, v y = v' y) : att s v = att s' v' := by
  rw [funext hs, funext hv]

end Cert.Proof.Attn

end
-- ==== Proof.Attn.Final.lean ====
/- What the attention kernel's result array holds after the run. -/
module

public import proofs.«01_k».proof.Proof.Gen.KernelIdeal.Value
public import Idealize.ShloMosaic.Lib.Pipeline.ValueKit
public import Idealize.ShloMosaic.Lib.Pipeline.Covers
public import proofs.«01_k».proof.Proof.Attn.Block
public import proofs.«01_k».proof.Proof.Attn.Spec

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen Cert.Proof.Softmax

variable (m : (ℓ : Loc nD τ sig) → Buf (Elt Ideal) ℓ)

/-- The blocks of grid point `t`: batch row `t / 136`, head `t / 17 % 8`, query block `t % 17`. -/
theorem idx : ∀ t : Fin cfg0.N,
    win0_0.index t = ![t.val / 136, t.val / 17 % 8, t.val % 17, 0]
    ∧ win0_1.index t = ![t.val / 136, t.val / 17 % 8, 0, 0]
    ∧ win0_2.index t = ![t.val / 136, t.val / 17 % 8, 0, 0]
    ∧ win0_3.index t = ![t.val / 136, t.val % 17, t.val / 17 % 8 + 42]
    ∧ win0_4.index t = ![t.val / 136, t.val % 17, t.val / 17 % 8] :=
  (by decide +kernel : ∀ t : Fin grid0.N, _)

/-- Every block of the result is some grid point's. -/
theorem covers : (cfg0.win 4).Covers :=
  (cfg0.win 4).covers_of_index_surj rfl (by decide) fun β => by
    have h0 : (β 0).val < 8 := (β 0).isLt
    have h1 : (β 1).val < 17 := (β 1).isLt
    have h2 : (β 2).val < 8 := (β 2).isLt
    refine ⟨⟨((β 0).val * 8 + (β 2).val) * 17 + (β 1).val, lt_of_lt_of_eq (by omega) N_0.symm⟩, fun a => ?_⟩
    show win0_4.index _ a = _
    rw [(idx _).2.2.2.2]
    fin_cases a <;> simp <;> omega

/-- The batch row, the head, the row and the column of the arrays that grid point `t` works on. -/
def tb (t : Fin cfg0.N) : Fin 8 := ⟨t.val / 136, by have : t.val < 1088 := lt_of_lt_of_eq t.isLt N_0; omega⟩
def th (t : Fin cfg0.N) : Fin 8 := ⟨t.val / 17 % 8, by omega⟩
def ti (t : Fin cfg0.N) (r : Fin 256) : Fin 4352 := ⟨t.val % 17 * 256 + r.val, by omega⟩
def te (t : Fin cfg0.N) (l : Fin 128) : Fin 1024 := ⟨t.val / 17 % 8 * 128 + l.val, by omega⟩

theorem q_at (c : Dev nD) (t : Fin cfg0.N) (r d : Fin 256) :
    (show EReal from iblk m c 0 t (ix4 0 0 r d : S1x1x256x256.Idx)) = m ((c : Thread nD τ).loc main_arg0) (ix4 (tb t) (th t) (ti t r) d : S8x8x4352x256.Idx) := by
  blk_point [iblk, V, idx t, tb, th, ti]

theorem k_at (c : Dev nD) (t : Fin cfg0.N) (y : Fin 4352) (d : Fin 256) :
    (show EReal from iblk m c 1 t (ix4 0 0 y d : S1x1x4352x256.Idx)) = m ((c : Thread nD τ).loc main_arg1) (ix4 (tb t) (th t) y d : S8x8x4352x256.Idx) := by
  blk_point [iblk, V, idx t, tb, th]

theorem v_at (c : Dev nD) (t : Fin cfg0.N) (y : Fin 4352) (l : Fin 128) :
    (show EReal from iblk m c 2 t (ix4 0 0 y l : S1x1x4352x128.Idx)) = m ((c : Thread nD τ).loc main_arg2) (ix4 (tb t) (th t) y l : S8x8x4352x128.Idx) := by
  blk_point [iblk, V, idx t, tb, th]

theorem z_at (c : Dev nD) (t : Fin cfg0.N) (r : Fin 256) (l : Fin 128) :
    (show EReal from iblk m c 3 t (ix3 0 r l : S1x256x128.Idx)) = m ((c : Thread nD τ).loc main_arg3) (ix3 (tb t) (ti t r) ⟨5376 + (te t l).val, by have := (te t l).isLt; omega⟩ : S8x4352x6400.Idx) := by
  blk_point [iblk, V, idx t, tb, te, ti]

theorem o_emb (t : Fin cfg0.N) (r : Fin 256) (l : Fin 128) :
    ((cfg0.win 4).blk t).view.emb (ix3 0 r l : S1x256x128.Idx) = (ix3 (tb t) (ti t r) (te t l) : S8x4352x1024.Idx) := by
  blk_ext [idx t, tb, te, ti]

/-- The first 256 rows of the staged keys. -/
theorem k_first (c : Dev nD) (t : Fin cfg0.N) (y d : Fin 256) (h : _) :
    (show EReal from View.ld (iblk m c 1 t) (Rect.unit ![0, 0, 0, 0] ![1, 1, 256, 256] h) (ix4 0 0 y d : S1x1x256x256.Idx))
      = m ((c : Thread nD τ).loc main_arg1) (ix4 (tb t) (th t) ⟨y.val, by omega⟩ d : S8x8x4352x256.Idx) := by
  refine Eq.trans ?_ (k_at m c t ⟨y.val, by omega⟩ d)
  pointwise []

/-- The first 256 rows of the staged values. -/
theorem v_first (c : Dev nD) (t : Fin cfg0.N) (y : Fin 256) (l : Fin 128) (h : _) :
    (show EReal from View.ld (iblk m c 2 t) (Rect.unit ![0, 0, 0, 0] ![1, 1, 256, 128] h) (ix4 0 0 y l : S1x1x256x128.Idx))
      = m ((c : Thread nD τ).loc main_arg2) (ix4 (tb t) (th t) ⟨y.val, by omega⟩ l : S8x8x4352x128.Idx) := by
  refine Eq.trans ?_ (v_at m c t ⟨y.val, by omega⟩ l)
  pointwise []

/-- What grid point `t` leaves for the result, at an entry of its block, is `SPEC` at the entry's place, the queries and
    the keys being finite. -/
theorem point (c : Dev nD) (hQ : ∀ i : S8x8x4352x256.Idx, IsNum (m ((c : Thread nD τ).loc main_arg0) i))
    (hK : ∀ i : S8x8x4352x256.Idx, IsNum (m ((c : Thread nD τ).loc main_arg1) i)) (t : Fin cfg0.N) (r : Fin 256) (l : Fin 128) :
    (show EReal from outsAt0 m c t.val t.isLt (ix3 0 r l : S1x256x128.Idx)) = SPEC (m ((c : Thread nD τ).loc main_arg0)) (m ((c : Thread nD τ).loc main_arg1))
      (m ((c : Thread nD τ).loc main_arg2)) (m ((c : Thread nD τ).loc main_arg3)) (ix3 (tb t) (ti t r) (te t l)) := by
  have hq : ∀ d : Fin 256, IsNum (show EReal from iblk m c 0 t (ix4 0 0 r d : S1x1x256x256.Idx)) := fun d => by
    rw [q_at]; exact hQ _
  by_cases h0 : t.val % 17 = 0
  · rw [outsAt0_A m c t h0 (by omega)]
    frame_out
    refine (pay3_at _ _ _ _ r l hq fun y d => (congrArg IsNum (k_first m c t y d _)).mpr (hK _)).trans ?_
    refine Eq.trans ?_ (if_pos (show t.val % 17 * 256 + r.val < 256 by omega)).symm
    refine Eq.trans ?_ (specC_col _ _ _ _ _ _ (te t l) (th t) l rfl).symm
    refine congrArg₂ (· * ·) (congrArg gate (z_at m c t r l)) (att_congr (fun y => ?_) fun y => v_first m c t y l _)
    exact Finset.sum_congr rfl fun d _ => congrArg₂ (· * ·) (q_at m c t r d) (k_first m c t y d _)
  · rw [outsAt0_B m c t h0 (by omega)]
    frame_out
    refine (pay4_at _ _ _ _ r l hq fun y d => (congrArg IsNum (k_at m c t y d)).mpr (hK _)).trans ?_
    refine Eq.trans ?_ (if_neg (show ¬ t.val % 17 * 256 + r.val < 256 by omega)).symm
    refine Eq.trans ?_ (specL_col _ _ _ _ _ _ (te t l) (th t) l rfl).symm
    refine congrArg₂ (· * ·) (congrArg gate (z_at m c t r l)) (att_congr (fun y => ?_) fun y => v_at m c t y l)
    exact Finset.sum_congr rfl fun d _ => congrArg₂ (· * ·) (q_at m c t r d) (k_at m c t y d)

/-- THE RESULT ARRAY after the run. -/
theorem final (c : Dev nD) (hQ : ∀ i : S8x8x4352x256.Idx, IsNum (m ((c : Thread nD τ).loc main_arg0) i))
    (hK : ∀ i : S8x8x4352x256.Idx, IsNum (m ((c : Thread nD τ).loc main_arg1) i)) :
    (dats m 0 c).arrAt 4 (cfgs 0).N = SPEC (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ covers fun t _ y => ?_
  blk_simp
  rw [after0_4]
  obtain ⟨r, l, rfl⟩ : ∃ (r : Fin 256) (l : Fin 128), y = (ix3 0 r l : S1x256x128.Idx) :=
    ⟨y 1, y 2, (eq_ix3 (n0 := 1) (n1 := 256) (n2 := 128) y).trans (congrArg (fun a => ix3 a _ _) (Subsingleton.elim _ _))⟩
  exact (point m c hQ hK t r l).trans (congrArg (SPEC _ _ _ _) (o_emb t r l).symm)

end Cert.Proof.Attn

end
-- ==== Proof.Attn.Ref.lean ====
/- What the attention's reference computes, entry by entry: the rows of the context and the rows of the latents apart. -/
module

public import proofs.«01_k».proof.Proof.Gen.ReferenceIdeal.Run
public import Idealize.ShloMosaic.Lib.Pointwise
public import Idealize.ShloMosaic.Lib.Pipeline.ValueKit
public import proofs.«01_k».proof.Proof.Attn.Spec

@[expose] public section

set_option maxRecDepth 16384

noncomputable section

namespace Cert.Proof.Attn

open Idealize.ShloMosaic Idealize.ShloMosaic.TcCoe Idealize.SL.Sem
open Cert.ReferenceIdeal Cert.ReferenceIdeal.Gen Cert.Proof.Softmax

/-- The exponentials of the scores less their row's maximum, for the queries of the context. -/
def expsC (Q : FVec Ideal S8x8x256x256 .f32) (K : FVec Ideal S8x8x256x256 .f32) : FVec Ideal S8x8x256x256 .f32 :=
  Host.exp (subf (Host.dotGeneral dot_S8x8x256x256_S8x8x256x256_S8x8x256x256_3_3_2_2_01_01 none Q K)
    (broadcastInDim S8x8x256x256 ![0, 1, 2, 3] bcast_S8x8x256x1_S8x8x256x256_0_1_2_3
      (broadcastInDim S8x8x256x1 ![0, 1, 2] bcast_S8x8x256_S8x8x256x1_0_1_2
        (maximumf (broadcastInDim S8x8x256 ![] bcast_S_S8x8x256 (constant S_ .f32 0xFF800000#32))
          (Host.reduce FloatOps.maximumf (Host.dotGeneral dot_S8x8x256x256_S8x8x256x256_S8x8x256x256_3_3_2_2_01_01 none Q K)
            (constant S_ .f32 0xFF800000#32) reducesTo_S8x8x256x256_S8x8x256_d3 h_S_)))))

/-- The attention of the context, gated by `x / (1 + exp (-x))` of the gate's columns, the heads side by side. -/
def outC (Q : FVec Ideal S8x8x256x256 .f32) (K : FVec Ideal S8x8x256x256 .f32) (V : FVec Ideal S8x8x256x128 .f32) (Z : FVec Ideal S8x256x1024 .f32) :
    FVec Ideal S8x256x1024 .f32 :=
  mulf (mulf Z (Host.divf (broadcastInDim S8x256x1024 ![] bcast_S_S8x256x1024 (constant S_ .f32 0x3F800000#32))
      (addf (broadcastInDim S8x256x1024 ![] bcast_S_S8x256x1024 (constant S_ .f32 0x3F800000#32)) (Host.exp (Host.negf Z)))))
    (shapeCast S8x256x1024 (transpose S8x256x8x128 [0, 2, 1, 3]
      (Host.dotGeneral dot_S8x8x256x256_S8x8x256x128_S8x8x256x128_3_2_2_3_01_01 none
        (Host.divf (expsC Q K)
          (broadcastInDim S8x8x256x256 ![0, 1, 2, 3] bcast_S8x8x256x1_S8x8x256x256_0_1_2_3
            (broadcastInDim S8x8x256x1 ![0, 1, 2] bcast_S8x8x256_S8x8x256x1_0_1_2
              (Host.reduceAdd (expsC Q K) (constant S_ .f32 0x00000000#32) reducesTo_S8x8x256x256_S8x8x256_d3 h_S_))))
        V) transposes_S8x8x256x128_S8x256x8x128_0_2_1_3) shapeCasts_S8x256x8x128_S8x256x1024)

/-- The exponentials of the scores less their row's maximum, for the queries of the latents. -/
def expsL (Q : FVec Ideal S8x8x4096x256 .f32) (K : FVec Ideal S8x8x4352x256 .f32) : FVec Ideal S8x8x4096x4352 .f32 :=
  Host.exp (subf (Host.dotGeneral dot_S8x8x4096x256_S8x8x4352x256_S8x8x4096x4352_3_3_2_2_01_01 none Q K)
    (broadcastInDim S8x8x4096x4352 ![0, 1, 2, 3] bcast_S8x8x4096x1_S8x8x4096x4352_0_1_2_3
      (broadcastInDim S8x8x4096x1 ![0, 1, 2] bcast_S8x8x4096_S8x8x4096x1_0_1_2
        (maximumf (broadcastInDim S8x8x4096 ![] bcast_S_S8x8x4096 (constant S_ .f32 0xFF800000#32))
          (Host.reduce FloatOps.maximumf (Host.dotGeneral dot_S8x8x4096x256_S8x8x4352x256_S8x8x4096x4352_3_3_2_2_01_01 none Q K)
            (constant S_ .f32 0xFF800000#32) reducesTo_S8x8x4096x4352_S8x8x4096_d3 h_S_)))))

/-- The attention of the latents, gated by `x / (1 + exp (-x))` of the gate's columns, the heads side by side. -/
def outL (Q : FVec Ideal S8x8x4096x256 .f32) (K : FVec Ideal S8x8x4352x256 .f32) (V : FVec Ideal S8x8x4352x128 .f32) (Z : FVec Ideal S8x4096x1024 .f32) :
    FVec Ideal S8x4096x1024 .f32 :=
  mulf (mulf Z (Host.divf (broadcastInDim S8x4096x1024 ![] bcast_S_S8x4096x1024 (constant S_ .f32 0x3F800000#32))
      (addf (broadcastInDim S8x4096x1024 ![] bcast_S_S8x4096x1024 (constant S_ .f32 0x3F800000#32)) (Host.exp (Host.negf Z)))))
    (shapeCast S8x4096x1024 (transpose S8x4096x8x128 [0, 2, 1, 3]
      (Host.dotGeneral dot_S8x8x4096x4352_S8x8x4352x128_S8x8x4096x128_3_2_2_3_01_01 none
        (Host.divf (expsL Q K)
          (broadcastInDim S8x8x4096x4352 ![0, 1, 2, 3] bcast_S8x8x4096x1_S8x8x4096x4352_0_1_2_3
            (broadcastInDim S8x8x4096x1 ![0, 1, 2] bcast_S8x8x4096_S8x8x4096x1_0_1_2
              (Host.reduceAdd (expsL Q K) (constant S_ .f32 0x00000000#32) reducesTo_S8x8x4096x4352_S8x8x4096_d3 h_S_))))
        V) transposes_S8x8x4096x128_S8x4096x8x128_0_2_1_3) shapeCasts_S8x4096x8x128_S8x4096x1024)

/-- The reference as a function of its four arguments. -/
def REF (Q K : FVec Ideal S8x8x4352x256 .bf16) (V : FVec Ideal S8x8x4352x128 .bf16) (Z : FVec Ideal S8x4352x6400 .bf16) :
    FVec Ideal S8x4352x1024 .bf16 :=
  truncf .bf16 (concatenate S8x4352x1024 1
    [⟨S8x256x1024, outC (extractStridedSlice S8x8x256x256 ![0, 0, 0, 0] (extf .f32 Q bitsLt_bf16_f32) slices_S8x8x4352x256_S8x8x256x256_0_0_0_0)
        (extractStridedSlice S8x8x256x256 ![0, 0, 0, 0] (extf .f32 K bitsLt_bf16_f32) slices_S8x8x4352x256_S8x8x256x256_0_0_0_0)
        (extractStridedSlice S8x8x256x128 ![0, 0, 0, 0] (extf .f32 V bitsLt_bf16_f32) slices_S8x8x4352x128_S8x8x256x128_0_0_0_0)
        (extractStridedSlice S8x256x1024 ![0, 0, 0] (extf .f32 (extractStridedSlice S8x4352x1024 ![0, 0, 5376] Z
          slices_S8x4352x6400_S8x4352x1024_0_0_5376) bitsLt_bf16_f32) slices_S8x4352x1024_S8x256x1024_0_0_0)⟩,
     ⟨S8x4096x1024, outL (extractStridedSlice S8x8x4096x256 ![0, 0, 256, 0] (extf .f32 Q bitsLt_bf16_f32) slices_S8x8x4352x256_S8x8x4096x256_0_0_256_0)
        (extf .f32 K bitsLt_bf16_f32) (extf .f32 V bitsLt_bf16_f32)
        (extractStridedSlice S8x4096x1024 ![0, 256, 0] (extf .f32 (extractStridedSlice S8x4352x1024 ![0, 0, 5376] Z
          slices_S8x4352x6400_S8x4352x1024_0_0_5376) bitsLt_bf16_f32) slices_S8x4352x1024_S8x4096x1024_0_256_0)⟩]
    concatenates_S8x256x1024_S8x4096x1024_S8x4352x1024_d1) bitsLt_bf16_f32

/-- The reference's run ends with `REF` of the arguments. -/
theorem res_eq (m : (ℓ : Loc nD τ sig) → Buf (Elt Ideal) ℓ) (c : Dev nD) :
    Cert.ReferenceIdeal.Value.res_out0 m c = REF (m ((c.tc : Thread nD τ).loc main_arg0)) (m ((c.tc : Thread nD τ).loc main_arg1))
      (m ((c.tc : Thread nD τ).loc main_arg2)) (m ((c.tc : Thread nD τ).loc main_arg3)) := by
  unfold Cert.ReferenceIdeal.Value.res_out0 Cert.ReferenceIdeal.Value.res_main_v46
  rfl

/-- The scores of the context at an index. -/
theorem scoreC_at (Q : FVec Ideal S8x8x256x256 .f32) (K : FVec Ideal S8x8x256x256 .f32) (b h : Fin 8) (i : Fin 256) (x : Fin 256) :
    Host.dotGeneral dot_S8x8x256x256_S8x8x256x256_S8x8x256x256_3_3_2_2_01_01 none Q K (ix4 b h i x)
      = ∑ d : Fin 256, Q (ix4 b h i d) * K (ix4 b h x d) := by
  pointwise []

/-- The maximum of each row of scores. -/
theorem rowmaxC_at (S : FVec Ideal S8x8x256x256 .f32) (b h : Fin 8) (i : Fin 256) :
    Host.reduce FloatOps.maximumf S (constant S_ .f32 0xFF800000#32) reducesTo_S8x8x256x256_S8x8x256_d3 h_S_ (ix3 b h i)
      = Finset.univ.fold max (Ideal.ofBits .f32 0xFF800000#32) fun y : Fin 256 => S (ix4 b h i y) := by
  pointwise []

/-- The sum of each row, the initial zero added. -/
theorem rowsumC_at (S : FVec Ideal S8x8x256x256 .f32) (b h : Fin 8) (i : Fin 256) :
    Host.reduceAdd S (constant S_ .f32 0x00000000#32) reducesTo_S8x8x256x256_S8x8x256_d3 h_S_ (ix3 b h i)
      = ∑ y : Fin 256, S (ix4 b h i y) := by
  pointwise []

/-- A number per row, spread over the row. -/
theorem spreadC_at (M : FVec Ideal S8x8x256 .f32) (b h : Fin 8) (i : Fin 256) (x : Fin 256) :
    broadcastInDim S8x8x256x256 ![0, 1, 2, 3] bcast_S8x8x256x1_S8x8x256x256_0_1_2_3
      (broadcastInDim S8x8x256x1 ![0, 1, 2] bcast_S8x8x256_S8x8x256x1_0_1_2 M) (ix4 b h i x) = M (ix3 b h i) := by
  pointwise []

/-- The maximum with minus infinity. -/
theorem maxInitC_at (M : FVec Ideal S8x8x256 .f32) (b h : Fin 8) (i : Fin 256) :
    maximumf (broadcastInDim S8x8x256 ![] bcast_S_S8x8x256 (constant S_ .f32 0xFF800000#32)) M (ix3 b h i)
      = max (Ideal.ofBits .f32 0xFF800000#32) (M (ix3 b h i)) := by
  pointwise []

/-- The exponentials at an index. -/
theorem expsC_at (Q : FVec Ideal S8x8x256x256 .f32) (K : FVec Ideal S8x8x256x256 .f32) (b h : Fin 8) (i : Fin 256) (x : Fin 256) :
    expsC Q K (ix4 b h i x) = Ideal.exp (∑ d : Fin 256, Q (ix4 b h i d) * K (ix4 b h x d)
      - (Finset.univ : Finset (Fin 256)).fold max ⊥ fun y => ∑ d : Fin 256, Q (ix4 b h i d) * K (ix4 b h y d)) := by
  unfold expsC
  show Ideal.exp ((Host.dotGeneral dot_S8x8x256x256_S8x8x256x256_S8x8x256x256_3_3_2_2_01_01 none Q K (ix4 b h i x) : EReal) - _) = _
  rw [scoreC_at, spreadC_at, maxInitC_at, rowmaxC_at]
  simp only [scoreC_at, ofBits_negInf]
  rw [max_eq_right bot_le]

/-- The weighted sum of the values at an index. -/
theorem mixC_at (P : FVec Ideal S8x8x256x256 .f32) (V : FVec Ideal S8x8x256x128 .f32) (b h : Fin 8) (i : Fin 256) (l : Fin 128) :
    Host.dotGeneral dot_S8x8x256x256_S8x8x256x128_S8x8x256x128_3_2_2_3_01_01 none P V (ix4 b h i l) = ∑ y : Fin 256, P (ix4 b h i y) * V (ix4 b h y l) := by
  pointwise []

/-- The heads moved side by side: column `e` is lane `e % 128` of head `e / 128`. -/
theorem headsC_at (O : FVec Ideal S8x8x256x128 .f32) (b : Fin 8) (i : Fin 256) (e : Fin 1024) :
    shapeCast S8x256x1024 (transpose S8x256x8x128 [0, 2, 1, 3] O transposes_S8x8x256x128_S8x256x8x128_0_2_1_3) shapeCasts_S8x256x8x128_S8x256x1024 (ix3 b i e)
      = O (ix4 b ⟨e.val / 128, by omega⟩ i ⟨e.val % 128, by omega⟩) := by
  pointwise []

/-- The gate at an index. -/
theorem gateC_at (Z : FVec Ideal S8x256x1024 .f32) (b : Fin 8) (i : Fin 256) (e : Fin 1024) :
    mulf Z (Host.divf (broadcastInDim S8x256x1024 ![] bcast_S_S8x256x1024 (constant S_ .f32 0x3F800000#32))
      (addf (broadcastInDim S8x256x1024 ![] bcast_S_S8x256x1024 (constant S_ .f32 0x3F800000#32)) (Host.exp (Host.negf Z)))) (ix3 b i e)
      = Z (ix3 b i e) * Ideal.div 1 (1 + Ideal.exp (-Z (ix3 b i e))) := by
  pointwise []

/-- The gated attention of the context at an index. -/
theorem outC_at (Q : FVec Ideal S8x8x256x256 .f32) (K : FVec Ideal S8x8x256x256 .f32) (V : FVec Ideal S8x8x256x128 .f32) (Z : FVec Ideal S8x256x1024 .f32)
    (b : Fin 8) (i : Fin 256) (e : Fin 1024) :
    outC Q K V Z (ix3 b i e) = Z (ix3 b i e) * Ideal.div 1 (1 + Ideal.exp (-Z (ix3 b i e)))
      * ∑ y : Fin 256, Ideal.div (expsC Q K (ix4 b ⟨e.val / 128, by omega⟩ i y))
          (∑ y : Fin 256, expsC Q K (ix4 b ⟨e.val / 128, by omega⟩ i y)) * V (ix4 b ⟨e.val / 128, by omega⟩ y ⟨e.val % 128, by omega⟩) := by
  unfold outC
  refine congrArg₂ (· * ·) (gateC_at Z b i e) ?_
  rw [headsC_at, mixC_at]
  refine Finset.sum_congr rfl fun y _ => congrArg (· * _) ?_
  refine congrArg₂ Ideal.div rfl ?_
  rw [spreadC_at, rowsumC_at]

/-- The scores of the latents at an index. -/
theorem scoreL_at (Q : FVec Ideal S8x8x4096x256 .f32) (K : FVec Ideal S8x8x4352x256 .f32) (b h : Fin 8) (i : Fin 4096) (x : Fin 4352) :
    Host.dotGeneral dot_S8x8x4096x256_S8x8x4352x256_S8x8x4096x4352_3_3_2_2_01_01 none Q K (ix4 b h i x)
      = ∑ d : Fin 256, Q (ix4 b h i d) * K (ix4 b h x d) := by
  pointwise []

/-- The maximum of each row of scores. -/
theorem rowmaxL_at (S : FVec Ideal S8x8x4096x4352 .f32) (b h : Fin 8) (i : Fin 4096) :
    Host.reduce FloatOps.maximumf S (constant S_ .f32 0xFF800000#32) reducesTo_S8x8x4096x4352_S8x8x4096_d3 h_S_ (ix3 b h i)
      = Finset.univ.fold max (Ideal.ofBits .f32 0xFF800000#32) fun y : Fin 4352 => S (ix4 b h i y) := by
  pointwise []

/-- The sum of each row, the initial zero added. -/
theorem rowsumL_at (S : FVec Ideal S8x8x4096x4352 .f32) (b h : Fin 8) (i : Fin 4096) :
    Host.reduceAdd S (constant S_ .f32 0x00000000#32) reducesTo_S8x8x4096x4352_S8x8x4096_d3 h_S_ (ix3 b h i)
      = ∑ y : Fin 4352, S (ix4 b h i y) := by
  pointwise []

/-- A number per row, spread over the row. -/
theorem spreadL_at (M : FVec Ideal S8x8x4096 .f32) (b h : Fin 8) (i : Fin 4096) (x : Fin 4352) :
    broadcastInDim S8x8x4096x4352 ![0, 1, 2, 3] bcast_S8x8x4096x1_S8x8x4096x4352_0_1_2_3
      (broadcastInDim S8x8x4096x1 ![0, 1, 2] bcast_S8x8x4096_S8x8x4096x1_0_1_2 M) (ix4 b h i x) = M (ix3 b h i) := by
  pointwise []

/-- The maximum with minus infinity. -/
theorem maxInitL_at (M : FVec Ideal S8x8x4096 .f32) (b h : Fin 8) (i : Fin 4096) :
    maximumf (broadcastInDim S8x8x4096 ![] bcast_S_S8x8x4096 (constant S_ .f32 0xFF800000#32)) M (ix3 b h i)
      = max (Ideal.ofBits .f32 0xFF800000#32) (M (ix3 b h i)) := by
  pointwise []

/-- The exponentials at an index. -/
theorem expsL_at (Q : FVec Ideal S8x8x4096x256 .f32) (K : FVec Ideal S8x8x4352x256 .f32) (b h : Fin 8) (i : Fin 4096) (x : Fin 4352) :
    expsL Q K (ix4 b h i x) = Ideal.exp (∑ d : Fin 256, Q (ix4 b h i d) * K (ix4 b h x d)
      - (Finset.univ : Finset (Fin 4352)).fold max ⊥ fun y => ∑ d : Fin 256, Q (ix4 b h i d) * K (ix4 b h y d)) := by
  unfold expsL
  show Ideal.exp ((Host.dotGeneral dot_S8x8x4096x256_S8x8x4352x256_S8x8x4096x4352_3_3_2_2_01_01 none Q K (ix4 b h i x) : EReal) - _) = _
  rw [scoreL_at, spreadL_at, maxInitL_at, rowmaxL_at]
  simp only [scoreL_at, ofBits_negInf]
  rw [max_eq_right bot_le]

/-- The weighted sum of the values at an index. -/
theorem mixL_at (P : FVec Ideal S8x8x4096x4352 .f32) (V : FVec Ideal S8x8x4352x128 .f32) (b h : Fin 8) (i : Fin 4096) (l : Fin 128) :
    Host.dotGeneral dot_S8x8x4096x4352_S8x8x4352x128_S8x8x4096x128_3_2_2_3_01_01 none P V (ix4 b h i l) = ∑ y : Fin 4352, P (ix4 b h i y) * V (ix4 b h y l) := by
  pointwise []

/-- The heads moved side by side: column `e` is lane `e % 128` of head `e / 128`. -/
theorem headsL_at (O : FVec Ideal S8x8x4096x128 .f32) (b : Fin 8) (i : Fin 4096) (e : Fin 1024) :
    shapeCast S8x4096x1024 (transpose S8x4096x8x128 [0, 2, 1, 3] O transposes_S8x8x4096x128_S8x4096x8x128_0_2_1_3) shapeCasts_S8x4096x8x128_S8x4096x1024 (ix3 b i e)
      = O (ix4 b ⟨e.val / 128, by omega⟩ i ⟨e.val % 128, by omega⟩) := by
  pointwise []

/-- The gate at an index. -/
theorem gateL_at (Z : FVec Ideal S8x4096x1024 .f32) (b : Fin 8) (i : Fin 4096) (e : Fin 1024) :
    mulf Z (Host.divf (broadcastInDim S8x4096x1024 ![] bcast_S_S8x4096x1024 (constant S_ .f32 0x3F800000#32))
      (addf (broadcastInDim S8x4096x1024 ![] bcast_S_S8x4096x1024 (constant S_ .f32 0x3F800000#32)) (Host.exp (Host.negf Z)))) (ix3 b i e)
      = Z (ix3 b i e) * Ideal.div 1 (1 + Ideal.exp (-Z (ix3 b i e))) := by
  pointwise []

/-- The gated attention of the latents at an index. -/
theorem outL_at (Q : FVec Ideal S8x8x4096x256 .f32) (K : FVec Ideal S8x8x4352x256 .f32) (V : FVec Ideal S8x8x4352x128 .f32) (Z : FVec Ideal S8x4096x1024 .f32)
    (b : Fin 8) (i : Fin 4096) (e : Fin 1024) :
    outL Q K V Z (ix3 b i e) = Z (ix3 b i e) * Ideal.div 1 (1 + Ideal.exp (-Z (ix3 b i e)))
      * ∑ y : Fin 4352, Ideal.div (expsL Q K (ix4 b ⟨e.val / 128, by omega⟩ i y))
          (∑ y : Fin 4352, expsL Q K (ix4 b ⟨e.val / 128, by omega⟩ i y)) * V (ix4 b ⟨e.val / 128, by omega⟩ y ⟨e.val % 128, by omega⟩) := by
  unfold outL
  refine congrArg₂ (· * ·) (gateL_at Z b i e) ?_
  rw [headsL_at, mixL_at]
  refine Finset.sum_congr rfl fun y _ => congrArg (· * _) ?_
  refine congrArg₂ Ideal.div rfl ?_
  rw [spreadL_at, rowsumL_at]

/-- The two pieces one after the other along the tokens. -/
theorem cat_at (A : FVec Ideal S8x256x1024 .f32) (B : FVec Ideal S8x4096x1024 .f32) (b : Fin 8) (i : Fin 4352) (e : Fin 1024) :
    truncf .bf16 (concatenate S8x4352x1024 1 [⟨S8x256x1024, A⟩, ⟨S8x4096x1024, B⟩]
        concatenates_S8x256x1024_S8x4096x1024_S8x4352x1024_d1) bitsLt_bf16_f32 (ix3 b i e)
      = if h : i.val < 256 then A (ix3 b ⟨i.val, h⟩ e) else B (ix3 b ⟨i.val - 256, by omega⟩ e) := by
  pointwise []

/-- The first 256 rows, widened. -/
theorem first_at (Q : FVec Ideal S8x8x4352x256 .bf16) (b h : Fin 8) (i d : Fin 256) :
    extractStridedSlice S8x8x256x256 ![0, 0, 0, 0] (extf .f32 Q bitsLt_bf16_f32) slices_S8x8x4352x256_S8x8x256x256_0_0_0_0
      (ix4 b h i d) = Q (ix4 b h ⟨i.val, by omega⟩ d) := by
  pointwise []

/-- The first 256 rows of the values, widened. -/
theorem firstV_at (V : FVec Ideal S8x8x4352x128 .bf16) (b h : Fin 8) (i : Fin 256) (l : Fin 128) :
    extractStridedSlice S8x8x256x128 ![0, 0, 0, 0] (extf .f32 V bitsLt_bf16_f32) slices_S8x8x4352x128_S8x8x256x128_0_0_0_0
      (ix4 b h i l) = V (ix4 b h ⟨i.val, by omega⟩ l) := by
  pointwise []

/-- The rows from 256 on, widened. -/
theorem rest_at (Q : FVec Ideal S8x8x4352x256 .bf16) (b h : Fin 8) (i : Fin 4096) (d : Fin 256) :
    extractStridedSlice S8x8x4096x256 ![0, 0, 256, 0] (extf .f32 Q bitsLt_bf16_f32) slices_S8x8x4352x256_S8x8x4096x256_0_0_256_0
      (ix4 b h i d) = Q (ix4 b h ⟨256 + i.val, by omega⟩ d) := by
  pointwise []

/-- The gate's columns at the first 256 rows. -/
theorem gateC_src (Z : FVec Ideal S8x4352x6400 .bf16) (b : Fin 8) (i : Fin 256) (e : Fin 1024) :
    extractStridedSlice S8x256x1024 ![0, 0, 0] (extf .f32 (extractStridedSlice S8x4352x1024 ![0, 0, 5376] Z
          slices_S8x4352x6400_S8x4352x1024_0_0_5376) bitsLt_bf16_f32) slices_S8x4352x1024_S8x256x1024_0_0_0 (ix3 b i e)
      = Z (ix3 b ⟨i.val, by omega⟩ ⟨5376 + e.val, by omega⟩) := by
  pointwise []

/-- The gate's columns at the rows from 256 on. -/
theorem gateL_src (Z : FVec Ideal S8x4352x6400 .bf16) (b : Fin 8) (i : Fin 4096) (e : Fin 1024) :
    extractStridedSlice S8x4096x1024 ![0, 256, 0] (extf .f32 (extractStridedSlice S8x4352x1024 ![0, 0, 5376] Z
          slices_S8x4352x6400_S8x4352x1024_0_0_5376) bitsLt_bf16_f32) slices_S8x4352x1024_S8x4096x1024_0_256_0 (ix3 b i e)
      = Z (ix3 b ⟨256 + i.val, by omega⟩ ⟨5376 + e.val, by omega⟩) := by
  pointwise []

/-- THE REFERENCE is `SPEC`. -/
theorem ref_eq (Q K : FVec Ideal S8x8x4352x256 .bf16) (V : FVec Ideal S8x8x4352x128 .bf16) (Z : FVec Ideal S8x4352x6400 .bf16) :
    REF Q K V Z = SPEC Q K V Z := by
  funext j
  obtain ⟨b, i, e, rfl⟩ : ∃ (b : Fin 8) (i : Fin 4352) (e : Fin 1024), j = ix3 b i e := ⟨j 0, j 1, j 2, eq_ix3 j⟩
  show REF Q K V Z (ix3 b i e) = if i.val < 256 then specC Q K V Z b i e else specL Q K V Z b i e
  unfold REF
  rw [cat_at]
  split
  · rw [outC_at]
    simp only [expsC_at, first_at, firstV_at, gateC_src]
    rfl
  · rename_i hi
    have hj : (⟨256 + (i.val - 256), by omega⟩ : Fin 4352) = i := Fin.ext (by show 256 + (i.val - 256) = i.val; omega)
    rw [outL_at]
    simp only [expsL_at, rest_at, gateL_src, hj]
    rfl

end Cert.Proof.Attn

end
-- ==== Proof.Attn.Claim.lean ====
/- The claims about the attention: its frames, and the kernel's result equal to the reference's where the queries and the
   keys are finite. -/
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Run
public import Idealize.ShloMosaic.Lib.Claim
public import proofs.«01_k».proof.Proof.Attn.Final
public import proofs.«01_k».proof.Proof.Attn.Ref

@[expose] public section

set_option maxRecDepth 16384

noncomputable section

namespace Cert.Proof.Attn

open Idealize.ShloMosaic Idealize.ShloMosaic.TcCoe Idealize.SL.Sem Cert.Proof.Softmax

/-- The shape facts that the precondition's operations take. -/
instance preFacts : Cert.Pre_qk_finite.Facts where
  bitsLt_bf16_f32 := by decide
  bcast_S_S8x8x4352x256 := by decide

/-- The precondition, read at an index: the query and the key there are ordinary numbers. -/
theorem pre_at (Q K : FVec Ideal Cert.Pre_qk_finite.S8x8x4352x256 .bf16) (V : FVec Ideal Cert.Pre_qk_finite.S8x8x4352x128 .bf16)
    (Z : FVec Ideal Cert.Pre_qk_finite.S8x4352x6400 .bf16)
    (h : Cert.Pre_qk_finite.fn (F := Ideal) Q K V Z = fun _ => 1#1) (i : Cert.Pre_qk_finite.S8x8x4352x256.Idx) :
    IsNum (Q i) ∧ IsNum (K i) := by
  have hi := congrFun h i
  pointwise [Cert.Pre_qk_finite.fn] at hi
  rw [ofBits_posInf] at hi
  have key : ∀ a b : Bool, IntOp.andi (BitVec.ofBool a) (BitVec.ofBool b) = 1#1 → a = true ∧ b = true := by decide
  obtain ⟨ha, hb⟩ := key _ _ hi
  exact ⟨isNum_of_abs_lt (of_decide_eq_true ha), isNum_of_abs_lt (of_decide_eq_true hb)⟩

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_ideal_pre : Cert.quiescent_KernelIdeal_pre_qk_finite (hKernelIdeal := Cert.KernelIdeal.Gen.facts) (hPre_qk_finite := preFacts) :=
  fun m ρ _ => Cert.KernelIdeal.Gen.frame m ρ

theorem frame_ref : Cert.quiescent_ReferenceIdeal (hReferenceIdeal := Cert.ReferenceIdeal.Gen.facts) := by
  intro m g _
  exact (θ_run Cert.ReferenceIdeal.defs _ _).mono (fun r h => ⟨fun c => (h c).2, Idealize.ShloMosaic.sem_eq_zero_of_no_sems (by decide) r.2⟩)
    (Cert.ReferenceIdeal.Value.run (F := Ideal) m g)

theorem frame_ref_pre : Cert.quiescent_ReferenceIdeal_pre_qk_finite (hReferenceIdeal := Cert.ReferenceIdeal.Gen.facts) (hPre_qk_finite := preFacts) :=
  fun m g _ => frame_ref m g trivial

/-- THE VALUE CLAIM. -/
theorem algebraic : Cert.algebraic_KernelIdeal_ReferenceIdeal_pre_qk_finite (hKernelIdeal := Cert.KernelIdeal.Gen.facts)
    (hReferenceIdeal := Cert.ReferenceIdeal.Gen.facts) (hPre_qk_finite := preFacts) := by
  pair_intro
  · run_from Cert.KernelIdeal.Value.run_blocks m g
  · run_from Cert.ReferenceIdeal.Value.run m' g'
    refine (res_eq m' c).trans ?_
    rw [(hagree c).1, (hagree c).2.1, (hagree c).2.2.1, (hagree c).2.2.2, ref_eq]
    exact (final m c (fun i => (pre_at _ _ _ _ (hpre c) i).1) (fun i => (pre_at _ _ _ _ (hpre c) i).2)).symm

end Cert.Proof.Attn

end
-- ==== Proof.Inproj.Ideal.Run.lean ====
/- What one call of the kernel body stores: at the first column block of a row block, and at the later ones. -/
module

public import proofs.«01_k».proof.Proof.Gen.Kernel2Ideal.Skeleton
public import proofs.«01_k».proof.Proof.Gen.Kernel2Ideal.Frame
public import Idealize.ShloMosaic.Lib.Claim

@[expose] public section

set_option maxRecDepth 16384

noncomputable section

namespace Cert.Proof.Inproj.Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The five input blocks of one call of the body, each whole at its contents. -/
abbrev ins (c : Dev nD) (a0 : Memref sig .tc .vmem S1024x2048 .f32) (a1 : Memref sig .tc .vmem S16x2x2048 .f32)
    (a2 : Memref sig .tc .vmem S1x2048 .f32) (a3 : Memref sig .tc .vmem S2048x1280 .bf16) (a4 : Memref sig .tc .vmem S2048x128 .bf16)
    (x0 : Vec F S1024x2048 .f32) (x1 : Vec F S16x2x2048 .f32) (x2 : Vec F S1x2048 .f32) (x3 : Vec F S2048x1280 .bf16)
    (x4 : Vec F S2048x128 .bf16) : sProp 𝕄 :=
  iprop(owns (c : Thread nD τ) a0 fullShare x0 ∗ owns (c : Thread nD τ) a1 fullShare x1 ∗ owns (c : Thread nD τ) a2 fullShare x2
    ∗ owns (c : Thread nD τ) a3 fullShare x3 ∗ owns (c : Thread nD τ) a4 fullShare x4)

/-- A buffer that holds the listed pieces over what it held before. -/
abbrev pieces (c : Dev nD) {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

/-- At the first column block of a row block the body, given its inputs and three buffers at anything, ends with the
    inputs as they were and with pieces written to the main product, to the small product and to the scratch. -/
def first (c : Dev nD) (i : grid0.Coords) (a0 : Memref sig .tc .vmem S1024x2048 .f32) (h0 : a0.IsWhole)
    (a1 : Memref sig .tc .vmem S16x2x2048 .f32) (h1 : a1.IsWhole) (a2 : Memref sig .tc .vmem S1x2048 .f32) (h2 : a2.IsWhole)
    (a3 : Memref sig .tc .vmem S2048x1280 .bf16) (h3 : a3.IsWhole) (a4 : Memref sig .tc .vmem S2048x128 .bf16) (h4 : a4.IsWhole)
    (a5 : Memref sig .tc .vmem S1024x1280 .bf16) (h5 : a5.IsWhole) (a6 : Memref sig .tc .vmem S1024x128 .f32) (h6 : a6.IsWhole)
    (a7 : Memref sig .tc .vmem S1024x2048 .bf16) (h7 : a7.IsWhole) (hc : k0_cond1 i = 1#1)
    (x0 : Vec F S1024x2048 .f32) (x1 : Vec F S16x2x2048 .f32) (x2 : Vec F S1x2048 .f32) (x3 : Vec F S2048x1280 .bf16)
    (x4 : Vec F S2048x128 .bf16) :
    Σ' (L5 : List (View.Piece (Elt F) S1024x1280 .bf16)) (L6 : List (View.Piece (Elt F) S1024x128 .f32)),
      { L7 : List (View.Piece (Elt F) S1024x2048 .bf16) // ∀ (E : Set ℕ) (K : PUnit → sProp 𝕄),
        iprop(ins c a0 a1 a2 a3 a4 x0 x1 x2 x3 x4 ∗ (∃ d, owns (c : Thread nD τ) a5 fullShare d)
            ∗ (∃ d, owns (c : Thread nD τ) a6 fullShare d) ∗ (∃ d, owns (c : Thread nD τ) a7 fullShare d)
            ∗ (iprop(ins c a0 a1 a2 a3 a4 x0 x1 x2 x3 x4 ∗ pieces c a5 L5 ∗ pieces c a6 L6 ∗ pieces c a7 L7) -∗ K ⟨⟩))
          ⊢ wp frame (wpE (defs₀ (F := F)) Variants.none c none) E
              (cc0_inproj i a0 h0 a1 h1 a2 h2 a3 h3 a4 h4 a5 h5 a6 h6 a7 h7) K } := by
  refine ⟨?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton,
      k0_part6_eq_skeleton]
    unfold ins pieces owns
    iintro ⟨⟨⟨%f0, %e0, H0⟩, ⟨%f1, %e1, H1⟩, ⟨%f2, %e2, H2⟩, ⟨%f3, %e3, H3⟩, ⟨%f4, %e4, H4⟩⟩, ⟨%d5, %f5, -, H5⟩, ⟨%d6, %f6, -, H6⟩,
      ⟨%d7, %f7, -, H7⟩, Hk⟩
    obtain rfl := h0.eq_unread e0
    obtain rfl := h1.eq_unread e1
    obtain rfl := h2.eq_unread e2
    obtain rfl := h3.eq_unread e3
    obtain rfl := h4.eq_unread e4
    sl_exec (disch := sl_exact hc)
    sl_step
    iapply Hk
    isplitl [H0 H1 H2 H3 H4]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      iexists _; isplitr; · ipureintro; exact h4.read_unread _
      iexact H4
    isplitl [H5]; · iexists _; iexact H5
    isplitl [H6]; · iexists _; iexact H6
    iexists _; iexact H7

/-- At a later column block the body reads the scratch, writes pieces to the main product and leaves all else alone. -/
def later (c : Dev nD) (i : grid0.Coords) (a0 : Memref sig .tc .vmem S1024x2048 .f32) (h0 : a0.IsWhole)
    (a1 : Memref sig .tc .vmem S16x2x2048 .f32) (h1 : a1.IsWhole) (a2 : Memref sig .tc .vmem S1x2048 .f32) (h2 : a2.IsWhole)
    (a3 : Memref sig .tc .vmem S2048x1280 .bf16) (h3 : a3.IsWhole) (a4 : Memref sig .tc .vmem S2048x128 .bf16) (h4 : a4.IsWhole)
    (a5 : Memref sig .tc .vmem S1024x1280 .bf16) (h5 : a5.IsWhole) (a6 : Memref sig .tc .vmem S1024x128 .f32) (h6 : a6.IsWhole)
    (a7 : Memref sig .tc .vmem S1024x2048 .bf16) (h7 : a7.IsWhole) (hc : ¬k0_cond1 i = 1#1)
    (x3 : Vec F S2048x1280 .bf16) (x7 : Vec F S1024x2048 .bf16) :
    { L5 : List (View.Piece (Elt F) S1024x1280 .bf16) // ∀ (E : Set ℕ) (K : PUnit → sProp 𝕄),
        iprop(owns (c : Thread nD τ) a3 fullShare x3 ∗ (∃ d, owns (c : Thread nD τ) a5 fullShare d) ∗ owns (c : Thread nD τ) a7 fullShare x7
            ∗ (iprop(owns (c : Thread nD τ) a3 fullShare x3 ∗ pieces c a5 L5 ∗ owns (c : Thread nD τ) a7 fullShare x7) -∗ K ⟨⟩))
          ⊢ wp frame (wpE (defs₀ (F := F)) Variants.none c none) E
              (cc0_inproj i a0 h0 a1 h1 a2 h2 a3 h3 a4 h4 a5 h5 a6 h6 a7 h7) K } := by
  refine ⟨?_, fun E K => ?run⟩
  case run =>
    simp only [cc0_inproj_eq_skeleton]; unfold cc0_inproj_skel
    unfold pieces owns
    iintro ⟨⟨%f3, %e3, H3⟩, ⟨%d5, %f5, -, H5⟩, ⟨%f7, %e7, H7⟩, Hk⟩
    obtain rfl := h3.eq_unread e3
    obtain rfl := h7.eq_unread e7
    sl_exec (disch := sl_exact hc)
    sl_step
    iapply Hk
    isplitl [H3]
    · iexists _; isplitr; · ipureintro; exact h3.read_unread _
      iexact H3
    isplitl [H5]; · iexists _; iexact H5
    iexists _; isplitr; · ipureintro; exact h7.read_unread _
    iexact H7

end Cert.Proof.Inproj.Ideal

end
-- ==== Proof.Inproj.Ideal.Body.lean ====
/-
  What the buffers hold point by point: the scratch keeps the normalised rows of a row block from its first column
  block on, so the small product, stored there, is what the last column block writes back.
-/
module

public import proofs.«01_k».proof.Proof.Inproj.Ideal.Run

@[expose] public section

set_option maxRecDepth 16384

noncomputable section

namespace Cert.Proof.Inproj.Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- There are 34 row blocks of 5 column blocks. -/
theorem points (t : Fin cfg0.N) : t.val < 170 := lt_of_lt_of_eq t.isLt N_0

/-- The branch of the body is taken at the first column block of each row block. -/
theorem branch (t : Fin cfg0.N) : k0_cond1 (grid0.coords t) = 1#1 ↔ t.val % 5 = 0 := by
  have ht := points t
  have e1 : (grid0.coords t 1).val = t.val / 1 % 5 := Pipeline.Grid.coords_val t 1 (by decide) rfl
  simp only [k0_cond1, e1]
  word_cmp

/-- The first point of the row block of point `t`. -/
def base (t : Fin cfg0.N) : Fin cfg0.N := ⟨5 * (t.val / 5), by have := t.isLt; omega⟩

theorem base_mod (t : Fin cfg0.N) : (base t).val % 5 = 0 := by unfold base; dsimp only; omega

theorem base_of_mod (t : Fin cfg0.N) (h : t.val % 5 = 0) : base t = t := Fin.ext (by unfold base; dsimp only; omega)

/-- The point before point `t`. -/
abbrev prev (t : Fin cfg0.N) : Fin cfg0.N := ⟨t.val - 1, Nat.lt_of_le_of_lt (Nat.sub_le _ _) t.isLt⟩

theorem base_prev (t : Fin cfg0.N) (h : t.val % 5 ≠ 0) : base (prev t) = base t :=
  Fin.ext (by unfold base; dsimp only; omega)

/-- The scratch. -/
abbrev scr : Memref sig .tc .vmem S1024x2048 .bf16 := Memref.whole cc0_scratch0

/-- The body's stores at the first column block of a row block. -/
abbrev firstAt (c : Dev nD) (t : Fin cfg0.N) (h : t.val % 5 = 0) :=
  first (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    scr (Memref.isWhole_whole _) ((branch t).mpr h) (iblk m c 0 t) (iblk m c 1 t) (iblk m c 2 t) (iblk m c 3 t) (iblk m c 4 t)

/-- The body's stores at a later column block, the scratch at `x`. -/
abbrev laterAt (c : Dev nD) (t : Fin cfg0.N) (h : t.val % 5 ≠ 0) (x : Vec F S1024x2048 .bf16) :=
  later (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    scr (Memref.isWhole_whole _) (fun e => h ((branch t).mp e)) (iblk m c 3 t) x

/-- The views through which the contents of the three buffers are read. -/
abbrev viewZ : View sig .tc .vmem S1024x1280 .bf16 := (Memref.whole cc0_stg5_0 : Memref sig .tc .vmem S1024x1280 .bf16).view
abbrev viewS : View sig .tc .vmem S1024x128 .f32 := (Memref.whole cc0_stg6_0 : Memref sig .tc .vmem S1024x128 .f32).view
abbrev viewH : View sig .tc .vmem S1024x2048 .bf16 := scr.view

/-- Each list of pieces covers its buffer. -/
theorem coverZ (c : Dev nD) (t : Fin cfg0.N) (h : t.val % 5 = 0) (y : S1024x1280.Idx) : ∃ p ∈ (firstAt m c t h).1, y ∈ p.1.set :=
  View.cover_of_tiledL (firstAt m c t h).1 S1024x1280.size (by sl_kernel_rfl) y
theorem coverS (c : Dev nD) (t : Fin cfg0.N) (h : t.val % 5 = 0) (y : S1024x128.Idx) : ∃ p ∈ (firstAt m c t h).2.1, y ∈ p.1.set :=
  View.cover_of_tiledL (firstAt m c t h).2.1 S1024x128.size (by sl_kernel_rfl) y
theorem coverH (c : Dev nD) (t : Fin cfg0.N) (h : t.val % 5 = 0) (y : S1024x2048.Idx) : ∃ p ∈ (firstAt m c t h).2.2.1, y ∈ p.1.set :=
  View.cover_of_tiledL (firstAt m c t h).2.2.1 S256x2048.size (by sl_kernel_rfl) y
theorem coverL (c : Dev nD) (t : Fin cfg0.N) (h : t.val % 5 ≠ 0) (x : Vec F S1024x2048 .bf16) (y : S1024x1280.Idx) :
    ∃ p ∈ (laterAt m c t h x).1, y ∈ p.1.set :=
  View.cover_of_tiledL (laterAt m c t h x).1 S1024x1280.size (by sl_kernel_rfl) y

/-- The scratch after the first column block of a row block, -/
def hFirst (c : Dev nD) (t : Fin cfg0.N) (h : t.val % 5 = 0) : Vec F S1024x2048 .bf16 :=
  viewH.read (Elt F) (viewH.writes (Elt F) viewH.junk (firstAt m c t h).2.2.1)
/-- the small product there, -/
def sFirst (c : Dev nD) (t : Fin cfg0.N) (h : t.val % 5 = 0) : Vec F S1024x128 .f32 :=
  viewS.read (Elt F) (viewS.writes (Elt F) viewS.junk (firstAt m c t h).2.1)
/-- the main product there, -/
def zFirst (c : Dev nD) (t : Fin cfg0.N) (h : t.val % 5 = 0) : Vec F S1024x1280 .bf16 :=
  viewZ.read (Elt F) (viewZ.writes (Elt F) viewZ.junk (firstAt m c t h).1)
/-- and at a later one. -/
def zLater (c : Dev nD) (t : Fin cfg0.N) (h : t.val % 5 ≠ 0) (x : Vec F S1024x2048 .bf16) : Vec F S1024x1280 .bf16 :=
  viewZ.read (Elt F) (viewZ.writes (Elt F) viewZ.junk (laterAt m c t h x).1)

/-- The scratch after point `t`, -/
def hAt (c : Dev nD) (t : Fin cfg0.N) : Vec F S1024x2048 .bf16 := hFirst m c (base t) (base_mod t)
/-- the small product's buffer, -/
def sAt (c : Dev nD) (t : Fin cfg0.N) : Vec F S1024x128 .f32 := sFirst m c (base t) (base_mod t)
/-- and the main product's. -/
def zAt (c : Dev nD) (t : Fin cfg0.N) : Vec F S1024x1280 .bf16 :=
  if h : t.val % 5 = 0 then zFirst m c t h else zLater m c t h (hAt m c t)

theorem hAt_first (c : Dev nD) (t : Fin cfg0.N) (h : t.val % 5 = 0) : hAt m c t = hFirst m c t h := by
  unfold hAt; congr 1; exact base_of_mod t h

theorem sAt_first (c : Dev nD) (t : Fin cfg0.N) (h : t.val % 5 = 0) : sAt m c t = sFirst m c t h := by
  unfold sAt; congr 1; exact base_of_mod t h

theorem hAt_prev (c : Dev nD) (t : Fin cfg0.N) (h : t.val % 5 ≠ 0) : hAt m c (prev t) = hAt m c t := by
  unfold hAt; congr 1; exact base_prev t h

theorem sAt_prev (c : Dev nD) (t : Fin cfg0.N) (h : t.val % 5 ≠ 0) : sAt m c (prev t) = sAt m c t := by
  unfold sAt; congr 1; exact base_prev t h

/-- Between points: before the first the scratch holds anything, before any other what the point before left. -/
def between (c : Dev nD) : (n : ℕ) → n ≤ cfg0.N → sProp 𝕄
  | 0, _ => Pipeline.ΦA spec0 c
  | n + 1, hn => iprop(owns (c : Thread nD τ) scr fullShare (hAt m c ⟨n, hn⟩) ∗ (∃ r, prngReg c r))

theorem between_pos (c : Dev nD) (t : Fin cfg0.N) (hz : t.val ≠ 0) (hl : t.val ≤ cfg0.N) : between m c t.val hl
    = iprop(owns (c : Thread nD τ) scr fullShare (hAt m c (prev t)) ∗ (∃ r, prngReg c r)) := by
  obtain ⟨n, hn⟩ := t
  cases n with
  | zero => exact absurd rfl hz
  | succ n => rfl

/-- What is held besides the staging buffers: the scratch at anything, and the generator register. -/
theorem rest_eq (c : Dev nD) : (Pipeline.ΦA spec0 c : sProp 𝕄)
    = iprop((∃ d, owns (c : Thread nD τ) scr fullShare d) ∗ (∃ r, prngReg c r)) := by
  unfold Pipeline.ΦA
  rw [scopedRest0_eq]
  simp only [owns_whole]
  rfl

/-- The arrays, what each point leaves in each staging buffer, and what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => zAt m c t
    | ⟨6, _⟩ => sAt m c t
  Φ t := between m c t.val (Nat.le_of_lt_succ t.isLt)
  q _ := fullShare
  owed _ := 0

theorem entry (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = zAt m c t := by dsimp only [dats]
theorem after_6 (c : Dev nD) (t : Fin cfg0.N) : (dats m 0 c).after 6 t = sAt m c t := by dsimp only [dats]

theorem before_0 (c : Dev nD) (t : Fin cfg0.N) (d) : (dats m 0 c).before 0 t d = iblk m c 0 t :=
  before0_0_of m (dats m 0 c) (entry m c 0) (after_0 m c) t d
theorem before_1 (c : Dev nD) (t : Fin cfg0.N) (d) : (dats m 0 c).before 1 t d = iblk m c 1 t :=
  before0_1_of m (dats m 0 c) (entry m c 1) (after_1 m c) t d
theorem before_2 (c : Dev nD) (t : Fin cfg0.N) (d) : (dats m 0 c).before 2 t d = iblk m c 2 t :=
  before0_2_of m (dats m 0 c) (entry m c 2) (after_2 m c) t d
theorem before_3 (c : Dev nD) (t : Fin cfg0.N) (d) : (dats m 0 c).before 3 t d = iblk m c 3 t :=
  before0_3_of m (dats m 0 c) (entry m c 3) (after_3 m c) t d
theorem before_4 (c : Dev nD) (t : Fin cfg0.N) (d) : (dats m 0 c).before 4 t d = iblk m c 4 t :=
  before0_4_of m (dats m 0 c) (entry m c 4) (after_4 m c) t d

/-- The small product's window is live at the first column block of each row block only. -/
theorem live (t : Fin cfg0.N) (h : t.val % 5 = 0) : cfg0.idle 6 (cfg0.grid.coords t) = false := by
  show (!(k0_cond1 (grid0.coords t) == 1#1)) = false
  rw [(branch t).mpr h]; rfl

theorem not_live (t : Fin cfg0.N) (h : t.val % 5 ≠ 0) : cfg0.idle 6 (cfg0.grid.coords t) = true := by
  show (!(k0_cond1 (grid0.coords t) == 1#1)) = true
  rw [beq_eq_false_iff_ne.mpr fun e => h ((branch t).mp e)]; rfl

/-- The small product's window is written back at the last column block only. -/
theorem not_flushed (t : Fin cfg0.N) (h : t.val % 5 ≠ 4) : (cfg0.win 6).flush t = false :=
  Bool.eq_false_iff.mpr fun e => h ((flush0_6 t).mp e)

/-- So at every later column block its buffer still holds the small product. -/
theorem before_6 (c : Dev nD) (t : Fin cfg0.N) (h : t.val % 5 ≠ 0) (d) : (dats m 0 c).before 6 t d = sAt m c t := by
  have hp := points t
  obtain ⟨n, hn⟩ := t
  induction n with
  | zero => exact absurd rfl h
  | succ n ih =>
    have hz : n + 1 ≠ 0 := by omega
    rw [(dats m 0 c).before_of_pos 6 ⟨n + 1, hn⟩ hz rfl d]
    have hp1 : (prev ⟨n + 1, hn⟩ : Fin cfg0.N).val % 5 ≠ 4 := by
      have h' : (n + 1) % 5 ≠ 0 := h
      show n % 5 ≠ 4
      omega
    have hf := not_flushed (prev ⟨n + 1, hn⟩) hp1
    rw [show (cfg0.win 6).flush ⟨(⟨n + 1, hn⟩ : Fin cfg0.N).val - 1, _⟩ = false from hf, if_neg Bool.false_ne_true]
    refine Eq.trans ?_ (sAt_prev m c ⟨n + 1, hn⟩ h)
    unfold Dat.left
    by_cases hm : (prev ⟨n + 1, hn⟩ : Fin cfg0.N).val % 5 = 0
    · rw [show cfg0.idle 6 (cfg0.grid.coords ⟨(⟨n + 1, hn⟩ : Fin cfg0.N).val - 1, _⟩) = false from live _ hm]
      exact after_6 m c _
    · rw [show cfg0.idle 6 (cfg0.grid.coords ⟨(⟨n + 1, hn⟩ : Fin cfg0.N).val - 1, _⟩) = true from not_live _ hm]
      exact ih (Nat.lt_of_succ_lt hn) hm (by have : n + 1 < 170 := hp; show n < 170; omega)

/-- What the body leaves in the small product's buffer, as the pipeline asks it. -/
theorem leaves_6 (c : Dev nD) (t : Fin cfg0.N) :
    owns (c : Thread nD τ) (st0_6 t) fullShare (sAt m c t) ⊢ ((dats m 0 c).leavesExact 6 t : sProp 𝕄) := by
  unfold Dat.leavesExact
  by_cases h : t.val % 5 = 0
  · rw [live t h, after_6]
  · rw [not_live t h]
    cases (cfg0.win 6).flush t
    · iintro H
      iexists sAt m c t
      rw [before_6 m c t h]
      iexact H
    · rw [after_6]

end Cert.Proof.Inproj.Ideal

end
-- ==== Proof.Inproj.Ideal.Frame.lean ====
/-
  The frame of the input projection: every point's triple, the launch, and the argument arrays unchanged.
-/
module

public import proofs.«01_k».proof.Proof.Inproj.Ideal.Body

@[expose] public section

set_option maxRecDepth 16384

noncomputable section

namespace Cert.Proof.Inproj.Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of point `t`, in their staging buffers. -/
abbrev insAt (c : Dev nD) (t : Fin cfg0.N) : sProp 𝕄 :=
  ins c (win0_0.stage (cfg0.slots t 0)) (win0_1.stage (cfg0.slots t 1)) (win0_2.stage (cfg0.slots t 2))
    (win0_3.stage (cfg0.slots t 3)) (win0_4.stage (cfg0.slots t 4))
    (iblk m c 0 t) (iblk m c 1 t) (iblk m c 2 t) (iblk m c 3 t) (iblk m c 4 t)

/-- What a buffer holds once the listed pieces, which cover it, are written. -/
theorem settle (c : Dev nD) {s : Shape} {e : EltTy} (a : Memref sig .tc .vmem s e) (b : View sig .tc .vmem s e)
    (L : List (View.Piece (Elt F) s e)) (h : ∀ y, ∃ p ∈ L, y ∈ p.1.set) :
    pieces c a L ⊢ owns (c : Thread nD τ) a fullShare (b.read (Elt F) (b.writes (Elt F) b.junk L)) := by
  unfold pieces owns
  iintro ⟨%f, H⟩
  iexists _
  isplitr
  swap
  · iexact H
  ipureintro
  exact View.read_writes_of_cover _ _ _ _ _ h

/-- The first column block of a row block: all three buffers are filled. -/
theorem at_first (c : Dev nD) (t : Fin cfg0.N) (h : t.val % 5 = 0) (K : PUnit → sProp 𝕄) :
    iprop(insAt m c t ∗ (∃ d, owns (c : Thread nD τ) (win0_5.stage (cfg0.slots t 5)) fullShare d)
        ∗ (∃ d, owns (c : Thread nD τ) (win0_6.stage (cfg0.slots t 6)) fullShare d) ∗ (∃ d, owns (c : Thread nD τ) scr fullShare d)
        ∗ (iprop(insAt m c t ∗ owns (c : Thread nD τ) (win0_5.stage (cfg0.slots t 5)) fullShare (zAt m c t)
            ∗ owns (c : Thread nD τ) (win0_6.stage (cfg0.slots t 6)) fullShare (sAt m c t)
            ∗ owns (c : Thread nD τ) scr fullShare (hAt m c t)) -∗ K ⟨⟩))
      ⊢ wp frame (wpE (defs₀ (F := F)) Variants.none c none) Set.univ (bodyAt0 t) K := by
  rw [hAt_first m c t h, sAt_first m c t h, show zAt m c t = zFirst m c t h from dif_pos h]
  unfold hFirst sFirst zFirst
  iintro ⟨Hi, H5, H6, H7, Hk⟩
  iapply ((firstAt m c t h).2.2.2 Set.univ K)
  isplitl [Hi]; · iexact Hi
  isplitl [H5]; · iexact H5
  isplitl [H6]; · iexact H6
  isplitl [H7]; · iexact H7
  iintro ⟨Hi, H5, H6, H7⟩
  iapply Hk
  isplitl [Hi]; · iexact Hi
  isplitl [H5]; · iapply (settle c _ viewZ _ (coverZ m c t h)); iexact H5
  isplitl [H6]; · iapply (settle c _ viewS _ (coverS m c t h)); iexact H6
  iapply (settle c _ viewH _ (coverH m c t h)); iexact H7

/-- A later column block: only the main product's buffer is filled. -/
theorem at_later (c : Dev nD) (t : Fin cfg0.N) (h : t.val % 5 ≠ 0) (K : PUnit → sProp 𝕄) :
    iprop(owns (c : Thread nD τ) (win0_3.stage (cfg0.slots t 3)) fullShare (iblk m c 3 t)
        ∗ (∃ d, owns (c : Thread nD τ) (win0_5.stage (cfg0.slots t 5)) fullShare d)
        ∗ owns (c : Thread nD τ) scr fullShare (hAt m c t)
        ∗ (iprop(owns (c : Thread nD τ) (win0_3.stage (cfg0.slots t 3)) fullShare (iblk m c 3 t)
            ∗ owns (c : Thread nD τ) (win0_5.stage (cfg0.slots t 5)) fullShare (zAt m c t)
            ∗ owns (c : Thread nD τ) scr fullShare (hAt m c t)) -∗ K ⟨⟩))
      ⊢ wp frame (wpE (defs₀ (F := F)) Variants.none c none) Set.univ (bodyAt0 t) K := by
  rw [show zAt m c t = zLater m c t h (hAt m c t) from dif_neg h]
  unfold zLater
  iintro ⟨H3, H5, H7, Hk⟩
  iapply ((laterAt m c t h (hAt m c t)).2 Set.univ K)
  isplitl [H3]; · iexact H3
  isplitl [H5]; · iexact H5
  isplitl [H7]; · iexact H7
  iintro ⟨H3, H5, H7⟩
  iapply Hk
  isplitl [H3]; · iexact H3
  isplitl [H5]; · iapply (settle c _ viewZ _ (coverL m c t h (hAt m c t))); iexact H5
  iexact H7

/-- What the body is given at point `t`, -/
abbrev given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it gives back. -/
abbrev returned (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ ((dats m 0 c).leavesExact 6 t))

/-- What is held before point `t`, -/
theorem held (c : Dev nD) (t : Fin cfg0.N) :
    (dats m 0 c).Φ t.castSucc = between m c t.val (Nat.le_of_lt t.isLt) := rfl

/-- and after it. -/
theorem held_succ (c : Dev nD) (t : Fin cfg0.N) :
    (dats m 0 c).Φ t.succ = iprop(owns (c : Thread nD τ) scr fullShare (hAt m c t) ∗ (∃ r, prngReg c r)) := rfl

/-- Whatever is held before a point, the scratch is there. -/
theorem between_any (c : Dev nD) (t : Fin cfg0.N) (hl : t.val ≤ cfg0.N) :
    between m c t.val hl ⊢ iprop((∃ d, owns (c : Thread nD τ) scr fullShare d) ∗ (∃ r, prngReg c r)) := by
  by_cases hz : t.val = 0
  · rw [← rest_eq]
    obtain ⟨n, hn⟩ := t
    obtain rfl : n = 0 := hz
    exact Entails.refl _
  · rw [between_pos m c t hz]
    iintro ⟨H, Hg⟩
    isplitl [H]
    · iexists _; iexact H
    iexact Hg

set_option maxHeartbeats 3200000 in
/-- The body at any point. -/
theorem body (c : Dev nD) (t : Fin cfg0.N) :
    given m c t ⊢ wp frame (wpE (defs₀ (F := F)) Variants.none c none) Set.univ (bodyAt0 t) (fun _ => returned m c t) := by
  unfold given returned
  simp only [before_0, before_1, before_2, before_3, before_4]
  rw [show (dats m 0 c).owesAt () t.succ = (dats m 0 c).owesAt () t.castSucc from rfl, held, held_succ,
    after_0, after_1, after_2, after_3, after_4, after_5]
  by_cases h : t.val % 5 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ := (between_any m c t _) $$ HΦ
    icases HΦ with ⟨H7, Hg⟩
    iapply (at_first m c t h _)
    isplitl [H0 H1 H2 H3 H4]
    · unfold insAt ins
      isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexact H7
    unfold insAt ins
    iintro ⟨⟨H0, H1, H2, H3, H4⟩, H5, H6, H7⟩
    isplitl [H7 Hg]
    · isplitl [H7]; · iexact H7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t); iexact H6
  · rw [between_pos m c t (fun e => h (by rw [e])) _, hAt_prev m c t h]
    simp only [before_6 m c t h]
    iintro ⟨⟨H7, Hg⟩, Ho, ⟨%d0, H0⟩, ⟨%d1, H1⟩, ⟨%d2, H2⟩, ⟨%d3, H3⟩, ⟨%d4, H4⟩, ⟨%d5, H5⟩, ⟨%d6, H6⟩⟩
    iapply (at_later m c t h _)
    isplitl [H3]; · iexact H3
    isplitl [H5]; · iexists _; iexact H5
    isplitl [H7]; · iexact H7
    iintro ⟨H3, H5, H7⟩
    isplitl [H7 Hg]
    · isplitl [H7]; · iexact H7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t); iexact H6

set_option maxHeartbeats 3200000 in
/-- The same as the pipeline asks it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

/-- The region is entered with what is held before the first point, -/
theorem enters (c : Dev nD) : Pipeline.ΦA spec0 c ⊢ (dats m 0 c).Φ 0 := Entails.refl _

/-- and left with what is held after the last. -/
theorem leaves (c : Dev nD) : (dats m 0 c).Φ (Fin.last cfg0.N) ⊢ Pipeline.ΦA spec0 c := by
  have h : (dats m 0 c).Φ (Fin.last cfg0.N) = (dats m 0 c).Φ (⟨169, lt_of_lt_of_eq (by decide : 169 < 170) N_0.symm⟩ : Fin cfg0.N).succ :=
    congrArg _ (Fin.ext ((Fin.val_last _).trans N_0))
  rw [h, held_succ, rest_eq]
  iintro ⟨H, Hg⟩
  isplitl [H]
  · iexists _; iexact H
  iexact Hg

set_option backward.isDefEq.respectTransparency.types false in
/-- The launch: each array ends at what its blocks were written back with, and every semaphore at zero. -/
theorem launched : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry m) (hin := enters m) (hout := leaves m)

/-- Each array ends at what its blocks were written back with. -/
theorem run_main : θ_run defs (onTc (τ := τ) (main (F := F))) (s₀ m ρ) (Pipeline.FramePost cfgs (dats m) 0 (V m)) :=
  (θ_run defs _ _).mono (fun _ h => h.1) (launched m ρ)

/-- The argument arrays end unchanged, -/
theorem unchanged : θ_run defs (onTc (τ := τ) (main (F := F))) (s₀ m ρ) (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  frame_of m ρ (dats m) (entry m) (run_main m ρ)

/-- and every semaphore at zero. -/
theorem quiet : θ_run defs (onTc (τ := τ) (main (F := F))) (s₀ m ρ) (fun r => r.2.sem = fun _ => 0) :=
  (θ_run defs _ _).mono (fun _ h => h.2) (launched m ρ)

end Cert.Proof.Inproj.Ideal

end
-- ==== Proof.Norm.lean ====
/- The root-mean-square norm of a row, entry by entry. -/
module

public import Idealize.ShloMosaic.Lib.Pointwise

@[expose] public section

noncomputable section

namespace Cert.Proof.Norm

open Idealize.ShloMosaic

/-- The norm of a row at an entry: the entry times the inverse root of the row's mean square plus 1e-6; `d` is the row's length as a float. -/
def norm {n : Nat} (d : EReal) (y : Fin n → EReal) (l : Fin n) : EReal :=
  y l * Ideal.rsqrt (Ideal.div (∑ k, y k * y k) d + Ideal.ofBits .f32 0x358637BD#32)

end Cert.Proof.Norm

end
-- ==== Proof.Out.Spec.lean ====
/- The output projection with its residual, written once, entry by entry. -/
module

public import Idealize.ShloMosaic.Lib.Pointwise

@[expose] public section

noncomputable section

namespace Cert.Proof.Out

open Idealize.ShloMosaic

/-- The product of the three mixers' outputs, side by side, with the weights: batch row `b`, token `i`, column `l`. -/
def acc (R G : FVec Ideal ⟨3, ![8, 4352, 512]⟩ .bf16) (A : FVec Ideal ⟨3, ![8, 4352, 1024]⟩ .bf16) (W : FVec Ideal ⟨2, ![2048, 2048]⟩ .f32)
    (b : Fin 8) (i : Fin 4352) (l : Fin 2048) : EReal :=
  ((∑ k : Fin 512, R (ix3 b i k) * W (ix2 ⟨k.val, by omega⟩ l)) + ∑ k : Fin 512, G (ix3 b i k) * W (ix2 ⟨512 + k.val, by omega⟩ l))
    + ∑ k : Fin 1024, A (ix3 b i k) * W (ix2 ⟨1024 + k.val, by omega⟩ l)

/-- The row of the modulation that token `i` of batch row `b` takes: 8 for the context, `b` for the latents. -/
def modRow (b : Fin 8) (i : Fin 4352) : Fin 16 := if i.val < 256 then 8 else ⟨b.val, by omega⟩

/-- The residual stream with the gated product added. -/
def stream (X : FVec Ideal ⟨2, ![34816, 2048]⟩ .f32) (R G : FVec Ideal ⟨3, ![8, 4352, 512]⟩ .bf16) (A : FVec Ideal ⟨3, ![8, 4352, 1024]⟩ .bf16)
    (M : FVec Ideal ⟨2, ![16, 6144]⟩ .f32) (W : FVec Ideal ⟨2, ![2048, 2048]⟩ .f32) (b : Fin 8) (i : Fin 4352) (l : Fin 2048) : EReal :=
  X (ix2 ⟨b.val * 4352 + i.val, by omega⟩ l) + M (ix2 (modRow b i) ⟨4096 + l.val, by omega⟩) * acc R G A W b i l

/-- The whole result: row `r` is token `r % 4352` of batch row `r / 4352`. -/
def SPEC (X : FVec Ideal ⟨2, ![34816, 2048]⟩ .f32) (R G : FVec Ideal ⟨3, ![8, 4352, 512]⟩ .bf16) (A : FVec Ideal ⟨3, ![8, 4352, 1024]⟩ .bf16)
    (M : FVec Ideal ⟨2, ![16, 6144]⟩ .f32) (W : FVec Ideal ⟨2, ![2048, 2048]⟩ .f32) : FVec Ideal ⟨2, ![34816, 2048]⟩ .f32 := fun j =>
  stream X R G A M W ⟨(j 0).val / 4352, by have : (j 0).val < 34816 := (j 0).isLt; omega⟩ ⟨(j 0).val % 4352, by omega⟩ (j 1)

end Cert.Proof.Out

end
-- ==== Proof.Inproj.Spec.lean ====
/- The input projection written once, entry by entry. -/
module

public import Idealize.ShloMosaic.Lib.Pointwise
public import proofs.«01_k».proof.Proof.Norm
public import proofs.«01_k».proof.Proof.Out.Spec

@[expose] public section

noncomputable section

namespace Cert.Proof.Inproj

open Idealize.ShloMosaic

/-- A row of the stream, normalised: batch row `b`, token `i`. -/
def normed (X : FVec Ideal ⟨2, ![34816, 2048]⟩ .f32) (b : Fin 8) (i : Fin 4352) (k : Fin 2048) : EReal :=
  Norm.norm (Ideal.ofBits .f32 0x45000000#32) (fun l => X (ix2 ⟨b.val * 4352 + i.val, by omega⟩ l)) k

/-- The normalised row times the norm's weights, scaled and shifted by the token's row of the modulation. -/
def hid (X : FVec Ideal ⟨2, ![34816, 2048]⟩ .f32) (M : FVec Ideal ⟨2, ![16, 6144]⟩ .f32) (nw : FVec Ideal ⟨1, ![2048]⟩ .f32)
    (b : Fin 8) (i : Fin 4352) (k : Fin 2048) : EReal :=
  normed X b i k * nw (ix1 k) * (Ideal.ofBits .f32 0x3F800000#32 + M (ix2 (Out.modRow b i) ⟨2048 + k.val, by omega⟩))
    + M (ix2 (Out.modRow b i) ⟨k.val, by omega⟩)

/-- Its product with column `l` of the weights. -/
def prod (X : FVec Ideal ⟨2, ![34816, 2048]⟩ .f32) (M : FVec Ideal ⟨2, ![16, 6144]⟩ .f32) (nw : FVec Ideal ⟨1, ![2048]⟩ .f32)
    (W : FVec Ideal ⟨2, ![2048, 6480]⟩ .f32) (b : Fin 8) (i : Fin 4352) (l : Fin 6480) : EReal :=
  ∑ k : Fin 2048, hid X M nw b i k * W (ix2 k l)

/-- The column of the weights behind a column of the main result: the mixers' parts, then the latents of keys and values,
    the latents of queries and the gate. -/
def mainCol (l : Fin 6400) : Fin 6480 :=
  if _ : l.val < 4096 then ⟨l.val, by omega⟩ else if _ : l.val < 4608 then ⟨4880 + (l.val - 4096), by omega⟩
  else if _ : l.val < 5376 then ⟨4112 + (l.val - 4608), by omega⟩ else ⟨5456 + (l.val - 5376), by omega⟩

/-- The column of the weights behind a column of the small result: the rotary key, then the two gates of the delta rule. -/
def smallCol (l : Fin 128) (h : l.val < 80) : Fin 6480 :=
  if _ : l.val < 64 then ⟨5392 + l.val, by omega⟩ else ⟨4096 + (l.val - 64), by omega⟩

/-- The main result: row `r` is token `r % 4352` of batch row `r / 4352`. -/
def MAIN (X : FVec Ideal ⟨2, ![34816, 2048]⟩ .f32) (M : FVec Ideal ⟨2, ![16, 6144]⟩ .f32) (nw : FVec Ideal ⟨1, ![2048]⟩ .f32)
    (W : FVec Ideal ⟨2, ![2048, 6480]⟩ .f32) : FVec Ideal ⟨2, ![34816, 6400]⟩ .bf16 := fun j =>
  prod X M nw W ⟨(j 0).val / 4352, by have : (j 0).val < 34816 := (j 0).isLt; omega⟩ ⟨(j 0).val % 4352, by omega⟩ (mainCol (j 1))

/-- The small result, zero from column 80 on. -/
def SMALL (X : FVec Ideal ⟨2, ![34816, 2048]⟩ .f32) (M : FVec Ideal ⟨2, ![16, 6144]⟩ .f32) (nw : FVec Ideal ⟨1, ![2048]⟩ .f32)
    (W : FVec Ideal ⟨2, ![2048, 6480]⟩ .f32) : FVec Ideal ⟨2, ![34816, 128]⟩ .f32 := fun j =>
  if h : (j 1).val < 80 then
    prod X M nw W ⟨(j 0).val / 4352, by have : (j 0).val < 34816 := (j 0).isLt; omega⟩ ⟨(j 0).val % 4352, by omega⟩ (smallCol (j 1) h)
  else 0

/-- The small result before column 80, and from there on. -/
theorem small_lt (X : FVec Ideal ⟨2, ![34816, 2048]⟩ .f32) (M : FVec Ideal ⟨2, ![16, 6144]⟩ .f32) (nw : FVec Ideal ⟨1, ![2048]⟩ .f32)
    (W : FVec Ideal ⟨2, ![2048, 6480]⟩ .f32) (r : Fin 34816) (l : Fin 128) (h : l.val < 80) :
    SMALL X M nw W (ix2 r l) = prod X M nw W ⟨r.val / 4352, by omega⟩ ⟨r.val % 4352, by omega⟩ (smallCol l h) := dif_pos h

theorem small_ge (X : FVec Ideal ⟨2, ![34816, 2048]⟩ .f32) (M : FVec Ideal ⟨2, ![16, 6144]⟩ .f32) (nw : FVec Ideal ⟨1, ![2048]⟩ .f32)
    (W : FVec Ideal ⟨2, ![2048, 6480]⟩ .f32) (r : Fin 34816) (l : Fin 128) (h : ¬ l.val < 80) : SMALL X M nw W (ix2 r l) = 0 := dif_neg h

end Cert.Proof.Inproj

end
-- ==== Proof.Inproj.Block.lean ====
/- What one block of the input projection computes: its payloads, and what the buffers hold in terms of them. -/
module

public import proofs.«01_k».proof.Proof.Inproj.Ideal.Frame
public import Idealize.ShloMosaic.Lib.Pipeline.ValueKit
public import proofs.«01_k».proof.Proof.Inproj.Spec

@[expose] public section

set_option maxRecDepth 16384

noncomputable section

namespace Cert.Proof.Inproj

open Idealize.ShloMosaic Idealize.ShloMosaic.TcCoe Idealize.SL.Sem
open Idealize.ShloMosaic.Pipeline (Dat)
open Cert.Kernel2Ideal Cert.Kernel2Ideal.Gen Cert.Proof.Inproj.Ideal

variable (m : (ℓ : Loc nD τ sig) → Buf (Elt Ideal) ℓ)

/-- The row of the scratch at an entry: the row of the stream normalised, weighted, scaled and shifted. -/
def row (x : FVec Ideal S256x2048 .f32) (nw : FVec Ideal S1x2048 .f32) (ms : FVec Ideal S1x2x2048 .f32) (i : Fin 256) (k : Fin 2048) : EReal :=
  Norm.norm (Ideal.ofBits .f32 0x45000000#32) (fun l => x (ix2 i l)) k * nw (ix2 0 k)
    * (Ideal.ofBits .f32 0x3F800000#32 + ms (ix3 0 0 k)) + ms (ix3 0 1 k)

theorem pay6_at (x : FVec Ideal S256x2048 .f32) (nw : FVec Ideal S1x2048 .f32) (ms : FVec Ideal S1x2x2048 .f32) (i : Fin 256) (k : Fin 2048) :
    k0_pay6 (F := Ideal) (k0_pay4 ms) x (k0_pay5 x) nw (ix2 i k) = row x nw ms i k := by
  unfold row Norm.norm
  pointwise [k0_pay6, k0_pay4, k0_pay5]

theorem pay7_at (x : FVec Ideal S256x2048 .f32) (nw : FVec Ideal S1x2048 .f32) (ms : FVec Ideal S1x2x2048 .f32) (i : Fin 256) (k : Fin 2048) :
    k0_pay8 (F := Ideal) (k0_pay7 ms x nw) (ix2 i k) = row x nw ms i k := by
  unfold row Norm.norm
  pointwise [k0_pay8, k0_pay7]

theorem pay9_at (x : FVec Ideal S256x2048 .f32) (nw : FVec Ideal S1x2048 .f32) (ms : FVec Ideal S1x2x2048 .f32) (i : Fin 256) (k : Fin 2048) :
    k0_pay9 (F := Ideal) ms x nw (ix2 i k) = row x nw ms i k := by
  unfold row Norm.norm
  pointwise [k0_pay9]

theorem pay1_at (x : FVec Ideal S256x2048 .f32) (nw : FVec Ideal S1x2048 .f32) (ms : FVec Ideal S1x2x2048 .f32) (i : Fin 256) (k : Fin 2048) :
    k0_pay1 (F := Ideal) (k0_pay10 ms) (k0_pay11 x nw) (k0_pay12 ms) (ix2 i k) = row x nw ms i k := by
  unfold row Norm.norm
  pointwise [k0_pay1, k0_pay10, k0_pay11, k0_pay12]

/-- The two products. -/
theorem pay3_at (h : FVec Ideal S1024x2048 .bf16) (w : FVec Ideal S2048x1280 .bf16) (i : Fin 1024) (l : Fin 1280) :
    k0_pay3 (F := Ideal) h w (ix2 i l) = ∑ k : Fin 2048, h (ix2 i k) * w (ix2 k l) := by
  pointwise [k0_pay3]

theorem pay2_at (h : FVec Ideal S1024x2048 .bf16) (w : FVec Ideal S2048x128 .bf16) (i : Fin 1024) (l : Fin 128) :
    k0_pay2 (F := Ideal) h w (ix2 i l) = ∑ k : Fin 2048, h (ix2 i k) * w (ix2 k l) := by
  pointwise [k0_pay2]

/-- The main product's buffer, at the first column block and later, and the small product's. -/
theorem z_first (c : Dev nD) (t : Fin cfg0.N) (h : t.val % 5 = 0) : zFirst m c t h = k0_pay3 (hFirst m c t h) (iblk m c 3 t) := by
  unfold zFirst hFirst firstAt
  frame_out
  refine congrArg (fun y => k0_pay3 (F := Ideal) y (iblk m c 3 t)) ?_
  refine (View.readCov_eq_canon_ld _ _ _ ?_).trans ?_
  · exact fun y => View.cover_of_tiledL (s := S1024x2048) _ S256x2048.size (by sl_kernel_rfl) y
  · exact View.ld_unit_lit' (S := S1024x2048) (off := ![0, 0]) _ _ (by decide)

theorem z_later (c : Dev nD) (t : Fin cfg0.N) (h : t.val % 5 ≠ 0) (x : Vec Ideal S1024x2048 .bf16) :
    zLater m c t h x = k0_pay3 x (iblk m c 3 t) := by
  unfold zLater laterAt
  frame_out
  exact congrArg (fun y => k0_pay3 (F := Ideal) y (iblk m c 3 t)) (Memref.IsWhole.read_unread _ _)

theorem s_first (c : Dev nD) (t : Fin cfg0.N) (h : t.val % 5 = 0) : sFirst m c t h = k0_pay2 (hFirst m c t h) (iblk m c 4 t) := by
  unfold sFirst hFirst firstAt
  frame_out
  refine congrArg (fun y => k0_pay2 (F := Ideal) y (iblk m c 4 t)) ?_
  refine (View.readCov_eq_canon_ld _ _ _ ?_).trans ?_
  · exact fun y => View.cover_of_tiledL (s := S1024x2048) _ S256x2048.size (by sl_kernel_rfl) y
  · exact View.ld_unit_lit' (S := S1024x2048) (off := ![0, 0]) _ _ (by decide)

/-- At every point both products are of what the scratch holds. -/
theorem z_eq (c : Dev nD) (t : Fin cfg0.N) : zAt m c t = k0_pay3 (hAt m c t) (iblk m c 3 t) := by
  by_cases h : t.val % 5 = 0
  · rw [hAt_first m c t h, show zAt m c t = zFirst m c t h from dif_pos h, z_first]
  · rw [show zAt m c t = zLater m c t h (hAt m c t) from dif_neg h, z_later]

theorem s_eq (c : Dev nD) (t : Fin cfg0.N) : sAt m c t = k0_pay2 (hAt m c t) (iblk m c 4 (base t)) := by
  unfold sAt hAt
  exact s_first m c (base t) (base_mod t)

end Cert.Proof.Inproj

end
-- ==== Proof.Rows.lean ====
/- Rows of a table picked by a list of row numbers. -/
module

public import Idealize.ShloMosaic.Lib.Pointwise
public import Idealize.ShloMosaic.Lib.ValueIdxCore

@[expose] public section

noncomputable section

namespace Cert.Proof.Rows

open Idealize.ShloMosaic

/-- Whole rows of a table of `C` columns, picked by `R` row numbers. -/
abbrev pickDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A picked row at a column: the table there, the row number read signed and clamped into the table. -/
theorem pick_at {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (l : Fin C) :
    Host.gather (pickDims N C R wf) x idx (ix2 r l) = x (ix2 ⟨min (idx (ix2 r 0)).toInt.toNat (N - 1), by omega⟩ l) := by
  unfold Host.gather
  congr 1
  funext a
  refine Fin.ext ?_
  show (pickDims N C R wf).start (ix2 r l) idx a + (pickDims N C R wf).batchCoord (ix2 r l) a
    + (pickDims N C R wf).offCoord (ix2 r l) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickDims N C R wf).startIndexMap from List.mem_singleton.mpr rfl)]
    have hsi : (pickDims N C R wf).siIdx (ix2 r l) ⟨List.idxOf (0 : Fin 2) (pickDims N C R wf).startIndexMap,
        List.idxOf_lt_length_iff.2 (List.mem_singleton.mpr rfl)⟩ = ix2 r 0 := by
      funext b
      refine Fin.ext ?_
      match b with
      | ⟨0, _⟩ => rfl
      | ⟨1, _⟩ => rfl
    rw [hsi]
    rfl
  · rw [GatherDims.batchCoord_eq_zero _ _ _ List.not_mem_nil]
    unfold GatherDims.start
    rw [dif_neg (show (1 : Fin 2) ∉ (pickDims N C R wf).startIndexMap by
      intro h; exact absurd (congrArg Fin.val (List.mem_singleton.mp h)) Nat.one_ne_zero)]
    simp only [Nat.zero_add]
    rfl

/-- The same, the row's number given. -/
theorem pick_eq {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (l : Fin C) (q : Fin N)
    (h : min (idx (ix2 r 0)).toInt.toNat (N - 1) = q.val) :
    Host.gather (pickDims N C R wf) x idx (ix2 r l) = x (ix2 q l) :=
  (pick_at hN wf x idx r l).trans (congrArg (fun q => x (ix2 q l)) (Fin.ext h))

/-- The row of the modulation at place `p` of the list: the context's row 8 at even places, the latents' row of batch row
    `p / 2` at odd ones. -/
def tabRow (p : Fin 16) : Fin 16 := if p.val % 2 = 0 then 8 else ⟨p.val / 2, by omega⟩

end Cert.Proof.Rows

end
-- ==== Proof.Inproj.Host.lean ====
/- What the arrays that the input projection's grid reads hold, entry by entry, in terms of the arguments. -/
module

public import proofs.«01_k».proof.Proof.Gen.Kernel2Ideal.Frame
public import Idealize.ShloMosaic.Lib.Pipeline.ValueKit
public import proofs.«01_k».proof.Proof.Rows
public import proofs.«01_k».proof.Proof.Inproj.Spec

@[expose] public section

set_option maxRecDepth 16384

noncomputable section

namespace Cert.Proof.Inproj

open Idealize.ShloMosaic Idealize.ShloMosaic.TcCoe Idealize.SL.Sem
open Cert.Kernel2Ideal Cert.Kernel2Ideal.Gen Cert.Proof.Rows

variable (m : (ℓ : Loc nD τ sig) → Buf (Elt Ideal) ℓ)

theorem line_at (w : FVec Ideal S2048 .f32) (k : Fin 2048) : shapeCast S1x2048 w shapeCasts_S2048_S1x2048 (ix2 0 k) = w (ix1 k) := by
  pointwise []

/-- The norm's weights as a row. -/
theorem V34 (c : Dev nD) (k : Fin 2048) :
    (show EReal from V m c main_v34 (ix2 0 k : S1x2048.Idx)) = m ((c : Thread nD τ).loc main_arg2) (ix1 k : S2048.Idx) := by
  entry_read
  exact line_at (m ((c : Thread nD τ).loc main_arg2)) k

/-- The list of row numbers, a column of 16. -/
def sel : IVec S16x1 32 :=
  broadcastInDim S16x1 ![0] bcast_S16_S16x1_0 (select (constantI S16 1 0#1)
    (addi (fun i => lit0 (S16.rowMajor i)) (broadcastInDim S16 ![] bcast_S_S16 (constantI S_ 32 16#32))) fun i => lit0 (S16.rowMajor i))

theorem sel_lit (p : Fin 16) : sel (ix2 p 0) = lit0 (S16.rowMajor (ix1 p)) := rfl

theorem sel_at (p : Fin 16) : min (sel (ix2 p 0)).toInt.toNat (16 - 1) = (tabRow p).val := by
  rw [sel_lit]
  revert p
  decide

/-- The rows that the list names, of the modulation's columns from `o` on. -/
theorem picked (D : FVec Ideal S16x2048 .f32) (p : Fin 16) (l : Fin 2048) :
    broadcastInDim S16x1x2048 ![0, 2] bcast_S16x2048_S16x1x2048_0_2
      (Host.gather gather_S16x2048_S16x1_S16x2048_1_0_n_n_0_1_12048 D sel) (ix3 p 0 l) = D (ix2 (tabRow p) l) := by
  have e : ∀ E : FVec Ideal S16x2048 .f32, broadcastInDim S16x1x2048 ![0, 2] bcast_S16x2048_S16x1x2048_0_2 E (ix3 p 0 l) = E (ix2 p l) := by
    intro E
    pointwise []
  exact (e _).trans (pick_eq (N := 16) (C := 2048) (R := 16) (by decide) gather_S16x2048_S16x1_S16x2048_1_0_n_n_0_1_12048_wf _ sel p l (tabRow p) (sel_at p))

/-- Two tables of one row each, stacked. -/
theorem stack_at (A B : FVec Ideal S16x1x2048 .f32) (p : Fin 16) (q : Fin 2) (l : Fin 2048) :
    (concatenate S16x2x2048 1 [⟨S16x1x2048, A⟩, ⟨S16x1x2048, B⟩] concatenates_S16x1x2048_S16x1x2048_S16x2x2048_d1 : FVec Ideal S16x2x2048 .f32) (ix3 p q l)
      = if q.val < 1 then A (ix3 p 0 l) else B (ix3 p 0 l) := by
  pointwise []
  by_cases h : q.val < 1
  · rw [dif_pos h, if_pos h]
    exact congrArg (fun a => A (ix3 p a l)) (Fin.ext (Nat.lt_one_iff.mp h))
  · rw [dif_neg h, if_neg h]
    exact congrArg (fun a => B (ix3 p a l)) (Fin.ext (show q.val - 1 = 0 by omega))

/-- The scales and the shifts, stacked. -/
def table (M : FVec Ideal S16x6144 .f32) : FVec Ideal S16x2x2048 .f32 :=
  concatenate S16x2x2048 1 [⟨S16x1x2048, broadcastInDim S16x1x2048 ![0, 2] bcast_S16x2048_S16x1x2048_0_2
      (Host.gather gather_S16x2048_S16x1_S16x2048_1_0_n_n_0_1_12048 (extractStridedSlice S16x2048 ![0, 2048] M slices_S16x6144_S16x2048_0_2048) sel)⟩,
    ⟨S16x1x2048, broadcastInDim S16x1x2048 ![0, 2] bcast_S16x2048_S16x1x2048_0_2
      (Host.gather gather_S16x2048_S16x1_S16x2048_1_0_n_n_0_1_12048 (extractStridedSlice S16x2048 ![0, 0] M slices_S16x6144_S16x2048_0_0) sel)⟩]
    concatenates_S16x1x2048_S16x1x2048_S16x2x2048_d1

theorem scale_at (M : FVec Ideal S16x6144 .f32) (p : Fin 16) (l : Fin 2048) : table M (ix3 p 0 l) = M (ix2 (tabRow p) ⟨2048 + l.val, by omega⟩) := by
  unfold table
  rw [stack_at, if_pos (by decide), picked]
  pointwise []

theorem shift_at (M : FVec Ideal S16x6144 .f32) (p : Fin 16) (l : Fin 2048) : table M (ix3 p 1 l) = M (ix2 (tabRow p) ⟨l.val, by omega⟩) := by
  unfold table
  rw [stack_at, if_neg (by decide), picked]
  pointwise []

theorem V14 (c : Dev nD) (p : Fin 16) (q : Fin 2) (l : Fin 2048) :
    (show EReal from V m c main_v14 (ix3 p q l : S16x2x2048.Idx)) = table (m ((c : Thread nD τ).loc main_arg1)) (ix3 p q l) := by
  entry_read
  rfl

/-- The weights' columns of the main product. -/
def wide (W : FVec Ideal S2048x6480 .f32) : FVec Ideal S2048x6400 .f32 :=
  concatenate S2048x6400 1 [⟨S2048x512, extractStridedSlice S2048x512 ![0, 0] W slices_S2048x6480_S2048x512_0_0⟩,
    ⟨S2048x512, extractStridedSlice S2048x512 ![0, 512] W slices_S2048x6480_S2048x512_0_512⟩,
    ⟨S2048x512, extractStridedSlice S2048x512 ![0, 1024] W slices_S2048x6480_S2048x512_0_1024⟩,
    ⟨S2048x512, extractStridedSlice S2048x512 ![0, 1536] W slices_S2048x6480_S2048x512_0_1536⟩,
    ⟨S2048x512, extractStridedSlice S2048x512 ![0, 2048] W slices_S2048x6480_S2048x512_0_2048⟩,
    ⟨S2048x512, extractStridedSlice S2048x512 ![0, 2560] W slices_S2048x6480_S2048x512_0_2560⟩,
    ⟨S2048x512, extractStridedSlice S2048x512 ![0, 3072] W slices_S2048x6480_S2048x512_0_3072⟩,
    ⟨S2048x512, extractStridedSlice S2048x512 ![0, 3584] W slices_S2048x6480_S2048x512_0_3584⟩,
    ⟨S2048x512, extractStridedSlice S2048x512 ![0, 4880] W slices_S2048x6480_S2048x512_0_4880⟩,
    ⟨S2048x768, extractStridedSlice S2048x768 ![0, 4112] W slices_S2048x6480_S2048x768_0_4112⟩,
    ⟨S2048x1024, extractStridedSlice S2048x1024 ![0, 5456] W slices_S2048x6480_S2048x1024_0_5456⟩]
    concatenates_S2048x512_S2048x512_S2048x512_S2048x512_S2048x512_S2048x512_S2048x512_S2048x512_S2048x512_S2048x768_S2048x1024_S2048x6400_d1

theorem col_eq (W : FVec Ideal S2048x6480 .f32) (k : Fin 2048) (l : Fin 6400) (n : Nat) (hn : n < 6480) (h : (mainCol l).val = n) :
    W (ix2 k ⟨n, hn⟩) = W (ix2 k (mainCol l)) :=
  congrArg (fun q => W (ix2 k q)) (Fin.ext h.symm)

theorem col_mixers (l : Fin 6400) (h : l.val < 4096) : (mainCol l).val = l.val := by
  unfold mainCol
  rw [dif_pos h]

theorem col_kv (l : Fin 6400) (h : ¬ l.val < 4096) (h' : l.val < 4608) : (mainCol l).val = 4880 + (l.val - 4096) := by
  unfold mainCol
  rw [dif_neg h, dif_pos h']

theorem col_q (l : Fin 6400) (h : ¬ l.val < 4096) (h' : ¬ l.val < 4608) (h'' : l.val < 5376) : (mainCol l).val = 4112 + (l.val - 4608) := by
  unfold mainCol
  rw [dif_neg h, dif_neg h', dif_pos h'']

theorem col_gate (l : Fin 6400) (h : ¬ l.val < 4096) (h' : ¬ l.val < 4608) (h'' : ¬ l.val < 5376) : (mainCol l).val = 5456 + (l.val - 5376) := by
  unfold mainCol
  rw [dif_neg h, dif_neg h', dif_neg h'']

theorem wide_at (W : FVec Ideal S2048x6480 .f32) (k : Fin 2048) (l : Fin 6400) : wide W (ix2 k l) = W (ix2 k (mainCol l)) := by
  have hl := l.isLt
  pointwise [wide]
  by_cases h0 : l.val < 512
  · rw [dif_pos h0]
    exact col_eq W k l _ _ ((col_mixers l (by omega)).trans (by omega))
  rw [dif_neg h0]
  by_cases h1 : l.val - 512 < 512
  · rw [dif_pos h1]
    exact col_eq W k l _ _ ((col_mixers l (by omega)).trans (by omega))
  rw [dif_neg h1]
  by_cases h2 : l.val - 512 - 512 < 512
  · rw [dif_pos h2]
    exact col_eq W k l _ _ ((col_mixers l (by omega)).trans (by omega))
  rw [dif_neg h2]
  by_cases h3 : l.val - 512 - 512 - 512 < 512
  · rw [dif_pos h3]
    exact col_eq W k l _ _ ((col_mixers l (by omega)).trans (by omega))
  rw [dif_neg h3]
  by_cases h4 : l.val - 512 - 512 - 512 - 512 < 512
  · rw [dif_pos h4]
    exact col_eq W k l _ _ ((col_mixers l (by omega)).trans (by omega))
  rw [dif_neg h4]
  by_cases h5 : l.val - 512 - 512 - 512 - 512 - 512 < 512
  · rw [dif_pos h5]
    exact col_eq W k l _ _ ((col_mixers l (by omega)).trans (by omega))
  rw [dif_neg h5]
  by_cases h6 : l.val - 512 - 512 - 512 - 512 - 512 - 512 < 512
  · rw [dif_pos h6]
    exact col_eq W k l _ _ ((col_mixers l (by omega)).trans (by omega))
  rw [dif_neg h6]
  by_cases h7 : l.val - 512 - 512 - 512 - 512 - 512 - 512 - 512 < 512
  · rw [dif_pos h7]
    exact col_eq W k l _ _ ((col_mixers l (by omega)).trans (by omega))
  rw [dif_neg h7]
  by_cases h8 : l.val - 512 - 512 - 512 - 512 - 512 - 512 - 512 - 512 < 512
  · rw [dif_pos h8]
    exact col_eq W k l _ _ ((col_kv l (by omega) (by omega)).trans (by omega))
  rw [dif_neg h8]
  by_cases h9 : l.val - 512 - 512 - 512 - 512 - 512 - 512 - 512 - 512 - 512 < 768
  · rw [dif_pos h9]
    exact col_eq W k l _ _ ((col_q l (by omega) (by omega) (by omega)).trans (by omega))
  rw [dif_neg h9]
  exact col_eq W k l _ _ ((col_gate l (by omega) (by omega) (by omega)).trans (by omega))

theorem V32 (c : Dev nD) (k : Fin 2048) (l : Fin 6400) :
    (show EReal from V m c main_v32 (ix2 k l : S2048x6400.Idx)) = wide (m ((c : Thread nD τ).loc main_arg3)) (ix2 k l) := by
  entry_read
  rfl

/-- The weights' columns of the small product, and 48 columns of zeros. -/
def narrow (W : FVec Ideal S2048x6480 .f32) : FVec Ideal S2048x128 .f32 :=
  pad S2048x128 ![0, 0] ![0, 48] ![0, 0] (concatenate S2048x80 1 [⟨S2048x64, extractStridedSlice S2048x64 ![0, 5392] W slices_S2048x6480_S2048x64_0_5392⟩,
    ⟨S2048x8, extractStridedSlice S2048x8 ![0, 4096] W slices_S2048x6480_S2048x8_0_4096⟩,
    ⟨S2048x8, extractStridedSlice S2048x8 ![0, 4104] W slices_S2048x6480_S2048x8_0_4104⟩] concatenates_S2048x64_S2048x8_S2048x8_S2048x80_d1)
    (sitofp (F := Ideal) .f32 (constantI S_ 32 0#32)) pads_S2048x80_S2048x128_000_0480 h_S_

theorem narrow_at (W : FVec Ideal S2048x6480 .f32) (k : Fin 2048) (l : Fin 128) :
    narrow W (ix2 k l) = if h : l.val < 80 then W (ix2 k (smallCol l h)) else 0 := by
  have hz : (FloatOps.sitofp (F := Ideal) FTy.f32 0#32 : EReal) = 0 := by
    simp [FloatOps.sitofp]
  pointwise [narrow]
  split
  · rename_i h
    have hm : (smallCol l h).val = if l.val < 64 then 5392 + l.val else 4096 + (l.val - 64) := by
      unfold smallCol
      split_ifs <;> rfl
    split_ifs
    all_goals
      refine congrArg (fun q => W (ix2 k q)) (Fin.ext ?_)
      rw [hm]
      dsimp only
      split_ifs <;> omega
  · exact hz

theorem V33 (c : Dev nD) (k : Fin 2048) (l : Fin 128) :
    (show EReal from V m c main_v33 (ix2 k l : S2048x128.Idx)) = narrow (m ((c : Thread nD τ).loc main_arg3)) (ix2 k l) := by
  entry_read
  rfl

end Cert.Proof.Inproj

end
-- ==== Proof.Inproj.Final.lean ====
/- What the input projection's two result arrays hold after the run. -/
module

public import Idealize.ShloMosaic.Lib.Pipeline.Covers
public import proofs.«01_k».proof.Proof.Inproj.Block
public import proofs.«01_k».proof.Proof.Inproj.Host

@[expose] public section

set_option maxRecDepth 16384

noncomputable section

namespace Cert.Proof.Inproj

open Idealize.ShloMosaic Idealize.ShloMosaic.TcCoe Idealize.SL.Sem
open Idealize.ShloMosaic.Pipeline (Dat)
open Cert.Kernel2Ideal Cert.Kernel2Ideal.Gen Cert.Proof.Rows Cert.Proof.Inproj.Ideal

variable (m : (ℓ : Loc nD τ sig) → Buf (Elt Ideal) ℓ)

/-- The blocks of grid point `t`: row block `t / 5`, column block `t % 5`. -/
theorem idx : ∀ t : Fin cfg0.N,
    win0_0.index t = ![t.val / 5, 0] ∧ win0_1.index t = ![0, 0, 0] ∧ win0_2.index t = ![0, 0] ∧ win0_3.index t = ![0, t.val % 5]
    ∧ win0_4.index t = ![0, 0] ∧ win0_5.index t = ![t.val / 5, t.val % 5] ∧ win0_6.index t = ![t.val / 5, 0] :=
  (by decide +kernel : ∀ t : Fin grid0.N, _)

/-- The table's row that the four quarters of a row block take. -/
theorem off_eq : ∀ t : Fin cfg0.N, ∀ u : Fin 4,
    k0_off1 (grid0.coords t) (BitVec.ofNat 32 u.val)
      = ![2 * ((4 * (t.val / 5) + u.val) / 17) + if (4 * (t.val / 5) + u.val) % 17 = 0 then 0 else 1, 0, 0] :=
  (by decide +kernel : ∀ t : Fin grid0.N, ∀ u : Fin 4, _)

/-- Every block of the two results is some grid point's. -/
theorem covers5 : (cfg0.win 5).Covers :=
  (cfg0.win 5).covers_of_index_surj rfl (by decide) fun β => by
    have h0 : (β 0).val < 34 := (β 0).isLt
    have h1 : (β 1).val < 5 := (β 1).isLt
    refine ⟨⟨5 * (β 0).val + (β 1).val, lt_of_lt_of_eq (by omega) N_0.symm⟩, fun a => ?_⟩
    show win0_5.index _ a = _
    rw [(idx _).2.2.2.2.2.1]
    fin_cases a
    · show (5 * (β 0).val + (β 1).val) / 5 = (β 0).val
      omega
    · show (5 * (β 0).val + (β 1).val) % 5 = (β 1).val
      omega

theorem covers6 : (cfg0.win 6).Covers :=
  (cfg0.win 6).covers_of_index_surj rfl (by decide) fun β => by
    have h0 : (β 0).val < 34 := (β 0).isLt
    have h1 : (β 1).val < 1 := (β 1).isLt
    refine ⟨⟨5 * (β 0).val, lt_of_lt_of_eq (by omega) N_0.symm⟩, fun a => ?_⟩
    show win0_6.index _ a = _
    rw [(idx _).2.2.2.2.2.2]
    fin_cases a
    · show 5 * (β 0).val / 5 = (β 0).val
      omega
    · show 0 = (β 1).val
      omega

/-- The row of the arrays that row `r` of the block of grid point `t` is. -/
def tr (t : Fin cfg0.N) (r : Fin 1024) : Fin 34816 := ⟨t.val / 5 * 1024 + r.val, by have := points t; omega⟩
/-- Its batch row and its token. -/
def tb (t : Fin cfg0.N) (r : Fin 1024) : Fin 8 := ⟨(t.val / 5 * 1024 + r.val) / 4352, by have := points t; omega⟩
def ti (t : Fin cfg0.N) (r : Fin 1024) : Fin 4352 := ⟨(t.val / 5 * 1024 + r.val) % 4352, by omega⟩

/-- A row block's points share their rows. -/
theorem tr_base (t : Fin cfg0.N) (r : Fin 1024) : tr (base t) r = tr t r := by
  refine Fin.ext ?_
  show 5 * (t.val / 5) / 5 * 1024 + r.val = t.val / 5 * 1024 + r.val
  omega
theorem tb_base (t : Fin cfg0.N) (r : Fin 1024) : tb (base t) r = tb t r := by
  refine Fin.ext ?_
  show (5 * (t.val / 5) / 5 * 1024 + r.val) / 4352 = (t.val / 5 * 1024 + r.val) / 4352
  rw [show 5 * (t.val / 5) / 5 = t.val / 5 by omega]
theorem ti_base (t : Fin cfg0.N) (r : Fin 1024) : ti (base t) r = ti t r := by
  refine Fin.ext ?_
  show (5 * (t.val / 5) / 5 * 1024 + r.val) % 4352 = (t.val / 5 * 1024 + r.val) % 4352
  rw [show 5 * (t.val / 5) / 5 = t.val / 5 by omega]

theorem x_at (c : Dev nD) (t : Fin cfg0.N) (r : Fin 1024) (l : Fin 2048) :
    (show EReal from iblk m c 0 t (ix2 r l : S1024x2048.Idx))
      = m ((c : Thread nD τ).loc main_arg0) (ix2 ⟨(tb t r).val * 4352 + (ti t r).val, by omega⟩ l : S34816x2048.Idx) := by
  have e : (⟨(tb t r).val * 4352 + (ti t r).val, by omega⟩ : Fin 34816) = tr t r := by
    refine Fin.ext ?_
    show (t.val / 5 * 1024 + r.val) / 4352 * 4352 + (t.val / 5 * 1024 + r.val) % 4352 = t.val / 5 * 1024 + r.val
    omega
  rw [e]
  blk_point [iblk, V, idx t, tr]

theorem ms_at (c : Dev nD) (t : Fin cfg0.N) (p : Fin 16) (q : Fin 2) (l : Fin 2048) :
    (show EReal from iblk m c 1 t (ix3 p q l : S16x2x2048.Idx)) = table (m ((c : Thread nD τ).loc main_arg1)) (ix3 p q l) := by
  refine Eq.trans ?_ (V14 m c p q l)
  blk_point [iblk, idx t]

theorem nw_at (c : Dev nD) (t : Fin cfg0.N) (k : Fin 2048) :
    (show EReal from iblk m c 2 t (ix2 0 k : S1x2048.Idx)) = m ((c : Thread nD τ).loc main_arg2) (ix1 k : S2048.Idx) := by
  refine Eq.trans ?_ (V34 m c k)
  blk_point [iblk, idx t]

theorem w_at (c : Dev nD) (t : Fin cfg0.N) (k : Fin 2048) (l : Fin 1280) :
    (show EReal from iblk m c 3 t (ix2 k l : S2048x1280.Idx))
      = m ((c : Thread nD τ).loc main_arg3) (ix2 k (mainCol ⟨t.val % 5 * 1280 + l.val, by omega⟩) : S2048x6480.Idx) := by
  refine (Eq.trans ?_ (V32 m c k ⟨t.val % 5 * 1280 + l.val, by omega⟩)).trans (wide_at _ k _)
  blk_point [iblk, idx t]

theorem ws_at (c : Dev nD) (t : Fin cfg0.N) (k : Fin 2048) (l : Fin 128) :
    (show EReal from iblk m c 4 t (ix2 k l : S2048x128.Idx))
      = if h : l.val < 80 then m ((c : Thread nD τ).loc main_arg3) (ix2 k (smallCol l h) : S2048x6480.Idx) else (0 : EReal) := by
  refine (Eq.trans ?_ (V33 m c k l)).trans (narrow_at _ k l)
  blk_point [iblk, idx t]

/-- The modulation of quarter `u` of a row block: its row of the table is the row of the quarter's tokens. -/
theorem mod_at (c : Dev nD) (t : Fin cfg0.N) (u : Fin 4) (q : Fin 2) (l : Fin 2048) (h : _) :
    ∃ p : Fin 16, (∀ i : Fin 256, tabRow p = Out.modRow (tb t ⟨u.val * 256 + i.val, by omega⟩) (ti t ⟨u.val * 256 + i.val, by omega⟩))
      ∧ (show EReal from View.ld (iblk m c 1 t) (Rect.unit (k0_off1 (grid0.coords t) (BitVec.ofNat 32 u.val)) ![1, 2, 2048] h) (ix3 0 q l : S1x2x2048.Idx))
        = table (m ((c : Thread nD τ).loc main_arg1)) (ix3 p q l) := by
  have ht := points t
  have hp : 2 * ((4 * (t.val / 5) + u.val) / 17) + (if (4 * (t.val / 5) + u.val) % 17 = 0 then 0 else 1) < 16 := by split <;> omega
  refine ⟨⟨_, hp⟩, fun i => Fin.ext ?_, ?_⟩
  · unfold tabRow Out.modRow tb ti
    by_cases h17 : (4 * (t.val / 5) + u.val) % 17 = 0
    · have e : (t.val / 5 * 1024 + (u.val * 256 + i.val)) % 4352 < 256 := by omega
      simp only [h17, e, if_true]
      rw [if_pos (by omega)]
    · have e : ¬ (t.val / 5 * 1024 + (u.val * 256 + i.val)) % 4352 < 256 := by omega
      simp only [h17, e, if_false]
      rw [if_neg (by omega)]
      show _ / 2 = _ / 4352
      omega
  · refine (View.ld_unit_apply_of (iblk m c 1 t) _ _ h (ix3 0 q l : S1x2x2048.Idx) (ix3 ⟨_, hp⟩ q l : S16x2x2048.Idx) ?_).trans (ms_at m c t ⟨_, hp⟩ q l)
    intro a
    refine Eq.trans ?_ (congrArg (· + _) (congrFun (off_eq t u) a).symm)
    revert a
    show ∀ a : Fin 3, _
    intro a
    fin_cases a <;> simp

/-- A row of quarter `u`, computed from the staged blocks, is `hid` of its token. -/
theorem row_at (c : Dev nD) (t : Fin cfg0.N) (u : Fin 4) (x : FVec Ideal S256x2048 .f32)
    (hx : ∀ i l, x (ix2 i l) = (show EReal from iblk m c 0 t (ix2 ⟨u.val * 256 + i.val, by omega⟩ l : S1024x2048.Idx))) (h : _) (i : Fin 256) (k : Fin 2048) :
    row x (iblk m c 2 t) (View.ld (iblk m c 1 t) (Rect.unit (k0_off1 (grid0.coords t) (BitVec.ofNat 32 u.val)) ![1, 2, 2048] h)) i k
      = hid (m ((c : Thread nD τ).loc main_arg0)) (m ((c : Thread nD τ).loc main_arg1)) (m ((c : Thread nD τ).loc main_arg2))
          (tb t ⟨u.val * 256 + i.val, by omega⟩) (ti t ⟨u.val * 256 + i.val, by omega⟩) k := by
  obtain ⟨p, hp, e0⟩ := mod_at m c t u 0 k h
  obtain ⟨q, hq, e1⟩ := mod_at m c t u 1 k h
  unfold row hid normed
  refine congrArg₂ (· + ·) (congrArg₂ (· * ·) (congrArg₂ (· * ·) ?_ (nw_at m c t k)) (congrArg (_ + ·) ?_)) ?_
  · refine congrArg (fun y => Norm.norm _ y k) (funext fun l => ?_)
    exact (hx i l).trans (x_at m c t _ l)
  · exact e0.trans ((scale_at _ p k).trans (by rw [hp i]))
  · exact e1.trans ((shift_at _ q k).trans (by rw [hq i]))

/-- The scratch after the first column block of a row block. -/
theorem h_first (c : Dev nD) (t : Fin cfg0.N) (h : t.val % 5 = 0) (r : Fin 1024) (k : Fin 2048) :
    (show EReal from hFirst m c t h (ix2 r k : S1024x2048.Idx)) = hid (m ((c : Thread nD τ).loc main_arg0)) (m ((c : Thread nD τ).loc main_arg1))
      (m ((c : Thread nD τ).loc main_arg2)) (tb t r) (ti t r) k := by
  unfold hFirst firstAt
  frame_out
  canon_tiles x h
  · obtain ⟨i, j, rfl⟩ : ∃ (i : Fin 256) (j : Fin 2048), x = (ix2 i j : S256x2048.Idx) := ⟨x 0, x 1, eq_ix2 (n0 := 256) (n1 := 2048) x⟩
    obtain rfl : r = ⟨(3 : Fin 4).val * 256 + i.val, Nat.add_lt_add_left i.isLt 768⟩ := Fin.ext h0
    obtain rfl : k = j := Fin.ext h1
    refine (pay1_at _ _ _ i k).trans (row_at m c t 3 _ (fun i l => ?_) _ i k)
    pointwise []
  · obtain ⟨i, j, rfl⟩ : ∃ (i : Fin 256) (j : Fin 2048), x = (ix2 i j : S256x2048.Idx) := ⟨x 0, x 1, eq_ix2 (n0 := 256) (n1 := 2048) x⟩
    obtain rfl : r = ⟨(2 : Fin 4).val * 256 + i.val, Nat.lt_of_lt_of_le (Nat.add_lt_add_left i.isLt 512) (by decide)⟩ := Fin.ext h0
    obtain rfl : k = j := Fin.ext h1
    refine (pay9_at _ _ _ i k).trans (row_at m c t 2 _ (fun i l => ?_) _ i k)
    pointwise []
  · obtain ⟨i, j, rfl⟩ : ∃ (i : Fin 256) (j : Fin 2048), x = (ix2 i j : S256x2048.Idx) := ⟨x 0, x 1, eq_ix2 (n0 := 256) (n1 := 2048) x⟩
    obtain rfl : r = ⟨(1 : Fin 4).val * 256 + i.val, Nat.lt_of_lt_of_le (Nat.add_lt_add_left i.isLt 256) (by decide)⟩ := Fin.ext h0
    obtain rfl : k = j := Fin.ext h1
    refine (pay7_at _ _ _ i k).trans (row_at m c t 1 _ (fun i l => ?_) _ i k)
    pointwise []
  · obtain ⟨i, j, rfl⟩ : ∃ (i : Fin 256) (j : Fin 2048), x = (ix2 i j : S256x2048.Idx) := ⟨x 0, x 1, eq_ix2 (n0 := 256) (n1 := 2048) x⟩
    obtain rfl : r = ⟨(0 : Fin 4).val * 256 + i.val, Nat.lt_of_lt_of_le (Nat.add_lt_add_left i.isLt 0) (by decide)⟩ := Fin.ext (h0.trans (Nat.zero_add _).symm)
    obtain rfl : k = j := Fin.ext h1
    refine (pay6_at _ _ _ i k).trans (row_at m c t 0 _ (fun i l => ?_) _ i k)
    pointwise []

/-- The scratch at every point. -/
theorem h_at (c : Dev nD) (t : Fin cfg0.N) (r : Fin 1024) (k : Fin 2048) :
    (show EReal from hAt m c t (ix2 r k : S1024x2048.Idx)) = hid (m ((c : Thread nD τ).loc main_arg0)) (m ((c : Thread nD τ).loc main_arg1))
      (m ((c : Thread nD τ).loc main_arg2)) (tb t r) (ti t r) k := by
  refine (h_first m c (base t) (base_mod t) r k).trans ?_
  rw [tb_base, ti_base]

/-- What grid point `t` leaves for the main result, -/
theorem main_point (c : Dev nD) (t : Fin cfg0.N) (r : Fin 1024) (l : Fin 1280) :
    (show EReal from zAt m c t (ix2 r l : S1024x1280.Idx)) = MAIN (m ((c : Thread nD τ).loc main_arg0)) (m ((c : Thread nD τ).loc main_arg1))
      (m ((c : Thread nD τ).loc main_arg2)) (m ((c : Thread nD τ).loc main_arg3)) (ix2 (tr t r) ⟨t.val % 5 * 1280 + l.val, by omega⟩) := by
  rw [z_eq]
  refine (pay3_at _ _ r l).trans ?_
  exact Finset.sum_congr rfl fun k _ => congrArg₂ (· * ·) (h_at m c t r k) (w_at m c t k l)

theorem zero_right (a b : EReal) (h : b = 0) : a * b = 0 := by rw [h, mul_zero]

/-- and for the small one. -/
theorem small_point (c : Dev nD) (t : Fin cfg0.N) (r : Fin 1024) (l : Fin 128) :
    (show EReal from sAt m c t (ix2 r l : S1024x128.Idx)) = SMALL (m ((c : Thread nD τ).loc main_arg0)) (m ((c : Thread nD τ).loc main_arg1))
      (m ((c : Thread nD τ).loc main_arg2)) (m ((c : Thread nD τ).loc main_arg3)) (ix2 (tr t r) l) := by
  rw [s_eq]
  refine (pay2_at _ _ r l).trans ?_
  by_cases h : l.val < 80
  · refine Eq.trans ?_ (small_lt _ _ _ _ (tr t r) l h).symm
    exact Finset.sum_congr rfl fun k _ => congrArg₂ (· * ·) (h_at m c t r k) ((ws_at m c (base t) k l).trans (dif_pos h))
  · refine Eq.trans ?_ (small_ge _ _ _ _ (tr t r) l h).symm
    refine Finset.sum_eq_zero fun k _ => ?_
    exact zero_right _ _ ((ws_at m c (base t) k l).trans (dif_neg h))

theorem z_emb (t : Fin cfg0.N) (r : Fin 1024) (l : Fin 1280) :
    ((cfg0.win 5).blk t).view.emb (ix2 r l : S1024x1280.Idx) = (ix2 (tr t r) ⟨t.val % 5 * 1280 + l.val, by omega⟩ : S34816x6400.Idx) := by
  blk_ext [idx t, tr]

theorem s_emb (t : Fin cfg0.N) (r : Fin 1024) (l : Fin 128) :
    ((cfg0.win 6).blk t).view.emb (ix2 r l : S1024x128.Idx) = (ix2 (tr t r) l : S34816x128.Idx) := by
  blk_ext [idx t, tr]

/-- THE MAIN RESULT after the run. -/
theorem final5 (c : Dev nD) :
    (dats m 0 c).arrAt 5 (cfgs 0).N = MAIN (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ covers5 fun t _ y => ?_
  blk_simp
  rw [after_5]
  obtain ⟨r, l, rfl⟩ : ∃ (r : Fin 1024) (l : Fin 1280), y = (ix2 r l : S1024x1280.Idx) := ⟨y 0, y 1, eq_ix2 (n0 := 1024) (n1 := 1280) y⟩
  exact (main_point m c t r l).trans (congrArg (MAIN _ _ _ _) (z_emb t r l).symm)

/-- THE SMALL RESULT after the run. -/
theorem final6 (c : Dev nD) :
    (dats m 0 c).arrAt 6 (cfgs 0).N = SMALL (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ covers6 fun t _ y => ?_
  blk_simp
  rw [after_6]
  obtain ⟨r, l, rfl⟩ : ∃ (r : Fin 1024) (l : Fin 128), y = (ix2 r l : S1024x128.Idx) := ⟨y 0, y 1, eq_ix2 (n0 := 1024) (n1 := 128) y⟩
  exact (small_point m c t r l).trans (congrArg (SMALL _ _ _ _) (s_emb t r l).symm)

end Cert.Proof.Inproj

end
-- ==== Proof.Inproj.Ref.lean ====
/- What the input projection's reference computes, entry by entry: the rows of the context and the rows of the latents apart. -/
module

public import proofs.«01_k».proof.Proof.Gen.Reference2Ideal.Run
public import Idealize.ShloMosaic.Lib.Pointwise
public import Idealize.ShloMosaic.Lib.Pipeline.ValueKit
public import proofs.«01_k».proof.Proof.Inproj.Spec

@[expose] public section

set_option maxRecDepth 16384

noncomputable section

namespace Cert.Proof.Inproj.Ref

open Idealize.ShloMosaic Idealize.ShloMosaic.TcCoe Idealize.SL.Sem
open Cert.Reference2Ideal Cert.Reference2Ideal.Gen

/-- The rows of the context. -/
def rowsC (X : FVec Ideal S34816x2048 .f32) : FVec Ideal S8x256x2048 .f32 :=
  extractStridedSlice S8x256x2048 ![0, 0, 0] (shapeCast S8x4352x2048 X shapeCasts_S34816x2048_S8x4352x2048) slices_S8x4352x2048_S8x256x2048_0_0_0

/-- Their sums of squares. -/
def squaresC (Y : FVec Ideal S8x256x2048 .f32) : FVec Ideal S8x256 .f32 :=
  Host.reduceAdd (mulf Y Y) (constant S_ .f32 0x00000000#32) reducesTo_S8x256x2048_S8x256_d2 h_S_

/-- Their norm, times the norm's weights. -/
def normC (Y : FVec Ideal S8x256x2048 .f32) (s : FVec Ideal S8x256 .f32) (nw : FVec Ideal S2048 .f32) : FVec Ideal S8x256x2048 .f32 :=
  mulf (mulf Y (broadcastInDim S8x256x2048 ![0, 1, 2] bcast_S8x256x1_S8x256x2048_0_1_2 (Host.rsqrt (addf (Host.divf
    (broadcastInDim S8x256x1 ![0, 1] bcast_S8x256_S8x256x1_0_1 s) (broadcastInDim S8x256x1 ![] bcast_S_S8x256x1 (constant S_ .f32 0x45000000#32)))
    (broadcastInDim S8x256x1 ![] bcast_S_S8x256x1 (constant S_ .f32 0x358637BD#32))))))
    (broadcastInDim S8x256x2048 ![0, 1, 2] bcast_S1x1x2048_S8x256x2048_0_1_2 (broadcastInDim S1x1x2048 ![2] bcast_S2048_S1x1x2048_2 nw))

/-- The norm scaled and shifted by the modulation. -/
def modC (N : FVec Ideal S8x256x2048 .f32) (M : FVec Ideal S16x6144 .f32) : FVec Ideal S8x256x2048 .f32 :=
  addf (mulf N (broadcastInDim S8x256x2048 ![0, 1, 2] bcast_S1x1x2048_S8x256x2048_0_1_2 (broadcastInDim S1x1x2048 ![2] bcast_S2048_S1x1x2048_2
    (addf (broadcastInDim S2048 ![] bcast_S_S2048 (constant S_ .f32 0x3F800000#32)) (shapeCast S2048 (extractStridedSlice S1x2048 ![8, 0]
      (extractStridedSlice S16x2048 ![0, 2048] M slices_S16x6144_S16x2048_0_2048) slices_S16x2048_S1x2048_8_0) shapeCasts_S1x2048_S2048)))))
    (broadcastInDim S8x256x2048 ![0, 1, 2] bcast_S1x1x2048_S8x256x2048_0_1_2 (broadcastInDim S1x1x2048 ![2] bcast_S2048_S1x1x2048_2
      (shapeCast S2048 (extractStridedSlice S1x2048 ![8, 0] (extractStridedSlice S16x2048 ![0, 0] M slices_S16x6144_S16x2048_0_0)
        slices_S16x2048_S1x2048_8_0) shapeCasts_S1x2048_S2048)))

theorem rowsC_at (X : FVec Ideal S34816x2048 .f32) (b : Fin 8) (i : Fin 256) (k : Fin 2048) :
    rowsC X (ix3 b i k) = X (ix2 ⟨b.val * 4352 + (i.val), by omega⟩ k) := by
  pointwise [rowsC]

theorem squaresC_at (Y : FVec Ideal S8x256x2048 .f32) (b : Fin 8) (i : Fin 256) :
    squaresC Y (ix2 b i) = ∑ k : Fin 2048, Y (ix3 b i k) * Y (ix3 b i k) := by
  pointwise [squaresC]

theorem normC_at (Y : FVec Ideal S8x256x2048 .f32) (s : FVec Ideal S8x256 .f32) (nw : FVec Ideal S2048 .f32) (b : Fin 8) (i : Fin 256) (k : Fin 2048) :
    normC Y s nw (ix3 b i k)
      = Y (ix3 b i k) * Ideal.rsqrt (Ideal.div (s (ix2 b i)) (Ideal.ofBits .f32 0x45000000#32) + Ideal.ofBits .f32 0x358637BD#32) * nw (ix1 k) := by
  pointwise [normC]

theorem modC_at (N : FVec Ideal S8x256x2048 .f32) (M : FVec Ideal S16x6144 .f32) (b : Fin 8) (i : Fin 256) (k : Fin 2048) :
    modC N M (ix3 b i k) = N (ix3 b i k) * (Ideal.ofBits .f32 0x3F800000#32 + M (ix2 8 ⟨2048 + k.val, by omega⟩))
      + M (ix2 8 ⟨k.val, by omega⟩) := by
  pointwise [modC]

/-- The context: what goes into the product is `hid` at their tokens. -/
theorem hidC_at (X : FVec Ideal S34816x2048 .f32) (M : FVec Ideal S16x6144 .f32) (nw : FVec Ideal S2048 .f32) (b : Fin 8) (i : Fin 256) (k : Fin 2048) :
    modC (normC (rowsC X) (squaresC (rowsC X)) nw) M (ix3 b i k) = hid X M nw b ⟨i.val, by omega⟩ k := by
  rw [modC_at, normC_at, squaresC_at]
  simp only [rowsC_at]
  unfold hid normed Norm.norm Out.modRow
  rw [if_pos i.isLt]

theorem dotC_at (H : FVec Ideal S8x256x2048 .f32) (W : FVec Ideal S2048x6480 .f32) (b : Fin 8) (i : Fin 256) (l : Fin 6480) :
    Host.dotGeneral dot_S8x256x2048_S2048x6480_S8x256x6480_2_0_01_1_n_n none H W (ix3 b i l) = ∑ k : Fin 2048, H (ix3 b i k) * W (ix2 k l) := by
  pointwise []

/-- The rows of the latents. -/
def rowsL (X : FVec Ideal S34816x2048 .f32) : FVec Ideal S8x4096x2048 .f32 :=
  extractStridedSlice S8x4096x2048 ![0, 256, 0] (shapeCast S8x4352x2048 X shapeCasts_S34816x2048_S8x4352x2048) slices_S8x4352x2048_S8x4096x2048_0_256_0

/-- Their sums of squares. -/
def squaresL (Y : FVec Ideal S8x4096x2048 .f32) : FVec Ideal S8x4096 .f32 :=
  Host.reduceAdd (mulf Y Y) (constant S_ .f32 0x00000000#32) reducesTo_S8x4096x2048_S8x4096_d2 h_S_

/-- Their norm, times the norm's weights. -/
def normL (Y : FVec Ideal S8x4096x2048 .f32) (s : FVec Ideal S8x4096 .f32) (nw : FVec Ideal S2048 .f32) : FVec Ideal S8x4096x2048 .f32 :=
  mulf (mulf Y (broadcastInDim S8x4096x2048 ![0, 1, 2] bcast_S8x4096x1_S8x4096x2048_0_1_2 (Host.rsqrt (addf (Host.divf
    (broadcastInDim S8x4096x1 ![0, 1] bcast_S8x4096_S8x4096x1_0_1 s) (broadcastInDim S8x4096x1 ![] bcast_S_S8x4096x1 (constant S_ .f32 0x45000000#32)))
    (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 nw))

/-- The norm scaled and shifted by the modulation. -/
def modL (N : FVec Ideal S8x4096x2048 .f32) (M : FVec Ideal S16x6144 .f32) : FVec Ideal S8x4096x2048 .f32 :=
  addf (mulf N (broadcastInDim S8x4096x2048 ![0, 1, 2] bcast_S8x1x2048_S8x4096x2048_0_1_2
    (addf (broadcastInDim S8x1x2048 ![] bcast_S_S8x1x2048 (constant S_ .f32 0x3F800000#32)) (broadcastInDim S8x1x2048 ![0, 2] bcast_S8x2048_S8x1x2048_0_2
      (extractStridedSlice S8x2048 ![0, 0] (extractStridedSlice S16x2048 ![0, 2048] M slices_S16x6144_S16x2048_0_2048) slices_S16x2048_S8x2048_0_0)))))
    (broadcastInDim S8x4096x2048 ![0, 1, 2] bcast_S8x1x2048_S8x4096x2048_0_1_2 (broadcastInDim S8x1x2048 ![0, 2] bcast_S8x2048_S8x1x2048_0_2
      (extractStridedSlice S8x2048 ![0, 0] (extractStridedSlice S16x2048 ![0, 0] M slices_S16x6144_S16x2048_0_0) slices_S16x2048_S8x2048_0_0)))

theorem rowsL_at (X : FVec Ideal S34816x2048 .f32) (b : Fin 8) (i : Fin 4096) (k : Fin 2048) :
    rowsL X (ix3 b i k) = X (ix2 ⟨b.val * 4352 + (256 + i.val), by omega⟩ k) := by
  pointwise [rowsL]

theorem squaresL_at (Y : FVec Ideal S8x4096x2048 .f32) (b : Fin 8) (i : Fin 4096) :
    squaresL Y (ix2 b i) = ∑ k : Fin 2048, Y (ix3 b i k) * Y (ix3 b i k) := by
  pointwise [squaresL]

theorem normL_at (Y : FVec Ideal S8x4096x2048 .f32) (s : FVec Ideal S8x4096 .f32) (nw : FVec Ideal S2048 .f32) (b : Fin 8) (i : Fin 4096) (k : Fin 2048) :
    normL Y s nw (ix3 b i k)
      = Y (ix3 b i k) * Ideal.rsqrt (Ideal.div (s (ix2 b i)) (Ideal.ofBits .f32 0x45000000#32) + Ideal.ofBits .f32 0x358637BD#32) * nw (ix1 k) := by
  pointwise [normL]

theorem modL_at (N : FVec Ideal S8x4096x2048 .f32) (M : FVec Ideal S16x6144 .f32) (b : Fin 8) (i : Fin 4096) (k : Fin 2048) :
    modL N M (ix3 b i k) = N (ix3 b i k) * (Ideal.ofBits .f32 0x3F800000#32 + M (ix2 ⟨b.val, by omega⟩ ⟨2048 + k.val, by omega⟩))
      + M (ix2 ⟨b.val, by omega⟩ ⟨k.val, by omega⟩) := by
  pointwise [modL]

/-- The latents: what goes into the product is `hid` at their tokens. -/
theorem hidL_at (X : FVec Ideal S34816x2048 .f32) (M : FVec Ideal S16x6144 .f32) (nw : FVec Ideal S2048 .f32) (b : Fin 8) (i : Fin 4096) (k : Fin 2048) :
    modL (normL (rowsL X) (squaresL (rowsL X)) nw) M (ix3 b i k) = hid X M nw b ⟨256 + i.val, by omega⟩ k := by
  rw [modL_at, normL_at, squaresL_at]
  simp only [rowsL_at]
  unfold hid normed Norm.norm Out.modRow
  rw [if_neg (by simp)]

theorem dotL_at (H : FVec Ideal S8x4096x2048 .f32) (W : FVec Ideal S2048x6480 .f32) (b : Fin 8) (i : Fin 4096) (l : Fin 6480) :
    Host.dotGeneral dot_S8x4096x2048_S2048x6480_S8x4096x6480_2_0_01_1_n_n none H W (ix3 b i l) = ∑ k : Fin 2048, H (ix3 b i k) * W (ix2 k l) := by
  pointwise []

/-- Both products, the tokens of the context before those of the latents, all batch rows one after another. -/
def flat (A : FVec Ideal S8x256x6480 .f32) (B : FVec Ideal S8x4096x6480 .f32) : FVec Ideal S34816x6480 .f32 :=
  shapeCast S34816x6480 (concatenate S8x4352x6480 1 [⟨S8x256x6480, A⟩, ⟨S8x4096x6480, B⟩] concatenates_S8x256x6480_S8x4096x6480_S8x4352x6480_d1)
    shapeCasts_S8x4352x6480_S34816x6480

/-- The product of every row with the weights. -/
def rowsOut (X : FVec Ideal S34816x2048 .f32) (M : FVec Ideal S16x6144 .f32) (nw : FVec Ideal S2048 .f32) (W : FVec Ideal S2048x6480 .f32) :
    FVec Ideal S34816x6480 .f32 :=
  flat (Host.dotGeneral dot_S8x256x2048_S2048x6480_S8x256x6480_2_0_01_1_n_n none (modC (normC (rowsC X) (squaresC (rowsC X)) nw) M) W)
    (Host.dotGeneral dot_S8x4096x2048_S2048x6480_S8x4096x6480_2_0_01_1_n_n none (modL (normL (rowsL X) (squaresL (rowsL X)) nw) M) W)

/-- The columns of the main result, -/
def mainOf (z : FVec Ideal S34816x6480 .f32) : FVec Ideal S34816x6400 .bf16 :=
  truncf .bf16 (concatenate S34816x6400 1 [⟨S34816x4096, extractStridedSlice S34816x4096 ![0, 0] z slices_S34816x6480_S34816x4096_0_0⟩,
    ⟨S34816x512, extractStridedSlice S34816x512 ![0, 4880] z slices_S34816x6480_S34816x512_0_4880⟩,
    ⟨S34816x768, extractStridedSlice S34816x768 ![0, 4112] z slices_S34816x6480_S34816x768_0_4112⟩,
    ⟨S34816x1024, extractStridedSlice S34816x1024 ![0, 5456] z slices_S34816x6480_S34816x1024_0_5456⟩]
    concatenates_S34816x4096_S34816x512_S34816x768_S34816x1024_S34816x6400_d1) bitsLt_bf16_f32

/-- and of the small one. -/
def smallOf (z : FVec Ideal S34816x6480 .f32) : FVec Ideal S34816x128 .f32 :=
  concatenate S34816x128 1 [⟨S34816x64, extractStridedSlice S34816x64 ![0, 5392] z slices_S34816x6480_S34816x64_0_5392⟩,
    ⟨S34816x16, extractStridedSlice S34816x16 ![0, 4096] z slices_S34816x6480_S34816x16_0_4096⟩,
    ⟨S34816x48, broadcastInDim S34816x48 ![] bcast_S_S34816x48 (constant (F := Ideal) S_ .f32 0x00000000#32)⟩]
    concatenates_S34816x64_S34816x16_S34816x48_S34816x128_d1

/-- The reference's two results as functions of its arguments. -/
theorem main_eq (m : (ℓ : Loc nD τ sig) → Buf (Elt Ideal) ℓ) (c : Dev nD) :
    Value.res_main_v67 m c = mainOf (rowsOut (m ((c.tc : Thread nD τ).loc main_arg0)) (m ((c.tc : Thread nD τ).loc main_arg1))
      (m ((c.tc : Thread nD τ).loc main_arg2)) (m ((c.tc : Thread nD τ).loc main_arg3))) := by
  unfold Value.res_main_v67
  rfl

theorem small_eq (m : (ℓ : Loc nD τ sig) → Buf (Elt Ideal) ℓ) (c : Dev nD) :
    Value.res_main_v66 m c = smallOf (rowsOut (m ((c.tc : Thread nD τ).loc main_arg0)) (m ((c.tc : Thread nD τ).loc main_arg1))
      (m ((c.tc : Thread nD τ).loc main_arg2)) (m ((c.tc : Thread nD τ).loc main_arg3))) := by
  unfold Value.res_main_v66
  rfl

theorem cat_at (A : FVec Ideal S8x256x6480 .f32) (B : FVec Ideal S8x4096x6480 .f32) (b : Fin 8) (i : Fin 4352) (l : Fin 6480) :
    (concatenate S8x4352x6480 1 [⟨S8x256x6480, A⟩, ⟨S8x4096x6480, B⟩] concatenates_S8x256x6480_S8x4096x6480_S8x4352x6480_d1 : FVec Ideal S8x4352x6480 .f32) (ix3 b i l)
      = if h : i.val < 256 then A (ix3 b ⟨i.val, h⟩ l) else B (ix3 b ⟨i.val - 256, by omega⟩ l) := by
  pointwise []

theorem cast_at (B : FVec Ideal S8x4352x6480 .f32) (r : Fin 34816) (l : Fin 6480) :
    shapeCast S34816x6480 B shapeCasts_S8x4352x6480_S34816x6480 (ix2 r l) = B (ix3 ⟨r.val / 4352, by omega⟩ ⟨r.val % 4352, by omega⟩ l) := by
  pointwise []

/-- Every row's product is `prod` at its token. -/
theorem rowsOut_at (X : FVec Ideal S34816x2048 .f32) (M : FVec Ideal S16x6144 .f32) (nw : FVec Ideal S2048 .f32) (W : FVec Ideal S2048x6480 .f32)
    (r : Fin 34816) (l : Fin 6480) :
    rowsOut X M nw W (ix2 r l) = prod X M nw W ⟨r.val / 4352, by omega⟩ ⟨r.val % 4352, by omega⟩ l := by
  unfold rowsOut flat
  refine (cast_at _ r l).trans ?_
  rw [cat_at]
  by_cases h : r.val % 4352 < 256
  · rw [dif_pos h, dotC_at]
    simp only [hidC_at]
    rfl
  · rw [dif_neg h, dotL_at]
    simp only [hidL_at]
    have e : 256 + (r.val % 4352 - 256) = r.val % 4352 := by omega
    simp only [e]
    rfl

theorem entry_congr (z : FVec Ideal S34816x6480 .f32) (r : Fin 34816) (q : Fin 6480) (n : Nat) (hn : n < 6480) (h : n = q.val) :
    z (ix2 r ⟨n, hn⟩) = z (ix2 r q) := congrArg (fun a => z (ix2 r a)) (Fin.ext h)

theorem mainOf_at (z : FVec Ideal S34816x6480 .f32) (r : Fin 34816) (l : Fin 6400) : mainOf z (ix2 r l) = z (ix2 r (mainCol l)) := by
  have hl := l.isLt
  pointwise [mainOf]
  unfold mainCol
  by_cases h0 : l.val < 4096
  · rw [dif_pos h0]
    exact entry_congr z r _ _ _ (by rw [dif_pos h0])
  rw [dif_neg h0]
  by_cases h1 : l.val - 4096 < 512
  · have h1' : l.val < 4608 := by omega
    rw [dif_pos h1]
    exact entry_congr z r _ _ _ (by rw [dif_neg h0, dif_pos h1'])
  rw [dif_neg h1]
  have h1' : ¬ l.val < 4608 := by omega
  by_cases h2 : l.val - 4096 - 512 < 768
  · have h2' : l.val < 5376 := by omega
    rw [dif_pos h2]
    exact entry_congr z r _ _ _ (by rw [dif_neg h0, dif_neg h1', dif_pos h2']; show _ = 4112 + (l.val - 4608); omega)
  have h2' : ¬ l.val < 5376 := by omega
  rw [dif_neg h2]
  exact entry_congr z r _ _ _ (by rw [dif_neg h0, dif_neg h1', dif_neg h2']; show _ = 5456 + (l.val - 5376); omega)

theorem smallOf_lt (z : FVec Ideal S34816x6480 .f32) (r : Fin 34816) (l : Fin 128) (h : l.val < 80) : smallOf z (ix2 r l) = z (ix2 r (smallCol l h)) := by
  pointwise [smallOf]
  unfold smallCol
  by_cases h0 : l.val < 64
  · rw [dif_pos h0]
    exact entry_congr z r _ _ _ (by rw [dif_pos h0])
  rw [dif_neg h0, dif_pos (show l.val - 64 < 16 by omega)]
  exact entry_congr z r _ _ _ (by rw [dif_neg h0])

theorem smallOf_ge (z : FVec Ideal S34816x6480 .f32) (r : Fin 34816) (l : Fin 128) (h : ¬ l.val < 80) : smallOf z (ix2 r l) = 0 := by
  pointwise [smallOf]
  rw [dif_neg (by omega), dif_neg (by omega)]

/-- The reference's functions are `MAIN` and `SMALL`. -/
theorem main_spec (X : FVec Ideal S34816x2048 .f32) (M : FVec Ideal S16x6144 .f32) (nw : FVec Ideal S2048 .f32) (W : FVec Ideal S2048x6480 .f32) :
    mainOf (rowsOut X M nw W) = MAIN X M nw W := by
  funext j
  obtain ⟨r, l, rfl⟩ : ∃ (r : Fin 34816) (l : Fin 6400), j = ix2 r l := ⟨j 0, j 1, eq_ix2 (n0 := 34816) (n1 := 6400) j⟩
  exact (mainOf_at _ r l).trans (rowsOut_at X M nw W r (mainCol l))

theorem small_spec (X : FVec Ideal S34816x2048 .f32) (M : FVec Ideal S16x6144 .f32) (nw : FVec Ideal S2048 .f32) (W : FVec Ideal S2048x6480 .f32) :
    smallOf (rowsOut X M nw W) = SMALL X M nw W := by
  funext j
  obtain ⟨r, l, rfl⟩ : ∃ (r : Fin 34816) (l : Fin 128), j = ix2 r l := ⟨j 0, j 1, eq_ix2 (n0 := 34816) (n1 := 128) j⟩
  by_cases h : l.val < 80
  · exact ((smallOf_lt _ r l h).trans (rowsOut_at X M nw W r (smallCol l h))).trans (small_lt X M nw W r l h).symm
  · exact (smallOf_ge _ r l h).trans (small_ge X M nw W r l h).symm

end Cert.Proof.Inproj.Ref

end
-- ==== Proof.Inproj.Claim.lean ====
/- The claims about the input projection: its frames, and the kernel's two results equal to the reference's. -/
module

public import proofs.«01_k».proof.Defs
public import proofs.«01_k».proof.Proof.Gen.Kernel2
public import proofs.«01_k».proof.Proof.Gen.Kernel2Ideal
public import proofs.«01_k».proof.Proof.Gen.Reference2Ideal.Run
public import Idealize.ShloMosaic.Lib.Claim
public import proofs.«01_k».proof.Proof.Inproj.Hw.Frame
public import proofs.«01_k».proof.Proof.Inproj.Ideal.Frame
public import proofs.«01_k».proof.Proof.Inproj.Final
public import proofs.«01_k».proof.Proof.Inproj.Ref

@[expose] public section

set_option maxRecDepth 16384

noncomputable section

namespace Cert.Proof.Inproj

open Idealize.ShloMosaic Idealize.ShloMosaic.TcCoe Idealize.SL.Sem

theorem frame_kernel : Cert.quiescent_Kernel2 (hKernel2 := Cert.Kernel2.Gen.facts) :=
  fun m ρ _ => θ_run_and (Hw.unchanged m ρ) (Hw.quiet m ρ)

theorem frame_ideal : Cert.quiescent_Kernel2Ideal (hKernel2Ideal := Cert.Kernel2Ideal.Gen.facts) :=
  fun m ρ _ => θ_run_and (Ideal.unchanged m ρ) (Ideal.quiet m ρ)

theorem frame_ref : Cert.quiescent_Reference2Ideal (hReference2Ideal := Cert.Reference2Ideal.Gen.facts) := by
  intro m g _
  exact (θ_run Cert.Reference2Ideal.defs _ _).mono (fun r h => ⟨fun c => (h c).2.2, Idealize.ShloMosaic.sem_eq_zero_of_no_sems (by decide) r.2⟩)
    (Cert.Reference2Ideal.Value.run (F := Ideal) m g)

section
open Cert.Kernel2Ideal

/-- What the kernel leaves: `MAIN` and `SMALL` of its arguments, and the arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35_0) = MAIN (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v35_1) = SMALL (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (final5 m c), ((h.1 c).1 6).trans (final6 m c), h.2 c⟩)
    (θ_run_and (Ideal.run_main m ρ) (Ideal.unchanged m ρ))

end

/-- THE VALUE CLAIM. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨_, _, kernel_run m g, (θ_run Cert.Reference2Ideal.defs _ _).mono (fun r h c => ?_) (Cert.Reference2Ideal.Value.run (F := Ideal) m' g')⟩
  obtain ⟨h0, h1, h2, h3⟩ := hagree c
  refine ⟨(h c).1.trans ((Ref.main_eq m' c).trans ?_), (h c).2.1.trans ((Ref.small_eq m' c).trans ?_), (h c).2.2⟩
  · rw [h0, h1, h2, h3, Ref.main_spec]
  · rw [h0, h1, h2, h3, Ref.small_spec]

end Cert.Proof.Inproj

end
-- ==== Proof.Last.Spec.lean ====
/- The last layer's output projection with its residual and the final norm, written once, entry by entry. -/
module

public import proofs.«01_k».proof.Proof.Out.Spec
public import proofs.«01_k».proof.Proof.Norm

@[expose] public section

noncomputable section

namespace Cert.Proof.Last

open Idealize.ShloMosaic

/-- A row of the normed residual stream: batch row `b`, token `i`. -/
def normed (X : FVec Ideal ⟨2, ![34816, 2048]⟩ .f32) (R G : FVec Ideal ⟨3, ![8, 4352, 512]⟩ .bf16) (A : FVec Ideal ⟨3, ![8, 4352, 1024]⟩ .bf16)
    (M : FVec Ideal ⟨2, ![16, 6144]⟩ .f32) (W : FVec Ideal ⟨2, ![2048, 2048]⟩ .f32) (fw : FVec Ideal ⟨1, ![2048]⟩ .f32)
    (b : Fin 8) (i : Fin 4352) (l : Fin 2048) : EReal :=
  Norm.norm (Ideal.ofBits .f32 0x45000000#32) (fun k => Out.stream X R G A M W b i k) l * fw (ix1 l)

/-- All rows: row `r` is token `r % 4352` of batch row `r / 4352`. -/
def ALL (X : FVec Ideal ⟨2, ![34816, 2048]⟩ .f32) (R G : FVec Ideal ⟨3, ![8, 4352, 512]⟩ .bf16) (A : FVec Ideal ⟨3, ![8, 4352, 1024]⟩ .bf16)
    (M : FVec Ideal ⟨2, ![16, 6144]⟩ .f32) (W : FVec Ideal ⟨2, ![2048, 2048]⟩ .f32) (fw : FVec Ideal ⟨1, ![2048]⟩ .f32) :
    FVec Ideal ⟨2, ![34816, 2048]⟩ .f32 := fun j =>
  normed X R G A M W fw ⟨(j 0).val / 4352, by have : (j 0).val < 34816 := (j 0).isLt; omega⟩ ⟨(j 0).val % 4352, by omega⟩ (j 1)

/-- The result: the rows of the latents. -/
def SPEC (X : FVec Ideal ⟨2, ![34816, 2048]⟩ .f32) (R G : FVec Ideal ⟨3, ![8, 4352, 512]⟩ .bf16) (A : FVec Ideal ⟨3, ![8, 4352, 1024]⟩ .bf16)
    (M : FVec Ideal ⟨2, ![16, 6144]⟩ .f32) (W : FVec Ideal ⟨2, ![2048, 2048]⟩ .f32) (fw : FVec Ideal ⟨1, ![2048]⟩ .f32) :
    FVec Ideal ⟨3, ![8, 4096, 2048]⟩ .f32 := fun j =>
  normed X R G A M W fw (j 0) ⟨256 + (j 1).val, by have : (j 1).val < 4096 := (j 1).isLt; omega⟩ (j 2)

end Cert.Proof.Last

end
-- ==== Proof.Last.Final.lean ====
/- What the last layer's output projection leaves in its array after the run. -/
module

public import proofs.«01_k».proof.Proof.Gen.Kernel3Ideal.Frame
public import Idealize.ShloMosaic.Lib.Pipeline.ValueKit
public import Idealize.ShloMosaic.Lib.Pipeline.Covers
public import proofs.«01_k».proof.Proof.Rows
public import proofs.«01_k».proof.Proof.Last.Spec

@[expose] public section

set_option maxRecDepth 16384

noncomputable section

namespace Cert.Proof.Last

open Idealize.ShloMosaic Idealize.ShloMosaic.TcCoe Idealize.SL.Sem
open Idealize.ShloMosaic.Pipeline (Dat)
open Cert.Kernel3Ideal Cert.Kernel3Ideal.Gen Cert.Proof.Rows
open Cert.Proof.Out (acc modRow stream)

variable (m : (ℓ : Loc nD τ sig) → Buf (Elt Ideal) ℓ)

/-- The three products' sum at an entry. -/
theorem pay2_at (r : FVec Ideal S512x512 .bf16) (w0 : FVec Ideal S512x2048 .bf16) (g : FVec Ideal S512x512 .bf16) (w1 : FVec Ideal S512x2048 .bf16)
    (a : FVec Ideal S512x1024 .bf16) (w2 : FVec Ideal S1024x2048 .bf16) (i : Fin 512) (l : Fin 2048) :
    k0_pay2 (F := Ideal) r w0 g w1 a w2 (ix2 i l) = ((∑ k : Fin 512, r (ix2 i k) * w0 (ix2 k l)) + ∑ k : Fin 512, g (ix2 i k) * w1 (ix2 k l))
      + ∑ k : Fin 1024, a (ix2 i k) * w2 (ix2 k l) := by
  pointwise [k0_pay2]

/-- Half of a block before its norm: the residual plus the gated product. -/
def half (p : FVec Ideal S512x2048 .f32) (g : FVec Ideal S1x1x2048 .f32) (x : FVec Ideal S256x2048 .f32) (u : Fin 2) (i : Fin 256) (l : Fin 2048) : EReal :=
  x (ix2 i l) + g (ix3 0 0 l) * p (ix2 ⟨u.val * 256 + i.val, by omega⟩ l)

theorem pay4_at (p : FVec Ideal S512x2048 .f32) (g : FVec Ideal S1x1x2048 .f32) (x : FVec Ideal S256x2048 .f32) (i : Fin 256) (l : Fin 2048) :
    k0_pay4 (F := Ideal) p g x (ix2 i l) = half p g x 1 i l := by
  have e : (⟨(1 : Fin 2).val * 256 + i.val, by omega⟩ : Fin 512) = ⟨256 + i.val, by omega⟩ := Fin.ext (by simp)
  unfold half
  rw [e]
  pointwise [k0_pay4]

/-- The norm of a half's row times the norm's weights. -/
theorem pay1_at (y : FVec Ideal S256x2048 .f32) (w : FVec Ideal S1x2048 .f32) (i : Fin 256) (l : Fin 2048) :
    k0_pay1 (F := Ideal) y w (ix2 i l) = Cert.Proof.Norm.norm (Ideal.ofBits .f32 0x45000000#32) (fun k => y (ix2 i k)) l * w (ix2 0 l) := by
  unfold Cert.Proof.Norm.norm
  pointwise [k0_pay1]

/-- The first half before its norm. -/
def first (p : FVec Ideal S512x2048 .f32) (g : FVec Ideal S1x1x2048 .f32) (x : FVec Ideal S256x2048 .f32) : FVec Ideal S256x2048 .f32 :=
  addf x (mulf (broadcastTo S256x2048 (shapeCast S1x2048 g shapeCasts_S1x1x2048_S1x2048) broadcasts_S1x2048_S256x2048)
    (extractStridedSlice S256x2048 ![0, 0] p slices_S512x2048_o0_0_S256x2048))

theorem pay3_eq (p : FVec Ideal S512x2048 .f32) (g : FVec Ideal S1x1x2048 .f32) (x : FVec Ideal S256x2048 .f32) (w : FVec Ideal S1x2048 .f32) :
    k0_pay3 (F := Ideal) p g x w = k0_pay1 (F := Ideal) (first p g x) w := rfl

theorem first_at (p : FVec Ideal S512x2048 .f32) (g : FVec Ideal S1x1x2048 .f32) (x : FVec Ideal S256x2048 .f32) (i : Fin 256) (l : Fin 2048) :
    first p g x (ix2 i l) = half p g x 0 i l := by
  have e : (⟨(0 : Fin 2).val * 256 + i.val, by omega⟩ : Fin 512) = ⟨i.val, by omega⟩ := Fin.ext (by simp)
  unfold half
  rw [e]
  pointwise [first]

/-- The blocks of grid point `t`: 512 rows of the tokens, and the whole table and weights. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0, 0] ∧ win0_5.index t = ![0, 0] ∧ win0_6.index t = ![0, 0] ∧ win0_7.index t = ![t.val, 0] :=
  (by decide +kernel : ∀ t : Fin grid0.N, _)

/-- The table's row that the two halves of a block take. -/
theorem off_eq : ∀ t : Fin cfg0.N, ∀ h : Fin 2,
    k0_off1 (grid0.coords t) (BitVec.ofNat 32 h.val) = ![2 * ((2 * t.val + h.val) / 17) + if (2 * t.val + h.val) % 17 = 0 then 0 else 1, 0, 0] :=
  (by decide +kernel : ∀ t : Fin grid0.N, ∀ h : Fin 2, _)

/-- Every block of the result is some grid point's. -/
theorem covers : (cfg0.win 7).Covers :=
  (cfg0.win 7).covers_of_index_surj rfl (by decide) fun β => by
    have h0 : (β 0).val < 68 := (β 0).isLt
    have h1 : (β 1).val < 1 := (β 1).isLt
    refine ⟨⟨(β 0).val, lt_of_lt_of_eq (by omega) N_0.symm⟩, fun a => ?_⟩
    show win0_7.index _ a = _
    rw [(idx _).2.2.2.2.2.2.2]
    fin_cases a <;> simp

theorem tlt (t : Fin cfg0.N) : t.val < 68 := lt_of_lt_of_eq t.isLt N_0

/-- The row of the arrays that row `r` of the block of grid point `t` is. -/
def tr (t : Fin cfg0.N) (r : Fin 512) : Fin 34816 := ⟨t.val * 512 + r.val, by have := tlt t; omega⟩
/-- Its batch row and its token. -/
def tb (t : Fin cfg0.N) (r : Fin 512) : Fin 8 := ⟨(t.val * 512 + r.val) / 4352, by have := tlt t; omega⟩
def ti (t : Fin cfg0.N) (r : Fin 512) : Fin 4352 := ⟨(t.val * 512 + r.val) % 4352, by omega⟩

theorem x_at (c : Dev nD) (t : Fin cfg0.N) (r : Fin 512) (l : Fin 2048) :
    (show EReal from iblk m c 0 t (ix2 r l : S512x2048.Idx)) = m ((c : Thread nD τ).loc main_arg0) (ix2 (tr t r) l : S34816x2048.Idx) := by
  blk_point [iblk, V, idx t, tr]

/-- The rows of all batch rows one after another. -/
theorem flat512_at (R : FVec Ideal S8x4352x512 .bf16) (i : Fin 34816) (k : Fin 512) :
    shapeCast S34816x512 R shapeCasts_S8x4352x512_S34816x512 (ix2 i k) = R (ix3 ⟨i.val / 4352, by omega⟩ ⟨i.val % 4352, by omega⟩ k) := by
  pointwise []

theorem flat1024_at (R : FVec Ideal S8x4352x1024 .bf16) (i : Fin 34816) (k : Fin 1024) :
    shapeCast S34816x1024 R shapeCasts_S8x4352x1024_S34816x1024 (ix2 i k) = R (ix3 ⟨i.val / 4352, by omega⟩ ⟨i.val % 4352, by omega⟩ k) := by
  pointwise []

theorem V7 (c : Dev nD) (i : Fin 34816) (k : Fin 512) :
    (show EReal from V m c main_v7 (ix2 i k : S34816x512.Idx)) = m ((c : Thread nD τ).loc main_arg1) (ix3 ⟨i.val / 4352, by omega⟩ ⟨i.val % 4352, by omega⟩ k : S8x4352x512.Idx) := by
  entry_read
  exact flat512_at (m ((c : Thread nD τ).loc main_arg1)) i k

theorem V8 (c : Dev nD) (i : Fin 34816) (k : Fin 512) :
    (show EReal from V m c main_v8 (ix2 i k : S34816x512.Idx)) = m ((c : Thread nD τ).loc main_arg2) (ix3 ⟨i.val / 4352, by omega⟩ ⟨i.val % 4352, by omega⟩ k : S8x4352x512.Idx) := by
  entry_read
  exact flat512_at (m ((c : Thread nD τ).loc main_arg2)) i k

theorem V9 (c : Dev nD) (i : Fin 34816) (k : Fin 1024) :
    (show EReal from V m c main_v9 (ix2 i k : S34816x1024.Idx)) = m ((c : Thread nD τ).loc main_arg3) (ix3 ⟨i.val / 4352, by omega⟩ ⟨i.val % 4352, by omega⟩ k : S8x4352x1024.Idx) := by
  entry_read
  exact flat1024_at (m ((c : Thread nD τ).loc main_arg3)) i k

theorem V10 (c : Dev nD) (i : Fin 2048) (k : Fin 2048) :
    (show EReal from V m c main_v10 (ix2 i k : S2048x2048.Idx)) = m ((c : Thread nD τ).loc main_arg5) (ix2 i k : S2048x2048.Idx) := by
  entry_read
  rfl

/-- The list of row numbers, a column of 16. -/
def sel : IVec S16x1 32 :=
  broadcastInDim S16x1 ![0] bcast_S16_S16x1_0 (select (constantI S16 1 0#1)
    (addi (fun i => lit0 (S16.rowMajor i)) (broadcastInDim S16 ![] bcast_S_S16 (constantI S_ 32 16#32))) fun i => lit0 (S16.rowMajor i))

theorem sel_lit (p : Fin 16) : sel (ix2 p 0) = lit0 (S16.rowMajor (ix1 p)) := rfl

theorem sel_at (p : Fin 16) : min (sel (ix2 p 0)).toInt.toNat (16 - 1) = (tabRow p).val := by
  rw [sel_lit]
  revert p
  decide

theorem spread_at (D : FVec Ideal S16x2048 .f32) (p : Fin 16) (l : Fin 2048) :
    broadcastInDim S16x1x2048 ![0, 2] bcast_S16x2048_S16x1x2048_0_2 D (ix3 p 0 l) = D (ix2 p l) := by
  pointwise []

/-- The table of gates: the rows of the modulation's last 2048 columns that the list names. -/
theorem table_at (M : FVec Ideal S16x6144 .f32) (p : Fin 16) (l : Fin 2048) :
    broadcastInDim S16x1x2048 ![0, 2] bcast_S16x2048_S16x1x2048_0_2 (Host.gather gather_S16x2048_S16x1_S16x2048_1_0_n_n_0_1_12048
      (extractStridedSlice S16x2048 ![0, 4096] M slices_S16x6144_S16x2048_0_4096) sel) (ix3 p 0 l)
      = M (ix2 (tabRow p) ⟨4096 + l.val, by omega⟩) := by
  refine (spread_at _ p l).trans ?_
  refine (pick_eq (N := 16) (C := 2048) (R := 16) (by decide) gather_S16x2048_S16x1_S16x2048_1_0_n_n_0_1_12048_wf _ sel p l (tabRow p) (sel_at p)).trans ?_
  pointwise []

theorem V6 (c : Dev nD) (p : Fin 16) (l : Fin 2048) :
    (show EReal from V m c main_v6 (ix3 p 0 l : S16x1x2048.Idx)) = m ((c : Thread nD τ).loc main_arg4) (ix2 (tabRow p) ⟨4096 + l.val, by omega⟩ : S16x6144.Idx) := by
  entry_read
  exact table_at (m ((c : Thread nD τ).loc main_arg4)) p l

theorem r_at (c : Dev nD) (t : Fin cfg0.N) (r : Fin 512) (k : Fin 512) :
    (show EReal from iblk m c 1 t (ix2 r k : S512x512.Idx)) = m ((c : Thread nD τ).loc main_arg1) (ix3 (tb t r) (ti t r) k : S8x4352x512.Idx) := by
  refine Eq.trans ?_ (V7 m c (tr t r) k)
  blk_point [iblk, idx t, tr]

theorem g_at (c : Dev nD) (t : Fin cfg0.N) (r : Fin 512) (k : Fin 512) :
    (show EReal from iblk m c 2 t (ix2 r k : S512x512.Idx)) = m ((c : Thread nD τ).loc main_arg2) (ix3 (tb t r) (ti t r) k : S8x4352x512.Idx) := by
  refine Eq.trans ?_ (V8 m c (tr t r) k)
  blk_point [iblk, idx t, tr]

theorem a_at (c : Dev nD) (t : Fin cfg0.N) (r : Fin 512) (k : Fin 1024) :
    (show EReal from iblk m c 3 t (ix2 r k : S512x1024.Idx)) = m ((c : Thread nD τ).loc main_arg3) (ix3 (tb t r) (ti t r) k : S8x4352x1024.Idx) := by
  refine Eq.trans ?_ (V9 m c (tr t r) k)
  blk_point [iblk, idx t, tr]

theorem t_at (c : Dev nD) (t : Fin cfg0.N) (p : Fin 16) (l : Fin 2048) :
    (show EReal from iblk m c 4 t (ix3 p 0 l : S16x1x2048.Idx)) = m ((c : Thread nD τ).loc main_arg4) (ix2 (tabRow p) ⟨4096 + l.val, by omega⟩ : S16x6144.Idx) := by
  refine Eq.trans ?_ (V6 m c p l)
  blk_point [iblk, idx t]

theorem w_at (c : Dev nD) (t : Fin cfg0.N) (k l : Fin 2048) :
    (show EReal from iblk m c 5 t (ix2 k l : S2048x2048.Idx)) = m ((c : Thread nD τ).loc main_arg5) (ix2 k l : S2048x2048.Idx) := by
  refine Eq.trans ?_ (V10 m c k l)
  blk_point [iblk, idx t]

/-- Three slices of the staged weights, 512 rows, the next 512 and the last 1024. -/
theorem w0_at (c : Dev nD) (t : Fin cfg0.N) (k : Fin 512) (l : Fin 2048) (h : _) :
    (show EReal from View.ld (iblk m c 5 t) (Rect.unit ![0, 0] ![512, 2048] h) (ix2 k l : S512x2048.Idx)) = m ((c : Thread nD τ).loc main_arg5) (ix2 ⟨k.val, by omega⟩ l : S2048x2048.Idx) := by
  refine Eq.trans ?_ (w_at m c t ⟨k.val, by omega⟩ l)
  pointwise []

theorem w1_at (c : Dev nD) (t : Fin cfg0.N) (k : Fin 512) (l : Fin 2048) (h : _) :
    (show EReal from View.ld (iblk m c 5 t) (Rect.unit ![512, 0] ![512, 2048] h) (ix2 k l : S512x2048.Idx)) = m ((c : Thread nD τ).loc main_arg5) (ix2 ⟨512 + k.val, by omega⟩ l : S2048x2048.Idx) := by
  refine Eq.trans ?_ (w_at m c t ⟨512 + k.val, by omega⟩ l)
  pointwise []

theorem w2_at (c : Dev nD) (t : Fin cfg0.N) (k : Fin 1024) (l : Fin 2048) (h : _) :
    (show EReal from View.ld (iblk m c 5 t) (Rect.unit ![1024, 0] ![1024, 2048] h) (ix2 k l : S1024x2048.Idx)) = m ((c : Thread nD τ).loc main_arg5) (ix2 ⟨1024 + k.val, by omega⟩ l : S2048x2048.Idx) := by
  refine Eq.trans ?_ (w_at m c t ⟨1024 + k.val, by omega⟩ l)
  pointwise []

/-- The sum of the three products over the staged blocks, at row `r` of the block. -/
theorem acc_at (c : Dev nD) (t : Fin cfg0.N) (r : Fin 512) (l : Fin 2048) (h0 h1 h2 : _) :
    (show EReal from k0_pay2 (F := Ideal) (iblk m c 1 t) (View.ld (iblk m c 5 t) (Rect.unit ![0, 0] ![512, 2048] h0)) (iblk m c 2 t)
      (View.ld (iblk m c 5 t) (Rect.unit ![512, 0] ![512, 2048] h1)) (iblk m c 3 t)
      (View.ld (iblk m c 5 t) (Rect.unit ![1024, 0] ![1024, 2048] h2)) (ix2 r l))
      = acc (m ((c : Thread nD τ).loc main_arg1)) (m ((c : Thread nD τ).loc main_arg2)) (m ((c : Thread nD τ).loc main_arg3)) (m ((c : Thread nD τ).loc main_arg5))
        (tb t r) (ti t r) l := by
  refine (pay2_at _ _ _ _ _ _ r l).trans ?_
  refine congrArg₂ (· + ·) (congrArg₂ (· + ·) ?_ ?_) ?_
  · exact Finset.sum_congr rfl fun k _ => congrArg₂ (· * ·) (r_at m c t r k) (w0_at m c t k l h0)
  · exact Finset.sum_congr rfl fun k _ => congrArg₂ (· * ·) (g_at m c t r k) (w1_at m c t k l h1)
  · exact Finset.sum_congr rfl fun k _ => congrArg₂ (· * ·) (a_at m c t r k) (w2_at m c t k l h2)

/-- The gate of half `u` of a block: the modulation's row of the half's tokens. -/
theorem gate_at (c : Dev nD) (t : Fin cfg0.N) (u : Fin 2) (r : Fin 256) (l : Fin 2048) (h : _) :
    (show EReal from View.ld (iblk m c 4 t) (Rect.unit (k0_off1 (grid0.coords t) (BitVec.ofNat 32 u.val)) ![1, 1, 2048] h) (ix3 0 0 l : S1x1x2048.Idx))
      = m ((c : Thread nD τ).loc main_arg4) (ix2 (modRow (tb t ⟨u.val * 256 + r.val, by omega⟩) (ti t ⟨u.val * 256 + r.val, by omega⟩)) ⟨4096 + l.val, by omega⟩ : S16x6144.Idx) := by
  have ht := tlt t
  have hp : 2 * ((2 * t.val + u.val) / 17) + (if (2 * t.val + u.val) % 17 = 0 then 0 else 1) < 16 := by split <;> omega
  refine (View.ld_unit_apply_of (iblk m c 4 t) _ _ h (ix3 0 0 l : S1x1x2048.Idx) (ix3 ⟨_, hp⟩ 0 l : S16x1x2048.Idx) ?_).trans ?_
  · intro a
    refine Eq.trans ?_ (congrArg (· + _) (congrFun (off_eq t u) a).symm)
    revert a
    show ∀ a : Fin 3, _
    intro a
    fin_cases a <;> simp
  refine (t_at m c t ⟨_, hp⟩ l).trans ?_
  refine congrArg (fun q => m ((c : Thread nD τ).loc main_arg4) (ix2 q ⟨4096 + l.val, by omega⟩ : S16x6144.Idx)) (Fin.ext ?_)
  unfold tabRow modRow tb ti
  by_cases h17 : (2 * t.val + u.val) % 17 = 0
  · have e : (t.val * 512 + (u.val * 256 + r.val)) % 4352 < 256 := by omega
    simp only [h17, e, if_true]
    rw [if_pos (by omega)]
  · have e : ¬ (t.val * 512 + (u.val * 256 + r.val)) % 4352 < 256 := by omega
    simp only [h17, e, if_false]
    rw [if_neg (by omega)]
    show _ / 2 = _ / 4352
    omega

/-- Row `r` of the block of grid point `t`, by its batch row and its token. -/
theorem x_row (c : Dev nD) (t : Fin cfg0.N) (r : Fin 512) (l : Fin 2048) :
    m ((c : Thread nD τ).loc main_arg0) (ix2 (tr t r) l : S34816x2048.Idx)
      = m ((c : Thread nD τ).loc main_arg0) (ix2 ⟨(tb t r).val * 4352 + (ti t r).val, by omega⟩ l : S34816x2048.Idx) := by
  refine congrArg (fun q => m ((c : Thread nD τ).loc main_arg0) (ix2 q l : S34816x2048.Idx)) (Fin.ext ?_)
  show t.val * 512 + r.val = (t.val * 512 + r.val) / 4352 * 4352 + (t.val * 512 + r.val) % 4352
  omega

theorem o_emb (t : Fin cfg0.N) (r : Fin 512) (l : Fin 2048) :
    ((cfg0.win 7).blk t).view.emb (ix2 r l : S512x2048.Idx) = (ix2 (tr t r) l : S34816x2048.Idx) := by
  blk_ext [idx t, tr]

/-- The norm's weights as a row. -/
theorem row_at (w : FVec Ideal S2048 .f32) (l : Fin 2048) : shapeCast S1x2048 w shapeCasts_S2048_S1x2048 (ix2 0 l) = w (ix1 l) := by
  pointwise []

theorem V11 (c : Dev nD) (l : Fin 2048) :
    (show EReal from V m c main_v11 (ix2 0 l : S1x2048.Idx)) = m ((c : Thread nD τ).loc main_arg6) (ix1 l : S2048.Idx) := by
  entry_read
  exact row_at (m ((c : Thread nD τ).loc main_arg6)) l

theorem fw_at (c : Dev nD) (t : Fin cfg0.N) (l : Fin 2048) :
    (show EReal from iblk m c 6 t (ix2 0 l : S1x2048.Idx)) = m ((c : Thread nD τ).loc main_arg6) (ix1 l : S2048.Idx) := by
  refine Eq.trans ?_ (V11 m c l)
  blk_point [iblk, idx t]

/-- Half `u` of a block before its norm, of blocks that hold what the windows stage: the new residual stream. -/
theorem half_at (c : Dev nD) (t : Fin cfg0.N) (u : Fin 2) (i : Fin 256) (p : FVec Ideal S512x2048 .f32) (g : FVec Ideal S1x1x2048 .f32) (x : FVec Ideal S256x2048 .f32)
    (hp : ∀ (r : Fin 512) (l : Fin 2048), p (ix2 r l) = acc (m ((c : Thread nD τ).loc main_arg1)) (m ((c : Thread nD τ).loc main_arg2)) (m ((c : Thread nD τ).loc main_arg3))
      (m ((c : Thread nD τ).loc main_arg5)) (tb t r) (ti t r) l)
    (hg : ∀ l : Fin 2048, g (ix3 0 0 l) = m ((c : Thread nD τ).loc main_arg4) (ix2 (modRow (tb t ⟨u.val * 256 + i.val, by omega⟩) (ti t ⟨u.val * 256 + i.val, by omega⟩)) ⟨4096 + l.val, by omega⟩ : S16x6144.Idx))
    (hx : ∀ l : Fin 2048, x (ix2 i l) = m ((c : Thread nD τ).loc main_arg0) (ix2 (tr t ⟨u.val * 256 + i.val, by omega⟩) l : S34816x2048.Idx)) (l : Fin 2048) :
    half p g x u i l = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tb t ⟨u.val * 256 + i.val, by omega⟩) (ti t ⟨u.val * 256 + i.val, by omega⟩) l := by
  unfold half stream
  rw [hp, hg, hx, x_row m c t]

/-- The norm of a half's row whose entries are the new residual stream. -/
theorem norm_at (c : Dev nD) (t : Fin cfg0.N) (r : Fin 512) (i : Fin 256) (y : FVec Ideal S256x2048 .f32) (w : FVec Ideal S1x2048 .f32) (l : Fin 2048)
    (hy : ∀ k : Fin 2048, y (ix2 i k) = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tb t r) (ti t r) k) (hw : w (ix2 0 l) = m ((c : Thread nD τ).loc main_arg6) (ix1 l : S2048.Idx)) :
    k0_pay1 (F := Ideal) y w (ix2 i l) = ALL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tr t r) l) := by
  rw [pay1_at, hw]
  simp only [hy]
  rfl

/-- What grid point `t` leaves in its block, entry by entry, is `ALL` at the entry's place. -/
theorem point (c : Dev nD) (t : Fin cfg0.N) (r : Fin 512) (l : Fin 2048) :
    (show EReal from outsAt0 m c t (ix2 r l : S512x2048.Idx)) = ALL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tr t r) l) := by
  unfold outsAt0
  frame_out
  canon_tiles x h
  · obtain ⟨i, j, rfl⟩ : ∃ (i : Fin 256) (j : Fin 2048), x = (ix2 i j : S256x2048.Idx) := ⟨x 0, x 1, eq_ix2 (n0 := 256) (n1 := 2048) x⟩
    obtain rfl : r = ⟨(1 : Fin 2).val * 256 + i.val, Nat.add_lt_add_left i.isLt 256⟩ := Fin.ext (h0.trans (by simp))
    obtain rfl : l = j := Fin.ext h1
    refine norm_at m c t ⟨(1 : Fin 2).val * 256 + i.val, Nat.add_lt_add_left i.isLt 256⟩ i _ _ l (fun k => (pay4_at _ _ _ i k).trans ?_) ?_
    · refine half_at m c t 1 i _ _ _ (fun r l => acc_at m c t r l _ _ _) (fun l => gate_at m c t 1 i l _) (fun l => Eq.trans ?_ (x_at m c t _ l)) k
      pointwise []
    · exact fw_at m c t l
  · obtain ⟨i, j, rfl⟩ : ∃ (i : Fin 256) (j : Fin 2048), x = (ix2 i j : S256x2048.Idx) := ⟨x 0, x 1, eq_ix2 (n0 := 256) (n1 := 2048) x⟩
    obtain rfl : r = ⟨(0 : Fin 2).val * 256 + i.val, by exact Nat.lt_of_lt_of_le (Nat.add_lt_add_left i.isLt 0) (by decide)⟩ := Fin.ext (h0.trans (by simp))
    obtain rfl : l = j := Fin.ext h1
    rw [pay3_eq]
    refine norm_at m c t ⟨(0 : Fin 2).val * 256 + i.val, by exact Nat.lt_of_lt_of_le (Nat.add_lt_add_left i.isLt 0) (by decide)⟩ i _ _ l (fun k => (first_at _ _ _ i k).trans ?_) ?_
    · refine half_at m c t 0 i _ _ _ (fun r l => acc_at m c t r l _ _ _) (fun l => gate_at m c t 0 i l _) (fun l => Eq.trans ?_ (x_at m c t _ l)) k
      pointwise []
    · exact fw_at m c t l

/-- The region's array after the run. -/
theorem final (c : Dev nD) :
    (dats m 0 c).arrAt 7 (cfgs 0).N = ALL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ covers fun t _ y => ?_
  blk_simp
  rw [after0_7]
  obtain ⟨r, l, rfl⟩ : ∃ (r : Fin 512) (l : Fin 2048), y = (ix2 r l : S512x2048.Idx) := ⟨y 0, y 1, eq_ix2 (n0 := 512) (n1 := 2048) y⟩
  exact (point m c t r l).trans (congrArg (ALL _ _ _ _ _ _ _) (o_emb t r l).symm)

/-- The rows of the latents of the region's array. -/
theorem tail_at (Y : FVec Ideal S34816x2048 .f32) (b : Fin 8) (i : Fin 4096) (l : Fin 2048) :
    extractStridedSlice S8x4096x2048 ![0, 256, 0] (shapeCast S8x4352x2048 Y shapeCasts_S34816x2048_S8x4352x2048) slices_S8x4352x2048_S8x4096x2048_0_256_0 (ix3 b i l)
      = Y (ix2 ⟨b.val * 4352 + (256 + i.val), by omega⟩ l) := by
  pointwise []

/-- The lines after the region take the rows of the latents. -/
theorem tail_eq (X : FVec Ideal S34816x2048 .f32) (R G : FVec Ideal S8x4352x512 .bf16) (A : FVec Ideal S8x4352x1024 .bf16) (M : FVec Ideal S16x6144 .f32)
    (W : FVec Ideal S2048x2048 .f32) (fw : FVec Ideal S2048 .f32) :
    extractStridedSlice S8x4096x2048 ![0, 256, 0] (shapeCast S8x4352x2048 (ALL X R G A M W fw) shapeCasts_S34816x2048_S8x4352x2048) slices_S8x4352x2048_S8x4096x2048_0_256_0
      = SPEC X R G A M W fw := by
  funext j
  obtain ⟨b, i, l, rfl⟩ : ∃ (b : Fin 8) (i : Fin 4096) (l : Fin 2048), j = ix3 b i l := ⟨j 0, j 1, j 2, eq_ix3 (n0 := 8) (n1 := 4096) (n2 := 2048) j⟩
  rw [tail_at]
  have e0 : (b.val * 4352 + (256 + i.val)) / 4352 = b.val := by omega
  have e1 : (b.val * 4352 + (256 + i.val)) % 4352 = 256 + i.val := by omega
  show normed X R G A M W fw ⟨(b.val * 4352 + (256 + i.val)) / 4352, _⟩ ⟨(b.val * 4352 + (256 + i.val)) % 4352, _⟩ l = normed X R G A M W fw b ⟨256 + i.val, _⟩ l
  simp only [e0, e1]

end Cert.Proof.Last

end
-- ==== Proof.Sums.lean ====
/- A sum cut into three. -/
module

public import Idealize.ShloMosaic.Lib.Pointwise

@[expose] public section

noncomputable section

namespace Cert.Proof.Sums

/-- A sum over 2048 cut at 512 and 1024. -/
theorem sum_cut (f : Fin 2048 → EReal) :
    ∑ k, f k = ((∑ k : Fin 512, f ⟨k.val, by omega⟩) + ∑ k : Fin 512, f ⟨512 + k.val, by omega⟩) + ∑ k : Fin 1024, f ⟨1024 + k.val, by omega⟩ := by
  refine (Fin.sum_univ_add (a := 1024) (b := 1024) f).trans (congrArg (· + _) ?_)
  exact Fin.sum_univ_add (a := 512) (b := 512) (fun k => f ⟨k.val, by omega⟩)

end Cert.Proof.Sums

end
-- ==== Proof.Last.Ref.lean ====
/- What the last layer's reference computes, entry by entry. -/
module

public import proofs.«01_k».proof.Proof.Gen.Reference3Ideal.Run
public import Idealize.ShloMosaic.Lib.Pointwise
public import Idealize.ShloMosaic.Lib.Pipeline.ValueKit
public import proofs.«01_k».proof.Proof.Sums
public import proofs.«01_k».proof.Proof.Last.Spec

@[expose] public section

set_option maxRecDepth 16384

noncomputable section

namespace Cert.Proof.Last

open Idealize.ShloMosaic Idealize.ShloMosaic.TcCoe Idealize.SL.Sem
open Cert.Reference3Ideal Cert.Reference3Ideal.Gen

/-- The mixers' outputs of the latents side by side. -/
def cat (R G : FVec Ideal S8x4096x512 .f32) (A : FVec Ideal S8x4096x1024 .f32) : FVec Ideal S8x4096x2048 .f32 :=
  concatenate S8x4096x2048 2 [⟨S8x4096x512, R⟩, ⟨S8x4096x512, G⟩, ⟨S8x4096x1024, A⟩] concatenates_S8x4096x512_S8x4096x512_S8x4096x1024_S8x4096x2048_d2

/-- The rows of the latents of an array of 512 columns, and of one of 1024. -/
def lat512 (R : FVec Ideal S8x4352x512 .bf16) : FVec Ideal S8x4096x512 .f32 :=
  extf .f32 (extractStridedSlice S8x4096x512 ![0, 256, 0] R slices_S8x4352x512_S8x4096x512_0_256_0) bitsLt_bf16_f32
def lat1024 (A : FVec Ideal S8x4352x1024 .bf16) : FVec Ideal S8x4096x1024 .f32 :=
  extf .f32 (extractStridedSlice S8x4096x1024 ![0, 256, 0] A slices_S8x4352x1024_S8x4096x1024_0_256_0) bitsLt_bf16_f32

/-- The latents' new residual stream, of the mixers' outputs side by side. -/
def out (X : FVec Ideal S34816x2048 .f32) (P : FVec Ideal S8x4096x2048 .f32) (M : FVec Ideal S16x6144 .f32) (W : FVec Ideal S2048x2048 .f32) :
    FVec Ideal S8x4096x2048 .f32 :=
  addf (extractStridedSlice S8x4096x2048 ![0, 256, 0] (shapeCast S8x4352x2048 X shapeCasts_S34816x2048_S8x4352x2048) slices_S8x4352x2048_S8x4096x2048_0_256_0)
    (mulf (broadcastInDim S8x4096x2048 ![0, 1, 2] bcast_S8x1x2048_S8x4096x2048_0_1_2 (broadcastInDim S8x1x2048 ![0, 2] bcast_S8x2048_S8x1x2048_0_2
      (extractStridedSlice S8x2048 ![0, 4096] (extractStridedSlice S8x6144 ![0, 0] M slices_S16x6144_S8x6144_0_0) slices_S8x6144_S8x2048_0_4096)))
      (Host.dotGeneral dot_S8x4096x2048_S2048x2048_S8x4096x2048_2_0_01_1_n_n none P W))

/-- A row's sum of squares. -/
def squares (Y : FVec Ideal S8x4096x2048 .f32) : FVec Ideal S8x4096 .f32 :=
  Host.reduceAdd (mulf Y Y) (constant S_ .f32 0x00000000#32) reducesTo_S8x4096x2048_S8x4096_d2 h_S_

/-- The norm of every row, times the norm's weights. -/
def normY (Y : FVec Ideal S8x4096x2048 .f32) (s : FVec Ideal S8x4096 .f32) (fw : FVec Ideal S2048 .f32) : FVec Ideal S8x4096x2048 .f32 :=
  mulf (mulf Y (broadcastInDim S8x4096x2048 ![0, 1, 2] bcast_S8x4096x1_S8x4096x2048_0_1_2 (Host.rsqrt (addf (Host.divf
    (broadcastInDim S8x4096x1 ![0, 1] bcast_S8x4096_S8x4096x1_0_1 s) (broadcastInDim S8x4096x1 ![] bcast_S_S8x4096x1 (constant S_ .f32 0x45000000#32)))
    (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 fw))

/-- The reference as a function of its arguments. -/
def REF (X : FVec Ideal S34816x2048 .f32) (R G : FVec Ideal S8x4352x512 .bf16) (A : FVec Ideal S8x4352x1024 .bf16) (M : FVec Ideal S16x6144 .f32)
    (W : FVec Ideal S2048x2048 .f32) (fw : FVec Ideal S2048 .f32) : FVec Ideal S8x4096x2048 .f32 :=
  normY (out X (cat (lat512 R) (lat512 G) (lat1024 A)) M W) (squares (out X (cat (lat512 R) (lat512 G) (lat1024 A)) M W)) fw

/-- The reference's result is `REF` of its arguments. -/
theorem res_eq (m : (ℓ : Loc nD τ sig) → Buf (Elt Ideal) ℓ) (c : Dev nD) :
    Value.res_main_v30 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_main_v30
  rfl

theorem lat512_at (R : FVec Ideal S8x4352x512 .bf16) (b : Fin 8) (i : Fin 4096) (k : Fin 512) :
    lat512 R (ix3 b i k) = R (ix3 b ⟨256 + i.val, by omega⟩ k) := by
  pointwise [lat512]

theorem lat1024_at (R : FVec Ideal S8x4352x1024 .bf16) (b : Fin 8) (i : Fin 4096) (k : Fin 1024) :
    lat1024 R (ix3 b i k) = R (ix3 b ⟨256 + i.val, by omega⟩ k) := by
  pointwise [lat1024]

/-- A row of the latents' product at a column: the three mixers' sums. -/
theorem prod_at (R G : FVec Ideal S8x4096x512 .f32) (A : FVec Ideal S8x4096x1024 .f32) (W : FVec Ideal S2048x2048 .f32) (b : Fin 8) (i : Fin 4096) (l : Fin 2048) :
    Host.dotGeneral dot_S8x4096x2048_S2048x2048_S8x4096x2048_2_0_01_1_n_n none (cat R G A) W (ix3 b i l)
      = ((∑ k : Fin 512, R (ix3 b i k) * W (ix2 ⟨k.val, by omega⟩ l)) + ∑ k : Fin 512, G (ix3 b i k) * W (ix2 ⟨512 + k.val, by omega⟩ l))
        + ∑ k : Fin 1024, A (ix3 b i k) * W (ix2 ⟨1024 + k.val, by omega⟩ l) := by
  pointwise [cat]
  rw [Sums.sum_cut]
  refine congrArg₂ (· + ·) (congrArg₂ (· + ·) ?_ ?_) ?_
  · refine Finset.sum_congr rfl fun k _ => congrArg (· * _) ?_
    rw [dif_pos k.isLt]
  · refine Finset.sum_congr rfl fun k _ => congrArg (· * _) ?_
    have e : 512 + k.val - 512 = k.val := by omega
    rw [dif_neg (by simp), dif_pos (by simp)]
    simp only [e]
  · refine Finset.sum_congr rfl fun k _ => congrArg (· * _) ?_
    have e : 1024 + k.val - 512 - 512 = k.val := by omega
    rw [dif_neg (by simp; omega), dif_neg (by simp; omega)]
    simp only [e]

theorem out_at (X : FVec Ideal S34816x2048 .f32) (P : FVec Ideal S8x4096x2048 .f32) (M : FVec Ideal S16x6144 .f32) (W : FVec Ideal S2048x2048 .f32)
    (b : Fin 8) (i : Fin 4096) (l : Fin 2048) :
    out X P M W (ix3 b i l) = X (ix2 ⟨b.val * 4352 + (256 + i.val), by omega⟩ l) + M (ix2 ⟨b.val, by omega⟩ ⟨4096 + l.val, by omega⟩)
      * Host.dotGeneral dot_S8x4096x2048_S2048x2048_S8x4096x2048_2_0_01_1_n_n none P W (ix3 b i l) := by
  generalize hD : Host.dotGeneral dot_S8x4096x2048_S2048x2048_S8x4096x2048_2_0_01_1_n_n none P W = D
  unfold out
  rw [hD]
  pointwise []

theorem squares_at (Y : FVec Ideal S8x4096x2048 .f32) (b : Fin 8) (i : Fin 4096) :
    squares Y (ix2 b i) = ∑ k : Fin 2048, Y (ix3 b i k) * Y (ix3 b i k) := by
  pointwise [squares]

theorem normY_at (Y : FVec Ideal S8x4096x2048 .f32) (s : FVec Ideal S8x4096 .f32) (fw : FVec Ideal S2048 .f32) (b : Fin 8) (i : Fin 4096) (l : Fin 2048) :
    normY Y s fw (ix3 b i l) = Y (ix3 b i l) * Ideal.rsqrt (Ideal.div (s (ix2 b i)) (Ideal.ofBits .f32 0x45000000#32) + Ideal.ofBits .f32 0x358637BD#32) * fw (ix1 l) := by
  pointwise [normY]

/-- The latents' stream is `stream` at their tokens. -/
theorem out_stream (X : FVec Ideal S34816x2048 .f32) (R G : FVec Ideal S8x4352x512 .bf16) (A : FVec Ideal S8x4352x1024 .bf16) (M : FVec Ideal S16x6144 .f32)
    (W : FVec Ideal S2048x2048 .f32) (b : Fin 8) (i : Fin 4096) (l : Fin 2048) :
    out X (cat (lat512 R) (lat512 G) (lat1024 A)) M W (ix3 b i l) = Out.stream X R G A M W b ⟨256 + i.val, by omega⟩ l := by
  rw [out_at, prod_at]
  simp only [lat512_at, lat1024_at]
  unfold Out.stream Out.acc Out.modRow
  rw [if_neg (by simp)]

/-- The reference's function is `SPEC`. -/
theorem ref_eq (X : FVec Ideal S34816x2048 .f32) (R G : FVec Ideal S8x4352x512 .bf16) (A : FVec Ideal S8x4352x1024 .bf16) (M : FVec Ideal S16x6144 .f32)
    (W : FVec Ideal S2048x2048 .f32) (fw : FVec Ideal S2048 .f32) : REF X R G A M W fw = SPEC X R G A M W fw := by
  funext j
  obtain ⟨b, i, l, rfl⟩ : ∃ (b : Fin 8) (i : Fin 4096) (l : Fin 2048), j = ix3 b i l := ⟨j 0, j 1, j 2, eq_ix3 (n0 := 8) (n1 := 4096) (n2 := 2048) j⟩
  show _ = normed X R G A M W fw b ⟨256 + i.val, _⟩ l
  unfold REF normed Norm.norm
  rw [normY_at, squares_at]
  simp only [out_stream]

end Cert.Proof.Last

end
-- ==== Proof.Last.Claim.lean ====
/- The claims about the last layer's output projection with the final norm: its frames, and the kernel's result equal to
   the reference's. -/
module

public import proofs.«01_k».proof.Defs
public import proofs.«01_k».proof.Proof.Gen.Kernel3
public import proofs.«01_k».proof.Proof.Gen.Kernel3.Frame
public import proofs.«01_k».proof.Proof.Gen.Kernel3Ideal.Frame
public import proofs.«01_k».proof.Proof.Gen.Reference3Ideal.Run
public import Idealize.ShloMosaic.Lib.Claim
public import proofs.«01_k».proof.Proof.Last.Final
public import proofs.«01_k».proof.Proof.Last.Ref

@[expose] public section

set_option maxRecDepth 16384

noncomputable section

namespace Cert.Proof.Last

open Idealize.ShloMosaic Idealize.ShloMosaic.TcCoe Idealize.SL.Sem

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) :=
  fun m ρ _ => Cert.Kernel3Ideal.Gen.frame m ρ

theorem frame_ref : Cert.quiescent_Reference3Ideal (hReference3Ideal := Cert.Reference3Ideal.Gen.facts) := by
  intro m g _
  exact (θ_run Cert.Reference3Ideal.defs _ _).mono (fun r h => ⟨fun c => (h c).2, Idealize.ShloMosaic.sem_eq_zero_of_no_sems (by decide) r.2⟩)
    (Cert.Reference3Ideal.Value.run (F := Ideal) m g)

/-- What the lines after the region leave in the result: the rows of the latents of the region's array. -/
theorem tail_result (m : (ℓ : Loc Cert.Kernel3Ideal.nD Cert.Kernel3Ideal.τ Cert.Kernel3Ideal.sig) → Buf (Elt Ideal) ℓ) (c : Dev Cert.Kernel3Ideal.nD) :
    Pipeline.afterTail₀ Cert.Kernel3Ideal.cfgs (Cert.Kernel3Ideal.Gen.dats m) 0 (Cert.Kernel3Ideal.Gen.V0 m) [Cert.Kernel3Ideal.Gen.hostOps1] c Cert.Kernel3Ideal.main_v14
      = SPEC (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6)) := by
  have hA : Pipeline.withArrays Cert.Kernel3Ideal.spec0 c (Cert.Kernel3Ideal.Gen.V0 m c) (fun w => (Cert.Kernel3Ideal.Gen.dats m 0 c).arrAt w (Cert.Kernel3Ideal.cfgs 0).N)
      (Proc.devRef .tc Cert.Kernel3Ideal.main_v12) = (Cert.Kernel3Ideal.Gen.dats m 0 c).arrAt 7 (Cert.Kernel3Ideal.cfgs 0).N :=
    Pipeline.withArrays_arr Cert.Kernel3Ideal.spec0 (by decide) c _ _ 7
  unfold Pipeline.afterTail₀
  refine Eq.trans ?_ (tail_eq (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6)))
  rw [← final m c, ← hA]
  generalize Pipeline.withArrays _ _ _ _ = Z
  rfl

/-- The run with the result and the arguments. -/
theorem run (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem (c.tc.loc Cert.Kernel3Ideal.main_v14) = SPEC (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6))
      ∧ r.2.mem (c.tc.loc Cert.Kernel3Ideal.main_arg0) = m (c.tc.loc Cert.Kernel3Ideal.main_arg0)
      ∧ r.2.mem (c.tc.loc Cert.Kernel3Ideal.main_arg1) = m (c.tc.loc Cert.Kernel3Ideal.main_arg1)
      ∧ r.2.mem (c.tc.loc Cert.Kernel3Ideal.main_arg2) = m (c.tc.loc Cert.Kernel3Ideal.main_arg2)
      ∧ r.2.mem (c.tc.loc Cert.Kernel3Ideal.main_arg3) = m (c.tc.loc Cert.Kernel3Ideal.main_arg3)
      ∧ r.2.mem (c.tc.loc Cert.Kernel3Ideal.main_arg4) = m (c.tc.loc Cert.Kernel3Ideal.main_arg4)
      ∧ r.2.mem (c.tc.loc Cert.Kernel3Ideal.main_arg5) = m (c.tc.loc Cert.Kernel3Ideal.main_arg5)
      ∧ r.2.mem (c.tc.loc Cert.Kernel3Ideal.main_arg6) = m (c.tc.loc Cert.Kernel3Ideal.main_arg6)) := by
  have h0 : θ_run (Cert.Kernel3Ideal.defs (F := Ideal)) (onTc (τ := Cert.Kernel3Ideal.τ) (Cert.Kernel3Ideal.main (F := Ideal))) ⟨m, fun _ => 0, g⟩
      (fun r => ∀ c : Dev Cert.Kernel3Ideal.nD, r.2.mem (c.tc.loc Cert.Kernel3Ideal.main_v14) = SPEC (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6))) :=
    (θ_run Cert.Kernel3Ideal.defs _ _).mono (fun _ h c => ((h c).2 Cert.Kernel3Ideal.main_v14 (Pipeline.mem_restRefs_of Cert.Kernel3Ideal.main_v14 (by decide) (by decide))).trans
      (tail_result m c)) (Cert.Kernel3Ideal.Gen.run_main m g)
  exact (θ_run Cert.Kernel3Ideal.defs _ _).mono (fun _ h c => ⟨h.1 c, h.2 c⟩) (θ_run_and h0 (Cert.Kernel3Ideal.Gen.unchanged m g))

/-- THE VALUE CLAIM. -/
theorem algebraic : Cert.algebraic_Kernel3Ideal_Reference3Ideal (hKernel3Ideal := Cert.Kernel3Ideal.Gen.facts)
    (hReference3Ideal := Cert.Reference3Ideal.Gen.facts) := by
  pair_intro
  · run_from run m g
  · run_from Cert.Reference3Ideal.Value.run m' g'
    refine (res_eq m' c).trans ?_
    obtain ⟨h0, h1, h2, h3, h4, h5, h6⟩ := hagree c
    rw [h0, h1, h2, h3, h4, h5, h6, ref_eq]

end Cert.Proof.Last

end
-- ==== Proof.Out.Final.lean ====
/- What the output projection's result array holds after the run. -/
module

public import proofs.«01_k».proof.Proof.Gen.Kernel4Ideal.Value
public import Idealize.ShloMosaic.Lib.Pipeline.ValueKit
public import Idealize.ShloMosaic.Lib.Pipeline.Covers
public import proofs.«01_k».proof.Proof.Rows
public import proofs.«01_k».proof.Proof.Out.Spec

@[expose] public section

set_option maxRecDepth 16384

noncomputable section

namespace Cert.Proof.Out

open Idealize.ShloMosaic Idealize.ShloMosaic.TcCoe Idealize.SL.Sem
open Idealize.ShloMosaic.Pipeline (Dat)
open Cert.Kernel4Ideal Cert.Kernel4Ideal.Gen Cert.Proof.Rows

variable (m : (ℓ : Loc nD τ sig) → Buf (Elt Ideal) ℓ)

/-- The three products' sum at an entry. -/
theorem pay2_at (r : FVec Ideal S512x512 .bf16) (w0 : FVec Ideal S512x2048 .bf16) (g : FVec Ideal S512x512 .bf16) (w1 : FVec Ideal S512x2048 .bf16)
    (a : FVec Ideal S512x1024 .bf16) (w2 : FVec Ideal S1024x2048 .bf16) (i : Fin 512) (l : Fin 2048) :
    k0_pay2 (F := Ideal) r w0 g w1 a w2 (ix2 i l) = ((∑ k : Fin 512, r (ix2 i k) * w0 (ix2 k l)) + ∑ k : Fin 512, g (ix2 i k) * w1 (ix2 k l))
      + ∑ k : Fin 1024, a (ix2 i k) * w2 (ix2 k l) := by
  pointwise [k0_pay2]

/-- What is stored in the first half of a block, and in the second. -/
theorem pay3_at (p : FVec Ideal S512x2048 .f32) (g : FVec Ideal S1x1x2048 .f32) (x : FVec Ideal S256x2048 .f32) (i : Fin 256) (l : Fin 2048) :
    k0_pay3 (F := Ideal) p g x (ix2 i l) = x (ix2 i l) + g (ix3 0 0 l) * p (ix2 ⟨i.val, by omega⟩ l) := by
  pointwise [k0_pay3]

theorem pay1_at (p : FVec Ideal S512x2048 .f32) (g : FVec Ideal S1x1x2048 .f32) (x : FVec Ideal S256x2048 .f32) (i : Fin 256) (l : Fin 2048) :
    k0_pay1 (F := Ideal) p g x (ix2 i l) = x (ix2 i l) + g (ix3 0 0 l) * p (ix2 ⟨256 + i.val, by omega⟩ l) := by
  pointwise [k0_pay1]

/-- The blocks of grid point `t`: 512 rows of the tokens, and the whole table and weights. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0, 0] ∧ win0_5.index t = ![0, 0] ∧ win0_7.index t = ![t.val, 0] :=
  (by decide +kernel : ∀ t : Fin grid0.N, _)

/-- The table's row that the two halves of a block take. -/
theorem off_eq : ∀ t : Fin cfg0.N, ∀ h : Fin 2,
    k0_off1 (grid0.coords t) (BitVec.ofNat 32 h.val) = ![2 * ((2 * t.val + h.val) / 17) + if (2 * t.val + h.val) % 17 = 0 then 0 else 1, 0, 0] :=
  (by decide +kernel : ∀ t : Fin grid0.N, ∀ h : Fin 2, _)

/-- Every block of the result is some grid point's. -/
theorem covers : (cfg0.win 7).Covers :=
  (cfg0.win 7).covers_of_index_surj rfl (by decide) fun β => by
    have h0 : (β 0).val < 68 := (β 0).isLt
    have h1 : (β 1).val < 1 := (β 1).isLt
    refine ⟨⟨(β 0).val, lt_of_lt_of_eq (by omega) N_0.symm⟩, fun a => ?_⟩
    show win0_7.index _ a = _
    rw [(idx _).2.2.2.2.2.2]
    fin_cases a <;> simp

theorem tlt (t : Fin cfg0.N) : t.val < 68 := lt_of_lt_of_eq t.isLt N_0

/-- The row of the arrays that row `r` of the block of grid point `t` is. -/
def tr (t : Fin cfg0.N) (r : Fin 512) : Fin 34816 := ⟨t.val * 512 + r.val, by have := tlt t; omega⟩
/-- Its batch row and its token. -/
def tb (t : Fin cfg0.N) (r : Fin 512) : Fin 8 := ⟨(t.val * 512 + r.val) / 4352, by have := tlt t; omega⟩
def ti (t : Fin cfg0.N) (r : Fin 512) : Fin 4352 := ⟨(t.val * 512 + r.val) % 4352, by omega⟩

theorem x_at (c : Dev nD) (t : Fin cfg0.N) (r : Fin 512) (l : Fin 2048) :
    (show EReal from iblk m c 0 t (ix2 r l : S512x2048.Idx)) = m ((c : Thread nD τ).loc main_arg0) (ix2 (tr t r) l : S34816x2048.Idx) := by
  blk_point [iblk, V, idx t, tr]

theorem V7 (c : Dev nD) (i : Fin 34816) (k : Fin 512) :
    (show EReal from V m c main_v7 (ix2 i k : S34816x512.Idx)) = m ((c : Thread nD τ).loc main_arg1) (ix3 ⟨i.val / 4352, by omega⟩ ⟨i.val % 4352, by omega⟩ k : S8x4352x512.Idx) := by
  entry_read
  pointwise []

theorem V8 (c : Dev nD) (i : Fin 34816) (k : Fin 512) :
    (show EReal from V m c main_v8 (ix2 i k : S34816x512.Idx)) = m ((c : Thread nD τ).loc main_arg2) (ix3 ⟨i.val / 4352, by omega⟩ ⟨i.val % 4352, by omega⟩ k : S8x4352x512.Idx) := by
  entry_read
  pointwise []

theorem V9 (c : Dev nD) (i : Fin 34816) (k : Fin 1024) :
    (show EReal from V m c main_v9 (ix2 i k : S34816x1024.Idx)) = m ((c : Thread nD τ).loc main_arg3) (ix3 ⟨i.val / 4352, by omega⟩ ⟨i.val % 4352, by omega⟩ k : S8x4352x1024.Idx) := by
  entry_read
  pointwise []

theorem V10 (c : Dev nD) (i : Fin 2048) (k : Fin 2048) :
    (show EReal from V m c main_v10 (ix2 i k : S2048x2048.Idx)) = m ((c : Thread nD τ).loc main_arg5) (ix2 i k : S2048x2048.Idx) := by
  entry_read
  rfl

/-- The list of row numbers, a column of 16. -/
def sel : IVec S16x1 32 :=
  broadcastInDim S16x1 ![0] bcast_S16_S16x1_0 (select (constantI S16 1 0#1)
    (addi (fun i => lit0 (S16.rowMajor i)) (broadcastInDim S16 ![] bcast_S_S16 (constantI S_ 32 16#32))) fun i => lit0 (S16.rowMajor i))

theorem sel_lit (p : Fin 16) : sel (ix2 p 0) = lit0 (S16.rowMajor (ix1 p)) := rfl

theorem sel_at (p : Fin 16) : min (sel (ix2 p 0)).toInt.toNat (16 - 1) = (tabRow p).val := by
  rw [sel_lit]
  revert p
  decide

theorem spread_at (D : FVec Ideal S16x2048 .f32) (p : Fin 16) (l : Fin 2048) :
    broadcastInDim S16x1x2048 ![0, 2] bcast_S16x2048_S16x1x2048_0_2 D (ix3 p 0 l) = D (ix2 p l) := by
  pointwise []

/-- The table of gates: the rows of the modulation's last 2048 columns that the list names. -/
theorem table_at (M : FVec Ideal S16x6144 .f32) (p : Fin 16) (l : Fin 2048) :
    broadcastInDim S16x1x2048 ![0, 2] bcast_S16x2048_S16x1x2048_0_2 (Host.gather gather_S16x2048_S16x1_S16x2048_1_0_n_n_0_1_12048
      (extractStridedSlice S16x2048 ![0, 4096] M slices_S16x6144_S16x2048_0_4096) sel) (ix3 p 0 l)
      = M (ix2 (tabRow p) ⟨4096 + l.val, by omega⟩) := by
  refine (spread_at _ p l).trans ?_
  refine (pick_eq (N := 16) (C := 2048) (R := 16) (by decide) gather_S16x2048_S16x1_S16x2048_1_0_n_n_0_1_12048_wf _ sel p l (tabRow p) (sel_at p)).trans ?_
  pointwise []

theorem V6 (c : Dev nD) (p : Fin 16) (l : Fin 2048) :
    (show EReal from V m c main_v6 (ix3 p 0 l : S16x1x2048.Idx)) = m ((c : Thread nD τ).loc main_arg4) (ix2 (tabRow p) ⟨4096 + l.val, by omega⟩ : S16x6144.Idx) := by
  entry_read
  exact table_at (m ((c : Thread nD τ).loc main_arg4)) p l

theorem r_at (c : Dev nD) (t : Fin cfg0.N) (r : Fin 512) (k : Fin 512) :
    (show EReal from iblk m c 1 t (ix2 r k : S512x512.Idx)) = m ((c : Thread nD τ).loc main_arg1) (ix3 (tb t r) (ti t r) k : S8x4352x512.Idx) := by
  refine Eq.trans ?_ (V7 m c (tr t r) k)
  blk_point [iblk, idx t, tr]

theorem g_at (c : Dev nD) (t : Fin cfg0.N) (r : Fin 512) (k : Fin 512) :
    (show EReal from iblk m c 2 t (ix2 r k : S512x512.Idx)) = m ((c : Thread nD τ).loc main_arg2) (ix3 (tb t r) (ti t r) k : S8x4352x512.Idx) := by
  refine Eq.trans ?_ (V8 m c (tr t r) k)
  blk_point [iblk, idx t, tr]

theorem a_at (c : Dev nD) (t : Fin cfg0.N) (r : Fin 512) (k : Fin 1024) :
    (show EReal from iblk m c 3 t (ix2 r k : S512x1024.Idx)) = m ((c : Thread nD τ).loc main_arg3) (ix3 (tb t r) (ti t r) k : S8x4352x1024.Idx) := by
  refine Eq.trans ?_ (V9 m c (tr t r) k)
  blk_point [iblk, idx t, tr]

theorem t_at (c : Dev nD) (t : Fin cfg0.N) (p : Fin 16) (l : Fin 2048) :
    (show EReal from iblk m c 4 t (ix3 p 0 l : S16x1x2048.Idx)) = m ((c : Thread nD τ).loc main_arg4) (ix2 (tabRow p) ⟨4096 + l.val, by omega⟩ : S16x6144.Idx) := by
  refine Eq.trans ?_ (V6 m c p l)
  blk_point [iblk, idx t]

theorem w_at (c : Dev nD) (t : Fin cfg0.N) (k l : Fin 2048) :
    (show EReal from iblk m c 5 t (ix2 k l : S2048x2048.Idx)) = m ((c : Thread nD τ).loc main_arg5) (ix2 k l : S2048x2048.Idx) := by
  refine Eq.trans ?_ (V10 m c k l)
  blk_point [iblk, idx t]

/-- Three slices of the staged weights, 512 rows, the next 512 and the last 1024. -/
theorem w0_at (c : Dev nD) (t : Fin cfg0.N) (k : Fin 512) (l : Fin 2048) (h : _) :
    (show EReal from View.ld (iblk m c 5 t) (Rect.unit ![0, 0] ![512, 2048] h) (ix2 k l : S512x2048.Idx)) = m ((c : Thread nD τ).loc main_arg5) (ix2 ⟨k.val, by omega⟩ l : S2048x2048.Idx) := by
  refine Eq.trans ?_ (w_at m c t ⟨k.val, by omega⟩ l)
  pointwise []

theorem w1_at (c : Dev nD) (t : Fin cfg0.N) (k : Fin 512) (l : Fin 2048) (h : _) :
    (show EReal from View.ld (iblk m c 5 t) (Rect.unit ![512, 0] ![512, 2048] h) (ix2 k l : S512x2048.Idx)) = m ((c : Thread nD τ).loc main_arg5) (ix2 ⟨512 + k.val, by omega⟩ l : S2048x2048.Idx) := by
  refine Eq.trans ?_ (w_at m c t ⟨512 + k.val, by omega⟩ l)
  pointwise []

theorem w2_at (c : Dev nD) (t : Fin cfg0.N) (k : Fin 1024) (l : Fin 2048) (h : _) :
    (show EReal from View.ld (iblk m c 5 t) (Rect.unit ![1024, 0] ![1024, 2048] h) (ix2 k l : S1024x2048.Idx)) = m ((c : Thread nD τ).loc main_arg5) (ix2 ⟨1024 + k.val, by omega⟩ l : S2048x2048.Idx) := by
  refine Eq.trans ?_ (w_at m c t ⟨1024 + k.val, by omega⟩ l)
  pointwise []

/-- The sum of the three products over the staged blocks, at row `r` of the block. -/
theorem acc_at (c : Dev nD) (t : Fin cfg0.N) (r : Fin 512) (l : Fin 2048) (h0 h1 h2 : _) :
    (show EReal from k0_pay2 (F := Ideal) (iblk m c 1 t) (View.ld (iblk m c 5 t) (Rect.unit ![0, 0] ![512, 2048] h0)) (iblk m c 2 t)
      (View.ld (iblk m c 5 t) (Rect.unit ![512, 0] ![512, 2048] h1)) (iblk m c 3 t)
      (View.ld (iblk m c 5 t) (Rect.unit ![1024, 0] ![1024, 2048] h2)) (ix2 r l))
      = acc (m ((c : Thread nD τ).loc main_arg1)) (m ((c : Thread nD τ).loc main_arg2)) (m ((c : Thread nD τ).loc main_arg3)) (m ((c : Thread nD τ).loc main_arg5))
        (tb t r) (ti t r) l := by
  refine (pay2_at _ _ _ _ _ _ r l).trans ?_
  refine congrArg₂ (· + ·) (congrArg₂ (· + ·) ?_ ?_) ?_
  · exact Finset.sum_congr rfl fun k _ => congrArg₂ (· * ·) (r_at m c t r k) (w0_at m c t k l h0)
  · exact Finset.sum_congr rfl fun k _ => congrArg₂ (· * ·) (g_at m c t r k) (w1_at m c t k l h1)
  · exact Finset.sum_congr rfl fun k _ => congrArg₂ (· * ·) (a_at m c t r k) (w2_at m c t k l h2)

/-- The gate of half `u` of a block: the modulation's row of the half's tokens. -/
theorem gate_at (c : Dev nD) (t : Fin cfg0.N) (u : Fin 2) (r : Fin 256) (l : Fin 2048) (h : _) :
    (show EReal from View.ld (iblk m c 4 t) (Rect.unit (k0_off1 (grid0.coords t) (BitVec.ofNat 32 u.val)) ![1, 1, 2048] h) (ix3 0 0 l : S1x1x2048.Idx))
      = m ((c : Thread nD τ).loc main_arg4) (ix2 (modRow (tb t ⟨u.val * 256 + r.val, by omega⟩) (ti t ⟨u.val * 256 + r.val, by omega⟩)) ⟨4096 + l.val, by omega⟩ : S16x6144.Idx) := by
  have ht := tlt t
  have hp : 2 * ((2 * t.val + u.val) / 17) + (if (2 * t.val + u.val) % 17 = 0 then 0 else 1) < 16 := by split <;> omega
  refine (View.ld_unit_apply_of (iblk m c 4 t) _ _ h (ix3 0 0 l : S1x1x2048.Idx) (ix3 ⟨_, hp⟩ 0 l : S16x1x2048.Idx) ?_).trans ?_
  · intro a
    refine Eq.trans ?_ (congrArg (· + _) (congrFun (off_eq t u) a).symm)
    revert a
    show ∀ a : Fin 3, _
    intro a
    fin_cases a <;> simp
  refine (t_at m c t ⟨_, hp⟩ l).trans ?_
  refine congrArg (fun q => m ((c : Thread nD τ).loc main_arg4) (ix2 q ⟨4096 + l.val, by omega⟩ : S16x6144.Idx)) (Fin.ext ?_)
  unfold tabRow modRow tb ti
  by_cases h17 : (2 * t.val + u.val) % 17 = 0
  · have e : (t.val * 512 + (u.val * 256 + r.val)) % 4352 < 256 := by omega
    simp only [h17, e, if_true]
    rw [if_pos (by omega)]
  · have e : ¬ (t.val * 512 + (u.val * 256 + r.val)) % 4352 < 256 := by omega
    simp only [h17, e, if_false]
    rw [if_neg (by omega)]
    show _ / 2 = _ / 4352
    omega

/-- Row `r` of the block of grid point `t`, by its batch row and its token. -/
theorem x_row (c : Dev nD) (t : Fin cfg0.N) (r : Fin 512) (l : Fin 2048) :
    m ((c : Thread nD τ).loc main_arg0) (ix2 (tr t r) l : S34816x2048.Idx)
      = m ((c : Thread nD τ).loc main_arg0) (ix2 ⟨(tb t r).val * 4352 + (ti t r).val, by omega⟩ l : S34816x2048.Idx) := by
  refine congrArg (fun q => m ((c : Thread nD τ).loc main_arg0) (ix2 q l : S34816x2048.Idx)) (Fin.ext ?_)
  show t.val * 512 + r.val = (t.val * 512 + r.val) / 4352 * 4352 + (t.val * 512 + r.val) % 4352
  omega

theorem o_emb (t : Fin cfg0.N) (r : Fin 512) (l : Fin 2048) :
    ((cfg0.win 7).blk t).view.emb (ix2 r l : S512x2048.Idx) = (ix2 (tr t r) l : S34816x2048.Idx) := by
  blk_ext [idx t, tr]

/-- What grid point `t` leaves for the result, at an entry of its block, is `SPEC` at the entry's place. -/
theorem point (c : Dev nD) (t : Fin cfg0.N) (r : Fin 512) (l : Fin 2048) :
    (show EReal from outsAt0 m c t (ix2 r l : S512x2048.Idx)) = SPEC (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) (ix2 (tr t r) l) := by
  unfold outsAt0
  frame_out
  canon_tiles x h
  · obtain ⟨i, j, rfl⟩ : ∃ (i : Fin 256) (j : Fin 2048), x = (ix2 i j : S256x2048.Idx) := ⟨x 0, x 1, eq_ix2 (n0 := 256) (n1 := 2048) x⟩
    obtain rfl : r = ⟨256 + i.val, Nat.add_lt_add_left i.isLt 256⟩ := Fin.ext h0
    obtain rfl : l = j := Fin.ext h1
    refine (pay1_at _ _ _ i l).trans ?_
    refine congrArg₂ (· + ·) ?_ (congrArg₂ (· * ·) (gate_at m c t 1 i l _) (acc_at m c t ⟨256 + i.val, by omega⟩ l _ _ _))
    refine (Eq.trans ?_ (x_at m c t ⟨256 + i.val, by omega⟩ l)).trans (x_row m c t ⟨256 + i.val, by omega⟩ l)
    pointwise []
  · obtain ⟨i, j, rfl⟩ : ∃ (i : Fin 256) (j : Fin 2048), x = (ix2 i j : S256x2048.Idx) := ⟨x 0, x 1, eq_ix2 (n0 := 256) (n1 := 2048) x⟩
    obtain rfl : r = ⟨i.val, Nat.lt_of_lt_of_le i.isLt (by decide)⟩ := Fin.ext h0
    obtain rfl : l = j := Fin.ext h1
    refine (pay3_at _ _ _ i l).trans ?_
    refine congrArg₂ (· + ·) ?_ (congrArg₂ (· * ·) ((gate_at m c t 0 i l _).trans ?_) (acc_at m c t ⟨i.val, by omega⟩ l _ _ _))
    · refine (Eq.trans ?_ (x_at m c t ⟨i.val, by omega⟩ l)).trans (x_row m c t ⟨i.val, by omega⟩ l)
      pointwise []
    · have e : (⟨(0 : Fin 2).val * 256 + i.val, by omega⟩ : Fin 512) = ⟨i.val, by omega⟩ := Fin.ext (by simp)
      rw [e]
      rfl

/-- THE RESULT ARRAY after the run. -/
theorem final (c : Dev nD) :
    (dats m 0 c).arrAt 7 (cfgs 0).N = SPEC (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 7 _ covers fun t _ y => ?_
  blk_simp
  rw [after0_7]
  obtain ⟨r, l, rfl⟩ : ∃ (r : Fin 512) (l : Fin 2048), y = (ix2 r l : S512x2048.Idx) := ⟨y 0, y 1, eq_ix2 (n0 := 512) (n1 := 2048) y⟩
  exact (point m c t r l).trans (congrArg (SPEC _ _ _ _ _ _) (o_emb t r l).symm)

end Cert.Proof.Out

end
-- ==== Proof.Out.Ref.lean ====
/- What the output projection's reference computes, entry by entry: the rows of the context and the rows of the latents apart. -/
module

public import proofs.«01_k».proof.Proof.Gen.Reference4Ideal.Run
public import Idealize.ShloMosaic.Lib.Pointwise
public import Idealize.ShloMosaic.Lib.Pipeline.ValueKit
public import proofs.«01_k».proof.Proof.Sums
public import proofs.«01_k».proof.Proof.Out.Spec

@[expose] public section

set_option maxRecDepth 16384

noncomputable section

namespace Cert.Proof.Out

open Idealize.ShloMosaic Idealize.ShloMosaic.TcCoe Idealize.SL.Sem
open Cert.Reference4Ideal Cert.Reference4Ideal.Gen

/-- The mixers' outputs of the context side by side. -/
def catC (R G : FVec Ideal S8x256x512 .f32) (A : FVec Ideal S8x256x1024 .f32) : FVec Ideal S8x256x2048 .f32 :=
  concatenate S8x256x2048 2 [⟨S8x256x512, R⟩, ⟨S8x256x512, G⟩, ⟨S8x256x1024, A⟩] concatenates_S8x256x512_S8x256x512_S8x256x1024_S8x256x2048_d2

/-- The mixers' outputs of the latents side by side. -/
def catL (R G : FVec Ideal S8x4096x512 .f32) (A : FVec Ideal S8x4096x1024 .f32) : FVec Ideal S8x4096x2048 .f32 :=
  concatenate S8x4096x2048 2 [⟨S8x4096x512, R⟩, ⟨S8x4096x512, G⟩, ⟨S8x4096x1024, A⟩] concatenates_S8x4096x512_S8x4096x512_S8x4096x1024_S8x4096x2048_d2

/-- The rows of the context and of the latents of an array of 512 columns. -/
def ctx512 (R : FVec Ideal S8x4352x512 .bf16) : FVec Ideal S8x256x512 .f32 :=
  extractStridedSlice S8x256x512 ![0, 0, 0] (extf .f32 R bitsLt_bf16_f32) slices_S8x4352x512_S8x256x512_0_0_0
def lat512 (R : FVec Ideal S8x4352x512 .bf16) : FVec Ideal S8x4096x512 .f32 :=
  extractStridedSlice S8x4096x512 ![0, 256, 0] (extf .f32 R bitsLt_bf16_f32) slices_S8x4352x512_S8x4096x512_0_256_0

/-- The rows of the context and of the latents of an array of 1024 columns. -/
def ctx1024 (A : FVec Ideal S8x4352x1024 .bf16) : FVec Ideal S8x256x1024 .f32 :=
  extractStridedSlice S8x256x1024 ![0, 0, 0] (extf .f32 A bitsLt_bf16_f32) slices_S8x4352x1024_S8x256x1024_0_0_0
def lat1024 (A : FVec Ideal S8x4352x1024 .bf16) : FVec Ideal S8x4096x1024 .f32 :=
  extractStridedSlice S8x4096x1024 ![0, 256, 0] (extf .f32 A bitsLt_bf16_f32) slices_S8x4352x1024_S8x4096x1024_0_256_0

/-- The context's new residual stream. -/
def outC (X : FVec Ideal S34816x2048 .f32) (P : FVec Ideal S8x256x2048 .f32) (M : FVec Ideal S16x6144 .f32) (W : FVec Ideal S2048x2048 .f32) :
    FVec Ideal S8x256x2048 .f32 :=
  addf (extractStridedSlice S8x256x2048 ![0, 0, 0] (shapeCast S8x4352x2048 X shapeCasts_S34816x2048_S8x4352x2048) slices_S8x4352x2048_S8x256x2048_0_0_0)
    (mulf (broadcastInDim S8x256x2048 ![0, 1, 2] bcast_S1x1x2048_S8x256x2048_0_1_2 (broadcastInDim S1x1x2048 ![2] bcast_S2048_S1x1x2048_2
      (shapeCast S2048 (extractStridedSlice S1x2048 ![8, 0] (extractStridedSlice S16x2048 ![0, 4096] M slices_S16x6144_S16x2048_0_4096)
        slices_S16x2048_S1x2048_8_0) shapeCasts_S1x2048_S2048)))
      (Host.dotGeneral dot_S8x256x2048_S2048x2048_S8x256x2048_2_0_01_1_n_n none P W))

/-- The latents' new residual stream. -/
def outL (X : FVec Ideal S34816x2048 .f32) (P : FVec Ideal S8x4096x2048 .f32) (M : FVec Ideal S16x6144 .f32) (W : FVec Ideal S2048x2048 .f32) :
    FVec Ideal S8x4096x2048 .f32 :=
  addf (extractStridedSlice S8x4096x2048 ![0, 256, 0] (shapeCast S8x4352x2048 X shapeCasts_S34816x2048_S8x4352x2048) slices_S8x4352x2048_S8x4096x2048_0_256_0)
    (mulf (broadcastInDim S8x4096x2048 ![0, 1, 2] bcast_S8x1x2048_S8x4096x2048_0_1_2 (broadcastInDim S8x1x2048 ![0, 2] bcast_S8x2048_S8x1x2048_0_2
      (extractStridedSlice S8x2048 ![0, 0] (extractStridedSlice S16x2048 ![0, 4096] M slices_S16x6144_S16x2048_0_4096) slices_S16x2048_S8x2048_0_0)))
      (Host.dotGeneral dot_S8x4096x2048_S2048x2048_S8x4096x2048_2_0_01_1_n_n none P W))

/-- The reference as a function of its arguments. -/
def REF (X : FVec Ideal S34816x2048 .f32) (R G : FVec Ideal S8x4352x512 .bf16) (A : FVec Ideal S8x4352x1024 .bf16) (M : FVec Ideal S16x6144 .f32)
    (W : FVec Ideal S2048x2048 .f32) : FVec Ideal S34816x2048 .f32 :=
  shapeCast S34816x2048 (concatenate S8x4352x2048 1
    [⟨S8x256x2048, outC X (catC (ctx512 R) (ctx512 G) (ctx1024 A)) M W⟩, ⟨S8x4096x2048, outL X (catL (lat512 R) (lat512 G) (lat1024 A)) M W⟩]
    concatenates_S8x256x2048_S8x4096x2048_S8x4352x2048_d1) shapeCasts_S8x4352x2048_S34816x2048

theorem ctx512_at (R : FVec Ideal S8x4352x512 .bf16) (b : Fin 8) (i : Fin 256) (k : Fin 512) :
    ctx512 R (ix3 b i k) = R (ix3 b ⟨i.val, by omega⟩ k) := by
  pointwise [ctx512]

theorem lat512_at (R : FVec Ideal S8x4352x512 .bf16) (b : Fin 8) (i : Fin 4096) (k : Fin 512) :
    lat512 R (ix3 b i k) = R (ix3 b ⟨256 + i.val, by omega⟩ k) := by
  pointwise [lat512]

theorem ctx1024_at (R : FVec Ideal S8x4352x1024 .bf16) (b : Fin 8) (i : Fin 256) (k : Fin 1024) :
    ctx1024 R (ix3 b i k) = R (ix3 b ⟨i.val, by omega⟩ k) := by
  pointwise [ctx1024]

theorem lat1024_at (R : FVec Ideal S8x4352x1024 .bf16) (b : Fin 8) (i : Fin 4096) (k : Fin 1024) :
    lat1024 R (ix3 b i k) = R (ix3 b ⟨256 + i.val, by omega⟩ k) := by
  pointwise [lat1024]

/-- A row of the context's product at a column: the three mixers' sums. -/
theorem prodC_at (R G : FVec Ideal S8x256x512 .f32) (A : FVec Ideal S8x256x1024 .f32) (W : FVec Ideal S2048x2048 .f32) (b : Fin 8) (i : Fin 256) (l : Fin 2048) :
    Host.dotGeneral dot_S8x256x2048_S2048x2048_S8x256x2048_2_0_01_1_n_n none (catC R G A) W (ix3 b i l)
      = ((∑ k : Fin 512, R (ix3 b i k) * W (ix2 ⟨k.val, by omega⟩ l)) + ∑ k : Fin 512, G (ix3 b i k) * W (ix2 ⟨512 + k.val, by omega⟩ l))
        + ∑ k : Fin 1024, A (ix3 b i k) * W (ix2 ⟨1024 + k.val, by omega⟩ l) := by
  pointwise [catC]
  rw [Sums.sum_cut]
  refine congrArg₂ (· + ·) (congrArg₂ (· + ·) ?_ ?_) ?_
  · refine Finset.sum_congr rfl fun k _ => congrArg (· * _) ?_
    rw [dif_pos k.isLt]
  · refine Finset.sum_congr rfl fun k _ => congrArg (· * _) ?_
    have e : 512 + k.val - 512 = k.val := by omega
    rw [dif_neg (by simp), dif_pos (by simp)]
    simp only [e]
  · refine Finset.sum_congr rfl fun k _ => congrArg (· * _) ?_
    have e : 1024 + k.val - 512 - 512 = k.val := by omega
    rw [dif_neg (by simp; omega), dif_neg (by simp; omega)]
    simp only [e]

/-- A row of the latents' product at a column: the three mixers' sums. -/
theorem prodL_at (R G : FVec Ideal S8x4096x512 .f32) (A : FVec Ideal S8x4096x1024 .f32) (W : FVec Ideal S2048x2048 .f32) (b : Fin 8) (i : Fin 4096) (l : Fin 2048) :
    Host.dotGeneral dot_S8x4096x2048_S2048x2048_S8x4096x2048_2_0_01_1_n_n none (catL R G A) W (ix3 b i l)
      = ((∑ k : Fin 512, R (ix3 b i k) * W (ix2 ⟨k.val, by omega⟩ l)) + ∑ k : Fin 512, G (ix3 b i k) * W (ix2 ⟨512 + k.val, by omega⟩ l))
        + ∑ k : Fin 1024, A (ix3 b i k) * W (ix2 ⟨1024 + k.val, by omega⟩ l) := by
  pointwise [catL]
  rw [Sums.sum_cut]
  refine congrArg₂ (· + ·) (congrArg₂ (· + ·) ?_ ?_) ?_
  · refine Finset.sum_congr rfl fun k _ => congrArg (· * _) ?_
    rw [dif_pos k.isLt]
  · refine Finset.sum_congr rfl fun k _ => congrArg (· * _) ?_
    have e : 512 + k.val - 512 = k.val := by omega
    rw [dif_neg (by simp), dif_pos (by simp)]
    simp only [e]
  · refine Finset.sum_congr rfl fun k _ => congrArg (· * _) ?_
    have e : 1024 + k.val - 512 - 512 = k.val := by omega
    rw [dif_neg (by simp; omega), dif_neg (by simp; omega)]
    simp only [e]

theorem outC_at (X : FVec Ideal S34816x2048 .f32) (P : FVec Ideal S8x256x2048 .f32) (M : FVec Ideal S16x6144 .f32) (W : FVec Ideal S2048x2048 .f32)
    (b : Fin 8) (i : Fin 256) (l : Fin 2048) :
    outC X P M W (ix3 b i l) = X (ix2 ⟨b.val * 4352 + i.val, by omega⟩ l) + M (ix2 8 ⟨4096 + l.val, by omega⟩)
      * Host.dotGeneral dot_S8x256x2048_S2048x2048_S8x256x2048_2_0_01_1_n_n none P W (ix3 b i l) := by
  generalize hD : Host.dotGeneral dot_S8x256x2048_S2048x2048_S8x256x2048_2_0_01_1_n_n none P W = D
  unfold outC
  rw [hD]
  pointwise []

theorem outL_at (X : FVec Ideal S34816x2048 .f32) (P : FVec Ideal S8x4096x2048 .f32) (M : FVec Ideal S16x6144 .f32) (W : FVec Ideal S2048x2048 .f32)
    (b : Fin 8) (i : Fin 4096) (l : Fin 2048) :
    outL X P M W (ix3 b i l) = X (ix2 ⟨b.val * 4352 + (256 + i.val), by omega⟩ l) + M (ix2 ⟨b.val, by omega⟩ ⟨4096 + l.val, by omega⟩)
      * Host.dotGeneral dot_S8x4096x2048_S2048x2048_S8x4096x2048_2_0_01_1_n_n none P W (ix3 b i l) := by
  generalize hD : Host.dotGeneral dot_S8x4096x2048_S2048x2048_S8x4096x2048_2_0_01_1_n_n none P W = D
  unfold outL
  rw [hD]
  pointwise []

/-- The tokens of the context, then those of the latents, all batch rows one after another. -/
theorem cat_at (A : FVec Ideal S8x256x2048 .f32) (B : FVec Ideal S8x4096x2048 .f32) (b : Fin 8) (i : Fin 4352) (l : Fin 2048) :
    (concatenate S8x4352x2048 1 [⟨S8x256x2048, A⟩, ⟨S8x4096x2048, B⟩] concatenates_S8x256x2048_S8x4096x2048_S8x4352x2048_d1 : FVec Ideal S8x4352x2048 .f32) (ix3 b i l)
      = if h : i.val < 256 then A (ix3 b ⟨i.val, h⟩ l) else B (ix3 b ⟨i.val - 256, by omega⟩ l) := by
  pointwise []

theorem flat_at (B : FVec Ideal S8x4352x2048 .f32) (r : Fin 34816) (l : Fin 2048) :
    shapeCast S34816x2048 B shapeCasts_S8x4352x2048_S34816x2048 (ix2 r l) = B (ix3 ⟨r.val / 4352, by omega⟩ ⟨r.val % 4352, by omega⟩ l) := by
  pointwise []

/-- The reference's function is `SPEC`. -/
theorem ref_eq (X : FVec Ideal S34816x2048 .f32) (R G : FVec Ideal S8x4352x512 .bf16) (A : FVec Ideal S8x4352x1024 .bf16) (M : FVec Ideal S16x6144 .f32)
    (W : FVec Ideal S2048x2048 .f32) : REF X R G A M W = SPEC X R G A M W := by
  funext j
  obtain ⟨r, l, rfl⟩ : ∃ (r : Fin 34816) (l : Fin 2048), j = ix2 r l := ⟨j 0, j 1, eq_ix2 (n0 := 34816) (n1 := 2048) j⟩
  show _ = stream X R G A M W ⟨r.val / 4352, by omega⟩ ⟨r.val % 4352, by omega⟩ l
  refine (flat_at _ r l).trans ?_
  rw [cat_at]
  by_cases h : r.val % 4352 < 256
  · rw [dif_pos h, outC_at, prodC_at]
    simp only [ctx512_at, ctx1024_at]
    unfold stream acc modRow
    rw [if_pos h]
  · rw [dif_neg h, outL_at, prodL_at]
    simp only [lat512_at, lat1024_at]
    unfold stream acc modRow
    rw [if_neg h]
    have e : 256 + (r.val % 4352 - 256) = r.val % 4352 := by omega
    simp only [e]

end Cert.Proof.Out

end
-- ==== Proof.Out.Claim.lean ====
/- The claims about the output projection of the layers before the last: its frames, and the kernel's result equal to
   the reference's. -/
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import Idealize.ShloMosaic.Lib.Claim
public import proofs.«01_k».proof.Proof.Out.Final
public import proofs.«01_k».proof.Proof.Out.Ref

@[expose] public section

set_option maxRecDepth 16384

noncomputable section

namespace Cert.Proof.Out

open Idealize.ShloMosaic Idealize.ShloMosaic.TcCoe Idealize.SL.Sem

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) :=
  fun m ρ _ => Cert.Kernel4Ideal.Gen.frame m ρ

theorem frame_ref : Cert.quiescent_Reference4Ideal (hReference4Ideal := Cert.Reference4Ideal.Gen.facts) := by
  intro m g _
  exact (θ_run Cert.Reference4Ideal.defs _ _).mono (fun r h => ⟨fun c => (h c).2, Idealize.ShloMosaic.sem_eq_zero_of_no_sems (by decide) r.2⟩)
    (Cert.Reference4Ideal.Value.run (F := Ideal) m g)

/-- THE VALUE CLAIM. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    refine Eq.trans (b := REF (m (c.tc.loc Cert.Kernel4Ideal.main_arg0)) (m (c.tc.loc Cert.Kernel4Ideal.main_arg1)) (m (c.tc.loc Cert.Kernel4Ideal.main_arg2))
      (m (c.tc.loc Cert.Kernel4Ideal.main_arg3)) (m' (c.tc.loc Cert.Reference4Ideal.main_arg4)) (m' (c.tc.loc Cert.Reference4Ideal.main_arg5))) rfl ?_
    rw [(hagree c).2.2.2.2.1, (hagree c).2.2.2.2.2.1, ref_eq]
    exact (final m c).symm

end Cert.Proof.Out

end
-- ==== Proof.Prep.Spec.lean ====
/- The head preparation written once, entry by entry. -/
module

public import Idealize.ShloMosaic.Lib.Pointwise
public import proofs.«01_k».proof.Proof.Norm

@[expose] public section

noncomputable section

namespace Cert.Proof.Prep

open Idealize.ShloMosaic

/-- The cosines and sines of the latents' angles, of rows and of columns: one line per token, one column per frequency. -/
structure Tables where
  cr : FVec Ideal ⟨2, ![4096, 16]⟩ .f32
  sr : FVec Ideal ⟨2, ![4096, 16]⟩ .f32
  cc : FVec Ideal ⟨2, ![4096, 16]⟩ .f32
  sc : FVec Ideal ⟨2, ![4096, 16]⟩ .f32

/-- The latent of the queries and of the keys and values of a token: batch row `b`, token `i`. -/
def cq (Z : FVec Ideal ⟨2, ![34816, 6400]⟩ .bf16) (b : Fin 8) (i : Fin 4352) (k : Fin 768) : EReal :=
  Z (ix2 ⟨b.val * 4352 + i.val, by omega⟩ ⟨4608 + k.val, by omega⟩)
def ckv (Z : FVec Ideal ⟨2, ![34816, 6400]⟩ .bf16) (b : Fin 8) (i : Fin 4352) (k : Fin 512) : EReal :=
  Z (ix2 ⟨b.val * 4352 + i.val, by omega⟩ ⟨4096 + k.val, by omega⟩)

/-- The token's rotary key. -/
def kr (Zs : FVec Ideal ⟨2, ![34816, 128]⟩ .f32) (b : Fin 8) (i : Fin 4352) (j : Fin 64) : EReal :=
  Zs (ix2 ⟨b.val * 4352 + i.val, by omega⟩ ⟨j.val, by omega⟩)

/-- The normalised latent of the queries times column `n` of its weights. -/
def qv (Z : FVec Ideal ⟨2, ![34816, 6400]⟩ .bf16) (nw : FVec Ideal ⟨1, ![768]⟩ .f32) (W : FVec Ideal ⟨2, ![768, 1536]⟩ .f32)
    (b : Fin 8) (i : Fin 4352) (n : Fin 1536) : EReal :=
  ∑ k : Fin 768, Norm.norm (Ideal.ofBits .f32 0x44400000#32) (cq Z b i) k * nw (ix1 k) * W (ix2 k n)

/-- The normalised latent of the keys and values times column `n` of its weights. -/
def kv (Z : FVec Ideal ⟨2, ![34816, 6400]⟩ .bf16) (nw : FVec Ideal ⟨1, ![512]⟩ .f32) (W : FVec Ideal ⟨2, ![512, 2048]⟩ .f32)
    (b : Fin 8) (i : Fin 4352) (n : Fin 2048) : EReal :=
  ∑ k : Fin 512, Norm.norm (Ideal.ofBits .f32 0x44000000#32) (ckv Z b i) k * nw (ix1 k) * W (ix2 k n)

/-- One half of the rotation: pairs of entries 16 apart, rotated by the angle whose cosine and sine are `c` and `s`. -/
def half (c s : FVec Ideal ⟨2, ![4096, 16]⟩ .f32) (i : Fin 4096) (x : Fin 32 → EReal) (j : Fin 32) : EReal :=
  if h : j.val < 16 then x j * c (ix2 i ⟨j.val, h⟩) - x ⟨16 + j.val, by omega⟩ * s (ix2 i ⟨j.val, h⟩)
  else x ⟨j.val - 16, by omega⟩ * s (ix2 i ⟨j.val - 16, by omega⟩) + x j * c (ix2 i ⟨j.val - 16, by omega⟩)

/-- The rotation: the first half of the entries by the token's row, the second by its column. -/
def rot (T : Tables) (i : Fin 4096) (x : Fin 64 → EReal) (j : Fin 64) : EReal :=
  if h : j.val < 32 then half T.cr T.sr i (fun a => x ⟨a.val, by omega⟩) ⟨j.val, h⟩
  else half T.cc T.sc i (fun a => x ⟨32 + a.val, by omega⟩) ⟨j.val - 32, by omega⟩

/-- Tokens of the context are not rotated. -/
def turn (T : Tables) (i : Fin 4352) (x : Fin 64 → EReal) (j : Fin 64) : EReal :=
  if i.val < 256 then x j else rot T ⟨i.val - 256, by omega⟩ x j

/-- A head's line: 128 plain entries, 64 rotated ones, 64 zeros. -/
def line (p : Fin 128 → EReal) (x : Fin 64 → EReal) (l : Fin 256) : EReal :=
  if h : l.val < 128 then p ⟨l.val, h⟩ else if h' : l.val < 192 then x ⟨l.val - 128, by omega⟩ else 0

/-- The factor of the scores, that the queries carry. -/
def sc : EReal := Ideal.ofBits .f32 0x3D93CD3A#32

def Qat (T : Tables) (Z : FVec Ideal ⟨2, ![34816, 6400]⟩ .bf16) (nw : FVec Ideal ⟨1, ![768]⟩ .f32) (W : FVec Ideal ⟨2, ![768, 1536]⟩ .f32)
    (b h : Fin 8) (i : Fin 4352) (l : Fin 256) : EReal :=
  line (fun n => qv Z nw W b i ⟨h.val * 192 + n.val, by omega⟩ * sc)
    (fun j => turn T i (fun a => qv Z nw W b i ⟨h.val * 192 + (128 + a.val), by omega⟩) j * sc) l

def Kat (T : Tables) (Z : FVec Ideal ⟨2, ![34816, 6400]⟩ .bf16) (Zs : FVec Ideal ⟨2, ![34816, 128]⟩ .f32) (nw : FVec Ideal ⟨1, ![512]⟩ .f32)
    (W : FVec Ideal ⟨2, ![512, 2048]⟩ .f32) (b h : Fin 8) (i : Fin 4352) (l : Fin 256) : EReal :=
  line (fun n => kv Z nw W b i ⟨h.val * 256 + n.val, by omega⟩) (turn T i (kr Zs b i)) l

def Vat (Z : FVec Ideal ⟨2, ![34816, 6400]⟩ .bf16) (nw : FVec Ideal ⟨1, ![512]⟩ .f32) (W : FVec Ideal ⟨2, ![512, 2048]⟩ .f32)
    (b h : Fin 8) (i : Fin 4352) (l : Fin 128) : EReal :=
  kv Z nw W b i ⟨h.val * 256 + (128 + l.val), by omega⟩

/-- The queries, the keys and the values. -/
def QS (T : Tables) (Z : FVec Ideal ⟨2, ![34816, 6400]⟩ .bf16) (nw : FVec Ideal ⟨1, ![768]⟩ .f32) (W : FVec Ideal ⟨2, ![768, 1536]⟩ .f32) :
    FVec Ideal ⟨4, ![8, 8, 4352, 256]⟩ .bf16 := fun j => Qat T Z nw W (j 0) (j 1) (j 2) (j 3)
def KS (T : Tables) (Z : FVec Ideal ⟨2, ![34816, 6400]⟩ .bf16) (Zs : FVec Ideal ⟨2, ![34816, 128]⟩ .f32) (nw : FVec Ideal ⟨1, ![512]⟩ .f32)
    (W : FVec Ideal ⟨2, ![512, 2048]⟩ .f32) : FVec Ideal ⟨4, ![8, 8, 4352, 256]⟩ .bf16 := fun j => Kat T Z Zs nw W (j 0) (j 1) (j 2) (j 3)
def VS (Z : FVec Ideal ⟨2, ![34816, 6400]⟩ .bf16) (nw : FVec Ideal ⟨1, ![512]⟩ .f32) (W : FVec Ideal ⟨2, ![512, 2048]⟩ .f32) :
    FVec Ideal ⟨4, ![8, 8, 4352, 128]⟩ .bf16 := fun j => Vat Z nw W (j 0) (j 1) (j 2) (j 3)

end Cert.Proof.Prep

end
-- ==== Proof.Prep.Block.lean ====
/- The pure steps of the head preparation's kernel, entry by entry: the products of the normalised latents, the
   rotation and the pieces that are stored. -/
module

public import proofs.«01_k».proof.Proof.Gen.Kernel5Ideal.Value
public import Idealize.ShloMosaic.Lib.Pipeline.ValueKit
public import Idealize.ShloMosaic.Lib.Pointwise
public import proofs.«01_k».proof.Proof.Prep.Spec

@[expose] public section

set_option maxRecDepth 16384

noncomputable section

namespace Cert.Proof.Prep

open Idealize.ShloMosaic Idealize.ShloMosaic.TcCoe Idealize.SL.Sem
open Cert.Kernel5Ideal Cert.Kernel5Ideal.Gen

/-- The product of the normalised latent of the queries with its weights. -/
theorem qprod_at (z : FVec Ideal S256x768 .bf16) (nw : FVec Ideal S1x768 .f32) (w : FVec Ideal S768x2048 .bf16) (r : Fin 256) (n : Fin 2048) :
    k0_pay7 (F := Ideal) z nw w (ix2 r n)
      = ∑ k : Fin 768, Norm.norm (Ideal.ofBits .f32 0x44400000#32) (fun k => z (ix2 r k)) k * nw (ix2 0 k) * w (ix2 k n) := by
  pointwise [k0_pay7, Norm.norm]

/-- The product of the normalised latent of the keys and values with its weights. -/
theorem kprod_at (z : FVec Ideal S256x512 .bf16) (nw : FVec Ideal S1x512 .f32) (w : FVec Ideal S512x2048 .bf16) (r : Fin 256) (n : Fin 2048) :
    k0_pay10 (F := Ideal) (k0_pay8 nw) (k0_pay9 z) w (ix2 r n)
      = ∑ k : Fin 512, Norm.norm (Ideal.ofBits .f32 0x44000000#32) (fun k => z (ix2 r k)) k * nw (ix2 0 k) * w (ix2 k n) := by
  pointwise [k0_pay8, k0_pay9, k0_pay10, Norm.norm]

/-- The lanes that take their partner from the right, of every 32 the first 16. -/
def low : IVec S256x128 1 := cmpi .slt k0_pay22 (broadcast S256x128 16#32)

theorem low_at (r : Fin 256) (l : Fin 128) : low (ix2 r l) = if l.val % 32 < 16 then 1#1 else 0#1 := by
  show Scalar.cmpi .slt (k0_pay22 (ix2 r l)) 16#32 = _
  have e : k0_pay22 (ix2 r l) = k0_pay22 (ix2 0 l) := rfl
  rw [e]
  clear e
  revert l
  decide +kernel

/-- Every lane's partner. -/
def swapped (x : FVec Ideal S256x128 .f32) : FVec Ideal S256x128 .f32 :=
  select low (dynamicRotate 1 112#32 none x rotates_S256x128_d1) (dynamicRotate 1 16#32 none x rotates_S256x128_d1)

theorem left_at (x : FVec Ideal S256x128 .f32) (r : Fin 256) (l : Fin 128) :
    dynamicRotate 1 112#32 none x rotates_S256x128_d1 (ix2 r l) = x (ix2 r ⟨(l.val + 16) % 128, by omega⟩) := by
  pointwise []
  exact congrArg (fun q => x (ix2 r q)) (Fin.ext (by show (l.val + 128 - 112) % 128 = (l.val + 16) % 128; omega))

theorem right_at (x : FVec Ideal S256x128 .f32) (r : Fin 256) (l : Fin 128) :
    dynamicRotate 1 16#32 none x rotates_S256x128_d1 (ix2 r l) = x (ix2 r ⟨(l.val + 112) % 128, by omega⟩) := by
  pointwise []
  exact congrArg (fun q => x (ix2 r q)) (Fin.ext (by show (l.val + 128 - 16) % 128 = (l.val + 112) % 128; omega))

/-- A lane's partner among 128. -/
def mate (y : Fin 128 → EReal) (l : Fin 128) : EReal :=
  if l.val % 32 < 16 then y ⟨(l.val + 16) % 128, by omega⟩ else y ⟨(l.val + 112) % 128, by omega⟩

theorem swapped_at (x : FVec Ideal S256x128 .f32) (r : Fin 256) (l : Fin 128) : swapped x (ix2 r l) = mate (fun l => x (ix2 r l)) l := by
  unfold swapped mate
  show (if low (ix2 r l) = 1#1 then dynamicRotate 1 112#32 none x rotates_S256x128_d1 (ix2 r l) else dynamicRotate 1 16#32 none x rotates_S256x128_d1 (ix2 r l)) = _
  rw [left_at, right_at, low_at]
  by_cases h : l.val % 32 < 16
  · simp only [h, if_true]
  · simp only [h, if_false]
    rfl

/-- The rotation as the kernel computes it: 128 lanes against a table of cosines and one of signed sines. -/
def rope (x c s : FVec Ideal S256x128 .f32) : FVec Ideal S256x128 .f32 := addf (mulf x c) (mulf (swapped x) s)

def ropeAt (y c s : Fin 128 → EReal) (l : Fin 128) : EReal := y l * c l + mate y l * s l

theorem rope_at (x c s : FVec Ideal S256x128 .f32) (r : Fin 256) (l : Fin 128) :
    rope x c s (ix2 r l) = ropeAt (fun l => x (ix2 r l)) (fun l => c (ix2 r l)) (fun l => s (ix2 r l)) l := by
  show x (ix2 r l) * c (ix2 r l) + swapped x (ix2 r l) * s (ix2 r l) = _
  rw [swapped_at]
  rfl

/-- What is stored of 128 columns. -/
def stored (x : FVec Ideal S256x128 .f32) : FVec Ideal S1x1x256x128 .bf16 :=
  shapeCast S1x1x256x128 (truncf .bf16 x bitsLt_bf16_f32) shapeCasts_S256x128_S1x1x256x128

theorem stored_at (x : FVec Ideal S256x128 .f32) (r : Fin 256) (l : Fin 128) : stored x (ix4 0 0 r l) = x (ix2 r l) := by
  pointwise [stored]

theorem cut_at (o : Nat) (x : FVec Ideal S256x2048 .f32) (h : S256x2048.Slices ![0, o] S256x128) (r : Fin 256) (l : Fin 128) (hl : o + l.val < 2048) :
    extractStridedSlice S256x128 ![0, o] x h (ix2 r l) = x (ix2 r ⟨o + l.val, hl⟩) := by
  pointwise []

/-- What is stored of the keys' rotary part: the rotation of the first 64 lanes of the staged block, the others zero. -/
def first (x : FVec Ideal S256x128 .f32) : FVec Ideal S256x128 .f32 :=
  select (cmpi .slt (iota .tc S256x128 32 [1] iota_S256x128_d1_w32) (broadcast S256x128 64#32)) x (broadcast S256x128 (Scalar.ofBits .f32 0x00000000#32))

theorem lane64 : ∀ l : Fin 128, IntOp.cmpi .slt (BitVec.ofNat 32 l.val) 64#32 = if l.val < 64 then 1#1 else 0#1 := by
  decide +kernel

theorem first_at (x : FVec Ideal S256x128 .f32) (r : Fin 256) (l : Fin 128) : first x (ix2 r l) = if l.val < 64 then x (ix2 r l) else 0 := by
  pointwise [first]
  rw [lane64]
  by_cases h : l.val < 64
  · rw [if_pos h, if_pos h]
    rfl
  · rw [if_neg h, if_neg h]
    rfl

end Cert.Proof.Prep

end
-- ==== Proof.Prep.Host.lean ====
/- What the head preparation's host code puts before the kernel: the tables of cosines and signed sines, the weights
   laid out head by head, and the rows of the two norms. -/
module

public import proofs.«01_k».proof.Proof.Gen.Kernel5Ideal.Value
public import Idealize.ShloMosaic.Lib.Pipeline.ValueKit
public import Idealize.ShloMosaic.Lib.Pointwise
public import proofs.«01_k».proof.Proof.Prep.Spec

@[expose] public section

set_option maxRecDepth 16384

noncomputable section

namespace Cert.Proof.Prep

open Idealize.ShloMosaic Idealize.ShloMosaic.TcCoe Idealize.SL.Sem
open Cert.Kernel5Ideal Cert.Kernel5Ideal.Gen

/-- The frequencies, and the angles of the rows and of the columns of the grid. -/
def freq : FVec Ideal S16 .f32 :=
  Host.powf (broadcastInDim S16 ![] bcast_S_S16 (constant S_ .f32 0x461C4000#32)) (Host.divf (Host.negf (sitofp .f32 (iotaInDim S16 32 0)))
    (broadcastInDim S16 ![] bcast_S_S16 (constant S_ .f32 0x41800000#32)))
def ang (p : FVec Ideal S4096 .f32) : FVec Ideal S4096x16 .f32 :=
  mulf (broadcastInDim S4096x16 ![0, 1] bcast_S4096x1_S4096x16_0_1 (broadcastInDim S4096x1 ![0] bcast_S4096_S4096x1_0 p))
    (broadcastInDim S4096x16 ![0, 1] bcast_S1x16_S4096x16_0_1 (broadcastInDim S1x16 ![1] bcast_S16_S1x16_1 freq))
def angR : FVec Ideal S4096x16 .f32 := ang (sitofp .f32 (shapeCast S4096 (broadcastInDim S64x64 ![0] bcast_S64_S64x64_0 (iotaInDim S64 32 0)) shapeCasts_S64x64_S4096))
def angC : FVec Ideal S4096x16 .f32 := ang (sitofp .f32 (shapeCast S4096 (broadcastInDim S64x64 ![0, 1] bcast_S1x64_S64x64_0_1
  (shapeCast S1x64 (iotaInDim S64 32 0) shapeCasts_S64_S1x64)) shapeCasts_S64x64_S4096))
def tables : Tables := ⟨Host.cos angR, Host.sin angR, Host.cos angC, Host.sin angC⟩

/-- Four tables side by side. -/
def four (a b c d : FVec Ideal S4096x16 .f32) : FVec Ideal S4096x64 .f32 :=
  concatenate S4096x64 1 [⟨S4096x16, a⟩, ⟨S4096x16, b⟩, ⟨S4096x16, c⟩, ⟨S4096x16, d⟩] concatenates_S4096x16_S4096x16_S4096x16_S4096x16_S4096x64_d1

theorem four_at (a b c d : FVec Ideal S4096x16 .f32) (i : Fin 4096) (l : Fin 64) :
    four a b c d (ix2 i l) = if h : l.val < 16 then a (ix2 i ⟨l.val, h⟩) else if h : l.val < 32 then b (ix2 i ⟨l.val - 16, by omega⟩)
      else if h : l.val < 48 then c (ix2 i ⟨l.val - 32, by omega⟩) else d (ix2 i ⟨l.val - 48, by omega⟩) := by
  pointwise [four]
  by_cases h0 : l.val < 16
  · rw [dif_pos h0, dif_pos h0]
  · rw [dif_neg h0, dif_neg h0]
    by_cases h1 : l.val < 32
    · rw [dif_pos (show l.val - 16 < 16 by omega), dif_pos h1]
    · rw [dif_neg (show ¬ l.val - 16 < 16 by omega), dif_neg h1]
      by_cases h2 : l.val < 48
      · rw [dif_pos (show l.val - 16 - 16 < 16 by omega), dif_pos h2]
        exact congrArg (fun q => c (ix2 i q)) (Fin.ext (by show l.val - 16 - 16 = l.val - 32; omega))
      · rw [dif_neg (show ¬ l.val - 16 - 16 < 16 by omega), dif_neg h2]
        exact congrArg (fun q => d (ix2 i q)) (Fin.ext (by show l.val - 16 - 16 - 16 = l.val - 48; omega))

/-- A table with 256 rows before it and 64 columns after it, all `z`. -/
def wide (x : FVec Ideal S4096x64 .f32) (z : FVec Ideal S_ .f32) : FVec Ideal S4352x128 .f32 :=
  pad S4352x128 ![256, 0] ![0, 64] ![0, 0] x z pads_S4096x64_S4352x128_25600_0640 h_S_

theorem wide_at (x : FVec Ideal S4096x64 .f32) (z : FVec Ideal S_ .f32) (e : EReal) (hz : z = fun _ => e) (i : Fin 4352) (l : Fin 128) :
    wide x z (ix2 i l) = if h : 256 ≤ i.val ∧ l.val < 64 then x (ix2 ⟨i.val - 256, by omega⟩ ⟨l.val, h.2⟩) else e := by
  subst hz
  pointwise [wide]
  by_cases h : 256 ≤ i.val ∧ l.val < 64
  · rw [dif_pos h, dif_pos (show (256 ≤ i.val ∧ i.val - 256 < 4096) ∧ l.val < 64 by omega)]
  · rw [dif_neg h, dif_neg (show ¬ ((256 ≤ i.val ∧ i.val - 256 < 4096) ∧ l.val < 64) by omega)]

def cosOf (T : Tables) : FVec Ideal S4352x128 .f32 := wide (four T.cr T.cr T.cc T.cc) (constant S_ .f32 0x3F800000#32)
def sinOf (T : Tables) : FVec Ideal S4352x128 .f32 := wide (four (Host.negf T.sr) T.sr (Host.negf T.sc) T.sc) (sitofp .f32 (constantI S_ 32 0#32))

/-- The weights of the queries, 256 columns for a head of which the last 64 are zero. -/
def wq (w : FVec Ideal S768x1536 .f32) : FVec Ideal S768x2048 .bf16 :=
  truncf .bf16 (shapeCast S768x2048 (pad S768x8x256 ![0, 0, 0] ![0, 0, 64] ![0, 0, 0] (shapeCast S768x8x192 w shapeCasts_S768x1536_S768x8x192)
    (sitofp .f32 (constantI S_ 32 0#32)) pads_S768x8x192_S768x8x256_000_000_0640 h_S_) shapeCasts_S768x8x256_S768x2048) bitsLt_bf16_f32

/-- The weights of the keys and values: all heads' keys, then all heads' values. -/
def wkv (w : FVec Ideal S512x2048 .f32) : FVec Ideal S512x2048 .bf16 :=
  truncf .bf16 (shapeCast S512x2048 (transpose S512x2x8x128 [0, 2, 1, 3] (shapeCast S512x8x2x128 w shapeCasts_S512x2048_S512x8x2x128)
    transposes_S512x8x2x128_S512x2x8x128_0_2_1_3) shapeCasts_S512x2x8x128_S512x2048) bitsLt_bf16_f32

theorem sitofp_zero : (sitofp .f32 (constantI S_ 32 0#32) : FVec Ideal S_ .f32) = fun _ => 0 := by
  funext j
  show ((((0#32 : BitVec 32).toInt : ℤ) : ℝ) : EReal) = 0
  simp

theorem wq_at (w : FVec Ideal S768x1536 .f32) (k : Fin 768) (n : Fin 2048) :
    wq w (ix2 k n) = if h : n.val % 256 < 192 then w (ix2 k ⟨n.val / 256 * 192 + n.val % 256, by omega⟩) else 0 := by
  unfold wq
  rw [sitofp_zero]
  pointwise []
  by_cases h : n.val % 256 < 192
  · rw [dif_pos h, dif_pos (show n.val / 256 < 8 ∧ n.val % 256 < 192 by omega)]
  · rw [dif_neg h, dif_neg (show ¬ (n.val / 256 < 8 ∧ n.val % 256 < 192) by omega)]

theorem wkv_at (w : FVec Ideal S512x2048 .f32) (k : Fin 512) (n : Fin 2048) :
    wkv w (ix2 k n) = w (ix2 k ⟨n.val % 1024 / 128 * 256 + (n.val / 1024 * 128 + n.val % 128), by omega⟩) := by
  pointwise [wkv]
  exact congrArg (fun q => w (ix2 k q)) (Fin.ext (by
    show n.val / 128 % 8 * 256 + n.val / 1024 * 128 + n.val % 128 = n.val % 1024 / 128 * 256 + (n.val / 1024 * 128 + n.val % 128)
    omega))

/-- An entry of the two tables: ones and zeros on the context's rows and after the 64 columns. -/
theorem cosOf_at (T : Tables) (i : Fin 4352) (l : Fin 128) : cosOf T (ix2 i l)
    = if h : 256 ≤ i.val ∧ l.val < 64 then four T.cr T.cr T.cc T.cc (ix2 ⟨i.val - 256, by omega⟩ ⟨l.val, h.2⟩) else 1 :=
  wide_at _ _ 1 (funext fun _ => Ideal.ofBits_one_f32) i l

theorem sinOf_at (T : Tables) (i : Fin 4352) (l : Fin 128) : sinOf T (ix2 i l)
    = if h : 256 ≤ i.val ∧ l.val < 64 then four (Host.negf T.sr) T.sr (Host.negf T.sc) T.sc (ix2 ⟨i.val - 256, by omega⟩ ⟨l.val, h.2⟩) else 0 :=
  wide_at _ _ 0 sitofp_zero i l

variable (m : (ℓ : Loc nD τ sig) → Buf (Elt Ideal) ℓ)

theorem V37 (c : Dev nD) (j : S4352x128.Idx) : (show EReal from V m c main_v37 j) = cosOf tables j := by
  entry_read
  rfl

theorem V38 (c : Dev nD) (j : S4352x128.Idx) : (show EReal from V m c main_v38 j) = sinOf tables j := by
  entry_read
  rfl

theorem V42 (c : Dev nD) (j : S768x2048.Idx) : (show EReal from V m c main_v42 j) = wq (m ((c : Thread nD τ).loc main_arg3)) j := by
  entry_read
  rfl

theorem V46 (c : Dev nD) (j : S512x2048.Idx) : (show EReal from V m c main_v46 j) = wkv (m ((c : Thread nD τ).loc main_arg5)) j := by
  entry_read
  rfl

theorem row768 (x : FVec Ideal S768 .f32) (k : Fin 768) : shapeCast S1x768 x shapeCasts_S768_S1x768 (ix2 0 k) = x (ix1 k) := by
  pointwise []

theorem row512 (x : FVec Ideal S512 .f32) (k : Fin 512) : shapeCast S1x512 x shapeCasts_S512_S1x512 (ix2 0 k) = x (ix1 k) := by
  pointwise []

theorem V47 (c : Dev nD) (k : Fin 768) : (show EReal from V m c main_v47 (ix2 0 k : S1x768.Idx)) = m ((c : Thread nD τ).loc main_arg2) (ix1 k : S768.Idx) := by
  entry_read
  exact row768 (m ((c : Thread nD τ).loc main_arg2)) k

theorem V48 (c : Dev nD) (k : Fin 512) : (show EReal from V m c main_v48 (ix2 0 k : S1x512.Idx)) = m ((c : Thread nD τ).loc main_arg4) (ix1 k : S512.Idx) := by
  entry_read
  exact row512 (m ((c : Thread nD τ).loc main_arg4)) k

end Cert.Proof.Prep

end
-- ==== Proof.Prep.Turn.lean ====
/- The rotation of 128 lanes against the two staged tables is the rotation of their first 64 entries. -/
module

public import proofs.«01_k».proof.Proof.Prep.Block
public import proofs.«01_k».proof.Proof.Prep.Host

@[expose] public section

set_option maxRecDepth 16384

noncomputable section

namespace Cert.Proof.Prep

open Idealize.ShloMosaic Idealize.ShloMosaic.TcCoe Idealize.SL.Sem
open Cert.Kernel5Ideal Cert.Kernel5Ideal.Gen

/-- After the 64 columns, and on the context's rows, nothing is rotated. -/
theorem rope_plain (T : Tables) (y : Fin 128 → EReal) (i : Fin 4352) (l : Fin 128) (h : ¬ (256 ≤ i.val ∧ l.val < 64)) :
    ropeAt y (fun l => cosOf T (ix2 i l)) (fun l => sinOf T (ix2 i l)) l = y l := by
  unfold ropeAt
  beta_reduce
  rw [cosOf_at, sinOf_at, dif_neg h, dif_neg h, mul_one, mul_zero, add_zero]

theorem mate_low (y : Fin 128 → EReal) (l : Fin 128) (h : l.val % 32 < 16) (k : Fin 128) (hk : k.val = (l.val + 16) % 128) : mate y l = y k := by
  unfold mate
  rw [if_pos h]
  exact congrArg y (Fin.ext hk.symm)

theorem mate_high (y : Fin 128 → EReal) (l : Fin 128) (h : ¬ l.val % 32 < 16) (k : Fin 128) (hk : k.val = (l.val + 112) % 128) : mate y l = y k := by
  unfold mate
  rw [if_neg h]
  exact congrArg y (Fin.ext hk.symm)

theorem minus (a b c d : EReal) : a * b + c * -d = a * b - c * d := by
  rw [mul_neg, sub_eq_add_neg]

/-- On a latent's row the first 64 lanes are rotated. -/
theorem rope_rot (T : Tables) (y : Fin 128 → EReal) (i : Fin 4352) (l : Fin 64) (hi : 256 ≤ i.val) :
    ropeAt y (fun l => cosOf T (ix2 i l)) (fun l => sinOf T (ix2 i l)) ⟨l.val, by omega⟩
      = rot T ⟨i.val - 256, by omega⟩ (fun a => y ⟨a.val, by omega⟩) l := by
  unfold ropeAt rot half
  beta_reduce
  have h : 256 ≤ i.val ∧ (⟨l.val, by omega⟩ : Fin 128).val < 64 := ⟨hi, l.isLt⟩
  rw [cosOf_at, sinOf_at, dif_pos h, dif_pos h, four_at, four_at]
  dsimp only
  by_cases h0 : l.val < 16
  · rw [dif_pos h0, dif_pos h0, dif_pos (show l.val < 32 by omega),
      dif_pos h0, mate_low y _ (show l.val % 32 < 16 by omega) ⟨16 + l.val, by omega⟩ (show 16 + l.val = (l.val + 16) % 128 by omega)]
    exact minus _ _ _ _
  · rw [dif_neg h0, dif_neg h0]
    by_cases h1 : l.val < 32
    · rw [dif_pos h1, dif_pos h1, dif_pos h1,
        dif_neg h0, mate_high y _ (show ¬ l.val % 32 < 16 by omega) ⟨l.val - 16, by omega⟩ (show l.val - 16 = (l.val + 112) % 128 by omega)]
      exact add_comm _ _
    · rw [dif_neg h1, dif_neg h1, dif_neg h1]
      have e : (⟨32 + (l.val - 32), by omega⟩ : Fin 128) = ⟨l.val, by omega⟩ := Fin.ext (by show 32 + (l.val - 32) = l.val; omega)
      by_cases h2 : l.val < 48
      · rw [dif_pos h2, dif_pos h2,
          dif_pos (show l.val - 32 < 16 by omega),
          mate_low y _ (show l.val % 32 < 16 by omega) ⟨32 + (16 + (l.val - 32)), by omega⟩ (show 32 + (16 + (l.val - 32)) = (l.val + 16) % 128 by omega)]
        refine (minus _ _ _ _).trans ?_
        simp only [e]
      · rw [dif_neg h2, dif_neg h2,
          dif_neg (show ¬ l.val - 32 < 16 by omega),
          mate_high y _ (show ¬ l.val % 32 < 16 by omega) ⟨32 + (l.val - 32 - 16), by omega⟩ (show 32 + (l.val - 32 - 16) = (l.val + 112) % 128 by omega)]
        refine (add_comm _ _).trans ?_
        have e' : (⟨l.val - 32 - 16, by omega⟩ : Fin 16) = ⟨l.val - 48, by omega⟩ := Fin.ext (by show l.val - 32 - 16 = l.val - 48; omega)
        simp only [e, e']

/-- The first 64 lanes of a row hold its token's `turn`. -/
theorem rope_turn (T : Tables) (y : Fin 128 → EReal) (i : Fin 4352) (l : Fin 64) :
    ropeAt y (fun l => cosOf T (ix2 i l)) (fun l => sinOf T (ix2 i l)) ⟨l.val, by omega⟩ = turn T i (fun a => y ⟨a.val, by omega⟩) l := by
  unfold turn
  by_cases h : i.val < 256
  · rw [if_pos h]
    exact rope_plain T y i _ (by omega)
  · rw [if_neg h]
    exact rope_rot T y i l (by omega)

end Cert.Proof.Prep

end
-- ==== Proof.Prep.Blocks.lean ====
/- What the head preparation's blocks hold of the arguments. -/
module

public import proofs.«01_k».proof.Proof.Gen.Kernel5Ideal.Value
public import Idealize.ShloMosaic.Lib.Pipeline.ValueKit
public import Idealize.ShloMosaic.Lib.Pipeline.Covers
public import proofs.«01_k».proof.Proof.Prep.Turn

@[expose] public section

set_option maxRecDepth 16384

noncomputable section

namespace Cert.Proof.Prep

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The blocks of grid point `t`: 256 tokens of one batch row, and the whole weights. -/
theorem idx : ∀ t : Fin cfg0.N,
    win0_0.index t = ![t.val, 6] ∧ win0_1.index t = ![t.val, 8] ∧ win0_2.index t = ![t.val, 0] ∧ win0_3.index t = ![0, 0]
    ∧ win0_4.index t = ![0, 0] ∧ win0_5.index t = ![0, 0] ∧ win0_6.index t = ![0, 0] ∧ win0_7.index t = ![t.val % 17, 0] ∧ win0_8.index t = ![t.val % 17, 0]
    ∧ win0_9.index t = ![t.val / 17, 0, t.val % 17, 0] ∧ win0_10.index t = ![t.val / 17, 0, t.val % 17, 0] ∧ win0_11.index t = ![t.val / 17, 0, t.val % 17, 0] :=
  (by decide +kernel : ∀ t : Fin grid0.N, _)

theorem tlt (t : Fin cfg0.N) : t.val < 136 := lt_of_lt_of_eq t.isLt N_0

/-- The batch row of grid point `t`, and the token that row `r` of its block is. -/
def tb (t : Fin cfg0.N) : Fin 8 := ⟨t.val / 17, by have := tlt t; omega⟩
def ti (t : Fin cfg0.N) (r : Fin 256) : Fin 4352 := ⟨t.val % 17 * 256 + r.val, by omega⟩

theorem z_row (Z : FVec Ideal S34816x6400 .bf16) (t : Fin cfg0.N) (r : Fin 256) (n : Fin 6400) (h : t.val * 256 + r.val < 34816) :
    Z (ix2 ⟨t.val * 256 + r.val, h⟩ n) = Z (ix2 ⟨(tb t).val * 4352 + (ti t r).val, by omega⟩ n) :=
  congrArg (fun q => Z (ix2 q n)) (Fin.ext (by show t.val * 256 + r.val = t.val / 17 * 4352 + (t.val % 17 * 256 + r.val); omega))

theorem x0_at (c : Dev nD) (t : Fin cfg0.N) (r : Fin 256) (k : Fin 768) :
    (show EReal from X0_0 m c t (ix2 r k : S256x768.Idx)) = cq (m ((c : Thread nD τ).loc main_arg0)) (tb t) (ti t r) k := by
  have := tlt t
  unfold cq
  refine Eq.trans ?_ (z_row (m ((c : Thread nD τ).loc main_arg0)) t r _ (by omega))
  unfold X0_0 Pipeline.Window.fill
  rw [dif_pos (moved0_0 t _)]
  blk_point [iblk, V, idx t]

theorem x1_at (c : Dev nD) (t : Fin cfg0.N) (r : Fin 256) (k : Fin 512) :
    (show EReal from X0_1 m c t (ix2 r k : S256x512.Idx)) = ckv (m ((c : Thread nD τ).loc main_arg0)) (tb t) (ti t r) k := by
  have := tlt t
  unfold ckv
  refine Eq.trans ?_ (z_row (m ((c : Thread nD τ).loc main_arg0)) t r _ (by omega))
  unfold X0_1 Pipeline.Window.fill
  rw [dif_pos (moved0_1 t _)]
  blk_point [iblk, V, idx t]

theorem s_row (Z : FVec Ideal S34816x128 .f32) (t : Fin cfg0.N) (r : Fin 256) (n : Fin 128) (h : t.val * 256 + r.val < 34816) :
    Z (ix2 ⟨t.val * 256 + r.val, h⟩ n) = Z (ix2 ⟨(tb t).val * 4352 + (ti t r).val, by omega⟩ n) :=
  congrArg (fun q => Z (ix2 q n)) (Fin.ext (by show t.val * 256 + r.val = t.val / 17 * 4352 + (t.val % 17 * 256 + r.val); omega))

theorem x2_at (c : Dev nD) (t : Fin cfg0.N) (r : Fin 256) (k : Fin 128) :
    (show EReal from iblk m c 2 t (ix2 r k : S256x128.Idx)) = m ((c : Thread nD τ).loc main_arg1) (ix2 ⟨(tb t).val * 4352 + (ti t r).val, by omega⟩ k : S34816x128.Idx) := by
  have := tlt t
  refine Eq.trans ?_ (s_row (m ((c : Thread nD τ).loc main_arg1)) t r _ (by omega))
  blk_point [iblk, V, idx t]

theorem x3_at (c : Dev nD) (t : Fin cfg0.N) (k : Fin 768) :
    (show EReal from iblk m c 3 t (ix2 0 k : S1x768.Idx)) = m ((c : Thread nD τ).loc main_arg2) (ix1 k : S768.Idx) := by
  refine Eq.trans ?_ (V47 m c k)
  blk_point [iblk, idx t]

theorem x4_at (c : Dev nD) (t : Fin cfg0.N) (k : Fin 512) :
    (show EReal from iblk m c 4 t (ix2 0 k : S1x512.Idx)) = m ((c : Thread nD τ).loc main_arg4) (ix1 k : S512.Idx) := by
  refine Eq.trans ?_ (V48 m c k)
  blk_point [iblk, idx t]

theorem x5_at (c : Dev nD) (t : Fin cfg0.N) (k : Fin 768) (n : Fin 2048) :
    (show EReal from iblk m c 5 t (ix2 k n : S768x2048.Idx)) = wq (m ((c : Thread nD τ).loc main_arg3)) (ix2 k n) := by
  refine Eq.trans ?_ (V42 m c (ix2 k n))
  blk_point [iblk, idx t]

theorem x6_at (c : Dev nD) (t : Fin cfg0.N) (k : Fin 512) (n : Fin 2048) :
    (show EReal from iblk m c 6 t (ix2 k n : S512x2048.Idx)) = wkv (m ((c : Thread nD τ).loc main_arg5)) (ix2 k n) := by
  refine Eq.trans ?_ (V46 m c (ix2 k n))
  blk_point [iblk, idx t]

theorem x7_at (c : Dev nD) (t : Fin cfg0.N) (r : Fin 256) (l : Fin 128) :
    (show EReal from iblk m c 7 t (ix2 r l : S256x128.Idx)) = cosOf tables (ix2 (ti t r) l) := by
  refine Eq.trans ?_ (V37 m c (ix2 (ti t r) l))
  blk_point [iblk, idx t, ti]

theorem x8_at (c : Dev nD) (t : Fin cfg0.N) (r : Fin 256) (l : Fin 128) :
    (show EReal from iblk m c 8 t (ix2 r l : S256x128.Idx)) = sinOf tables (ix2 (ti t r) l) := by
  refine Eq.trans ?_ (V38 m c (ix2 (ti t r) l))
  blk_point [iblk, idx t, ti]

theorem q_emb (t : Fin cfg0.N) (h : Fin 8) (r l : Fin 256) :
    ((cfg0.win 9).blk t).view.emb (ix4 0 h r l : S1x8x256x256.Idx) = (ix4 (tb t) h (ti t r) l : S8x8x4352x256.Idx) := by
  blk_ext [idx t, tb, ti]

theorem k_emb (t : Fin cfg0.N) (h : Fin 8) (r l : Fin 256) :
    ((cfg0.win 10).blk t).view.emb (ix4 0 h r l : S1x8x256x256.Idx) = (ix4 (tb t) h (ti t r) l : S8x8x4352x256.Idx) := by
  blk_ext [idx t, tb, ti]

theorem v_emb (t : Fin cfg0.N) (h : Fin 8) (r : Fin 256) (l : Fin 128) :
    ((cfg0.win 11).blk t).view.emb (ix4 0 h r l : S1x8x256x128.Idx) = (ix4 (tb t) h (ti t r) l : S8x8x4352x128.Idx) := by
  blk_ext [idx t, tb, ti]

/-- Every block of the results is some grid point's. -/
theorem covers9 : (cfg0.win 9).Covers :=
  (cfg0.win 9).covers_of_index_surj rfl (by decide) fun β => by
    have h0 : (β 0).val < 8 := (β 0).isLt
    have h1 : (β 1).val < 1 := (β 1).isLt
    have h2 : (β 2).val < 17 := (β 2).isLt
    have h3 : (β 3).val < 1 := (β 3).isLt
    refine ⟨⟨(β 0).val * 17 + (β 2).val, lt_of_lt_of_eq (by omega) N_0.symm⟩, fun a => ?_⟩
    show win0_9.index _ a = _
    rw [(idx _).2.2.2.2.2.2.2.2.2.1]
    fin_cases a <;> simp <;> omega

theorem covers10 : (cfg0.win 10).Covers :=
  (cfg0.win 10).covers_of_index_surj rfl (by decide) fun β => by
    have h0 : (β 0).val < 8 := (β 0).isLt
    have h1 : (β 1).val < 1 := (β 1).isLt
    have h2 : (β 2).val < 17 := (β 2).isLt
    have h3 : (β 3).val < 1 := (β 3).isLt
    refine ⟨⟨(β 0).val * 17 + (β 2).val, lt_of_lt_of_eq (by omega) N_0.symm⟩, fun a => ?_⟩
    show win0_10.index _ a = _
    rw [(idx _).2.2.2.2.2.2.2.2.2.2.1]
    fin_cases a <;> simp <;> omega

theorem covers11 : (cfg0.win 11).Covers :=
  (cfg0.win 11).covers_of_index_surj rfl (by decide) fun β => by
    have h0 : (β 0).val < 8 := (β 0).isLt
    have h1 : (β 1).val < 1 := (β 1).isLt
    have h2 : (β 2).val < 17 := (β 2).isLt
    have h3 : (β 3).val < 1 := (β 3).isLt
    refine ⟨⟨(β 0).val * 17 + (β 2).val, lt_of_lt_of_eq (by omega) N_0.symm⟩, fun a => ?_⟩
    show win0_11.index _ a = _
    rw [(idx _).2.2.2.2.2.2.2.2.2.2.2]
    fin_cases a <;> simp <;> omega

end Cert.Proof.Prep

end
-- ==== Proof.Prep.Pieces.lean ====
/- What a grid point of the head preparation leaves of its three results. -/
module

public import proofs.«01_k».proof.Proof.Prep.Blocks

@[expose] public section

set_option maxRecDepth 16384

noncomputable section

namespace Cert.Proof.Prep

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The two products of grid point `t`, and its rows of the two tables. -/
def QV (c : Dev nD) (t : Fin cfg0.N) : FVec Ideal S256x2048 .f32 := k0_pay7 (F := Ideal) (X0_0 m c t) (iblk m c 3 t) (iblk m c 5 t)
def KV (c : Dev nD) (t : Fin cfg0.N) : FVec Ideal S256x2048 .f32 :=
  k0_pay10 (F := Ideal) (k0_pay8 (iblk m c 4 t)) (k0_pay9 (X0_1 m c t)) (iblk m c 6 t)
def CS (c : Dev nD) (t : Fin cfg0.N) : FVec Ideal S256x128 .f32 := k0_pay5 (F := Ideal) (iblk m c 7 t)
def SN (c : Dev nD) (t : Fin cfg0.N) : FVec Ideal S256x128 .f32 := k0_pay6 (F := Ideal) (iblk m c 8 t)

theorem zero_right (a b : EReal) (e : b = 0) : a * b = 0 := by rw [e, mul_zero]

/-- A column of the queries' product: of head `d`, one of its 192, or one of the 64 that are zero. -/
theorem QV_low (c : Dev nD) (t : Fin cfg0.N) (r : Fin 256) (d : Fin 8) (a : Nat) (ha : a < 192) (n : Fin 2048) (hn : n.val = d.val * 256 + a) :
    QV m c t (ix2 r n) = qv (m ((c : Thread nD τ).loc main_arg0)) (m ((c : Thread nD τ).loc main_arg2)) (m ((c : Thread nD τ).loc main_arg3))
      (tb t) (ti t r) ⟨d.val * 192 + a, by omega⟩ := by
  refine (qprod_at _ _ _ r n).trans (Finset.sum_congr rfl fun k _ => congrArg₂ (· * ·) (congrArg₂ (· * ·) ?_ (x3_at m c t k)) ?_)
  · exact congrArg (fun y => Norm.norm (Ideal.ofBits .f32 0x44400000#32) y k) (funext fun q => x0_at m c t r q)
  · refine (x5_at m c t k n).trans ((wq_at _ k n).trans ((dif_pos (show n.val % 256 < 192 by omega)).trans ?_))
    exact congrArg (fun q => m ((c : Thread nD τ).loc main_arg3) (ix2 k q : S768x1536.Idx)) (Fin.ext (by show n.val / 256 * 192 + n.val % 256 = d.val * 192 + a; omega))

theorem QV_high (c : Dev nD) (t : Fin cfg0.N) (r : Fin 256) (n : Fin 2048) (hn : ¬ n.val % 256 < 192) : QV m c t (ix2 r n) = 0 := by
  refine (qprod_at _ _ _ r n).trans (Finset.sum_eq_zero fun k _ => zero_right _ _ ?_)
  exact (x5_at m c t k n).trans ((wq_at _ k n).trans (dif_neg hn))

/-- A column of the keys' and values' product. -/
theorem KV_at (c : Dev nD) (t : Fin cfg0.N) (r : Fin 256) (n p : Fin 2048) (hp : n.val % 1024 / 128 * 256 + (n.val / 1024 * 128 + n.val % 128) = p.val) :
    KV m c t (ix2 r n) = kv (m ((c : Thread nD τ).loc main_arg0)) (m ((c : Thread nD τ).loc main_arg4)) (m ((c : Thread nD τ).loc main_arg5)) (tb t) (ti t r) p := by
  refine (kprod_at _ _ _ r n).trans (Finset.sum_congr rfl fun k _ => congrArg₂ (· * ·) (congrArg₂ (· * ·) ?_ (x4_at m c t k)) ?_)
  · exact congrArg (fun y => Norm.norm (Ideal.ofBits .f32 0x44000000#32) y k) (funext fun q => x1_at m c t r q)
  · refine (x6_at m c t k n).trans ((wkv_at _ k n).trans ?_)
    exact congrArg (fun q => m ((c : Thread nD τ).loc main_arg5) (ix2 k q : S512x2048.Idx)) (Fin.ext hp)

theorem pay5_at (x : FVec Ideal S256x128 .f32) (r : Fin 256) (l : Fin 128) : k0_pay5 (F := Ideal) x (ix2 r l) = x (ix2 r l) := by
  pointwise [k0_pay5]

theorem pay6_at (x : FVec Ideal S256x128 .f32) (r : Fin 256) (l : Fin 128) : k0_pay6 (F := Ideal) x (ix2 r l) = x (ix2 r l) := by
  pointwise [k0_pay6]

/-- The kernel's rotation on a row of the block. -/
theorem rope_row (c : Dev nD) (t : Fin cfg0.N) (x : FVec Ideal S256x128 .f32) (r : Fin 256) (l : Fin 128) :
    rope x (CS m c t) (SN m c t) (ix2 r l) = ropeAt (fun l => x (ix2 r l)) (fun l => cosOf tables (ix2 (ti t r) l)) (fun l => sinOf tables (ix2 (ti t r) l)) l := by
  refine (rope_at x _ _ r l).trans ?_
  have e1 : (fun l => CS m c t (ix2 r l)) = fun l => cosOf tables (ix2 (ti t r) l) := funext fun l => (pay5_at _ r l).trans (x7_at m c t r l)
  have e2 : (fun l => SN m c t (ix2 r l)) = fun l => sinOf tables (ix2 (ti t r) l) := funext fun l => (pay6_at _ r l).trans (x8_at m c t r l)
  rw [e1, e2]

theorem line_low (p : Fin 128 → EReal) (x : Fin 64 → EReal) (l : Fin 128) (hl : l.val < 256) : line p x ⟨l.val, hl⟩ = p l := dif_pos l.isLt

theorem line_mid (p : Fin 128 → EReal) (x : Fin 64 → EReal) (l : Fin 64) (hl : 128 + l.val < 256) : line p x ⟨128 + l.val, hl⟩ = x l := by
  unfold line
  rw [dif_neg (show ¬ 128 + l.val < 128 by omega), dif_pos (show 128 + l.val < 192 by omega)]
  exact congrArg x (Fin.ext (by show 128 + l.val - 128 = l.val; omega))

theorem line_high (p : Fin 128 → EReal) (x : Fin 64 → EReal) (l : Nat) (h : 64 ≤ l) (hl : 128 + l < 256) : line p x ⟨128 + l, hl⟩ = 0 := by
  unfold line
  rw [dif_neg (show ¬ 128 + l < 128 by omega), dif_neg (show ¬ 128 + l < 192 by omega)]

/-- The queries, keys and values of the arguments, at grid point `t`'s places. -/
def Qm (c : Dev nD) : Fin 8 → Fin 8 → Fin 4352 → Fin 256 → EReal := Qat tables (m ((c : Thread nD τ).loc main_arg0)) (m ((c : Thread nD τ).loc main_arg2)) (m ((c : Thread nD τ).loc main_arg3))
def Km (c : Dev nD) : Fin 8 → Fin 8 → Fin 4352 → Fin 256 → EReal :=
  Kat tables (m ((c : Thread nD τ).loc main_arg0)) (m ((c : Thread nD τ).loc main_arg1)) (m ((c : Thread nD τ).loc main_arg4)) (m ((c : Thread nD τ).loc main_arg5))
def Vm (c : Dev nD) : Fin 8 → Fin 8 → Fin 4352 → Fin 128 → EReal := Vat (m ((c : Thread nD τ).loc main_arg0)) (m ((c : Thread nD τ).loc main_arg4)) (m ((c : Thread nD τ).loc main_arg5))

/-- The pieces stored for head `d`: of the queries the plain part and the rotary part, -/
theorem qplain (c : Dev nD) (t : Fin cfg0.N) (d : Fin 8) (o : Nat) (ho : o = d.val * 256) (s : S256x2048.Slices ![0, o] S256x128) (r : Fin 256) (l : Fin 128) (hl : l.val < 256) :
    stored (mulf (extractStridedSlice S256x128 ![0, o] (QV m c t) s) (broadcast S256x128 (Scalar.ofBits .f32 0x3D93CD3A#32))) (ix4 0 0 r l)
      = Qm m c (tb t) d (ti t r) ⟨l.val, hl⟩ := by
  unfold Qm Qat
  refine (stored_at _ r l).trans (Eq.trans ?_ (line_low _ _ l _).symm)
  refine congrArg (· * sc) ?_
  exact (cut_at o _ s r l (by omega)).trans (QV_low m c t r d l.val (by omega) _ (by show o + l.val = _; omega))

theorem qrope (c : Dev nD) (t : Fin cfg0.N) (d : Fin 8) (o : Nat) (ho : o = d.val * 256 + 128) (s : S256x2048.Slices ![0, o] S256x128) (r : Fin 256) (l : Fin 128) (hl : 128 + l.val < 256) :
    stored (mulf (rope (extractStridedSlice S256x128 ![0, o] (QV m c t) s) (CS m c t) (SN m c t)) (broadcast S256x128 (Scalar.ofBits .f32 0x3D93CD3A#32))) (ix4 0 0 r l)
      = Qm m c (tb t) d (ti t r) ⟨128 + l.val, hl⟩ := by
  unfold Qm Qat
  refine (stored_at _ r l).trans ((congrArg (· * sc) (rope_row m c t _ r l)).trans ?_)
  by_cases e : l.val < 64
  · refine Eq.trans ?_ (line_mid _ _ ⟨l.val, e⟩ _).symm
    refine congrArg (· * sc) ((rope_turn tables _ (ti t r) ⟨l.val, e⟩).trans (congrArg (fun y => turn tables (ti t r) y ⟨l.val, e⟩) (funext fun a => ?_)))
    exact (cut_at o _ s r _ (by show o + a.val < 2048; omega)).trans (QV_low m c t r d (128 + a.val) (by omega) _ (by show o + a.val = _; omega))
  · refine Eq.trans ?_ (line_high _ _ l.val (by omega) _).symm
    refine (congrArg (· * sc) ((rope_plain tables _ (ti t r) l (by omega)).trans ?_)).trans (zero_mul _)
    exact (cut_at o _ s r l (by omega)).trans (QV_high m c t r _ (by show ¬ (o + l.val) % 256 < 192; omega))

/-- of the keys the plain part and the rotary part, -/
theorem kplain (c : Dev nD) (t : Fin cfg0.N) (d : Fin 8) (o : Nat) (ho : o = d.val * 128) (s : S256x2048.Slices ![0, o] S256x128) (r : Fin 256) (l : Fin 128) (hl : l.val < 256) :
    stored (extractStridedSlice S256x128 ![0, o] (KV m c t) s) (ix4 0 0 r l) = Km m c (tb t) d (ti t r) ⟨l.val, hl⟩ := by
  unfold Km Kat
  refine (stored_at _ r l).trans (Eq.trans ?_ (line_low _ _ l _).symm)
  exact (cut_at o _ s r l (by omega)).trans (KV_at m c t r _ _ (by
    show (o + l.val) % 1024 / 128 * 256 + ((o + l.val) / 1024 * 128 + (o + l.val) % 128) = d.val * 256 + l.val
    omega))

theorem krope (c : Dev nD) (t : Fin cfg0.N) (d : Fin 8) (r : Fin 256) (l : Fin 128) (hl : 128 + l.val < 256) :
    stored (rope (first (iblk m c 2 t)) (CS m c t) (SN m c t)) (ix4 0 0 r l) = Km m c (tb t) d (ti t r) ⟨128 + l.val, hl⟩ := by
  unfold Km Kat
  refine (stored_at _ r l).trans ((rope_row m c t _ r l).trans ?_)
  by_cases e : l.val < 64
  · refine Eq.trans ?_ (line_mid _ _ ⟨l.val, e⟩ _).symm
    refine (rope_turn tables _ (ti t r) ⟨l.val, e⟩).trans (congrArg (fun y => turn tables (ti t r) y ⟨l.val, e⟩) (funext fun a => ?_))
    exact (first_at _ r _).trans ((if_pos a.isLt).trans (x2_at m c t r _))
  · refine Eq.trans ?_ (line_high _ _ l.val (by omega) _).symm
    exact (rope_plain tables _ (ti t r) l (by omega)).trans ((first_at _ r l).trans (if_neg e))

/-- and of the values. -/
theorem vals (c : Dev nD) (t : Fin cfg0.N) (d : Fin 8) (o : Nat) (ho : o = d.val * 128 + 1024) (s : S256x2048.Slices ![0, o] S256x128) (r : Fin 256) (l : Fin 128) :
    stored (extractStridedSlice S256x128 ![0, o] (KV m c t) s) (ix4 0 0 r l) = Vm m c (tb t) d (ti t r) l := by
  unfold Vm Vat
  refine (stored_at _ r l).trans ?_
  exact (cut_at o _ s r l (by omega)).trans (KV_at m c t r _ _ (by
    show (o + l.val) % 1024 / 128 * 256 + ((o + l.val) / 1024 * 128 + (o + l.val) % 128) = d.val * 256 + (128 + l.val)
    omega))

set_option maxHeartbeats 2000000 in
/-- What grid point `t` leaves of the queries, at an entry of its block. -/
theorem point9 (c : Dev nD) (t : Fin cfg0.N) (d : Fin 8) (r : Fin 256) (l : Fin 256) :
    (show EReal from (outsAt0 m c t).1 (ix4 0 d r l : S1x8x256x256.Idx)) = Qm m c (tb t) d (ti t r) l := by
  unfold outsAt0
  frame_out
  canon_tiles x h
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 7 := Fin.ext h1
    obtain rfl : r = i := Fin.ext h2
    obtain rfl : l = ⟨128 + j.val, Nat.add_lt_add_left j.isLt 128⟩ := Fin.ext h3
    exact qrope m c t 7 1920 rfl slices_S256x2048_o0_1920_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 7 := Fin.ext h1
    obtain rfl : r = i := Fin.ext h2
    obtain rfl : l = ⟨j.val, Nat.lt_of_lt_of_le j.isLt (by decide)⟩ := Fin.ext h3
    exact qplain m c t 7 1792 rfl slices_S256x2048_o0_1792_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 6 := Fin.ext h1
    obtain rfl : r = i := Fin.ext h2
    obtain rfl : l = ⟨128 + j.val, Nat.add_lt_add_left j.isLt 128⟩ := Fin.ext h3
    exact qrope m c t 6 1664 rfl slices_S256x2048_o0_1664_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 6 := Fin.ext h1
    obtain rfl : r = i := Fin.ext h2
    obtain rfl : l = ⟨j.val, Nat.lt_of_lt_of_le j.isLt (by decide)⟩ := Fin.ext h3
    exact qplain m c t 6 1536 rfl slices_S256x2048_o0_1536_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 5 := Fin.ext h1
    obtain rfl : r = i := Fin.ext h2
    obtain rfl : l = ⟨128 + j.val, Nat.add_lt_add_left j.isLt 128⟩ := Fin.ext h3
    exact qrope m c t 5 1408 rfl slices_S256x2048_o0_1408_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 5 := Fin.ext h1
    obtain rfl : r = i := Fin.ext h2
    obtain rfl : l = ⟨j.val, Nat.lt_of_lt_of_le j.isLt (by decide)⟩ := Fin.ext h3
    exact qplain m c t 5 1280 rfl slices_S256x2048_o0_1280_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 4 := Fin.ext h1
    obtain rfl : r = i := Fin.ext h2
    obtain rfl : l = ⟨128 + j.val, Nat.add_lt_add_left j.isLt 128⟩ := Fin.ext h3
    exact qrope m c t 4 1152 rfl slices_S256x2048_o0_1152_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 4 := Fin.ext h1
    obtain rfl : r = i := Fin.ext h2
    obtain rfl : l = ⟨j.val, Nat.lt_of_lt_of_le j.isLt (by decide)⟩ := Fin.ext h3
    exact qplain m c t 4 1024 rfl slices_S256x2048_o0_1024_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 3 := Fin.ext h1
    obtain rfl : r = i := Fin.ext h2
    obtain rfl : l = ⟨128 + j.val, Nat.add_lt_add_left j.isLt 128⟩ := Fin.ext h3
    exact qrope m c t 3 896 rfl slices_S256x2048_o0_896_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 3 := Fin.ext h1
    obtain rfl : r = i := Fin.ext h2
    obtain rfl : l = ⟨j.val, Nat.lt_of_lt_of_le j.isLt (by decide)⟩ := Fin.ext h3
    exact qplain m c t 3 768 rfl slices_S256x2048_o0_768_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 2 := Fin.ext h1
    obtain rfl : r = i := Fin.ext h2
    obtain rfl : l = ⟨128 + j.val, Nat.add_lt_add_left j.isLt 128⟩ := Fin.ext h3
    exact qrope m c t 2 640 rfl slices_S256x2048_o0_640_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 2 := Fin.ext h1
    obtain rfl : r = i := Fin.ext h2
    obtain rfl : l = ⟨j.val, Nat.lt_of_lt_of_le j.isLt (by decide)⟩ := Fin.ext h3
    exact qplain m c t 2 512 rfl slices_S256x2048_o0_512_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 1 := Fin.ext h1
    obtain rfl : r = i := Fin.ext h2
    obtain rfl : l = ⟨128 + j.val, Nat.add_lt_add_left j.isLt 128⟩ := Fin.ext h3
    exact qrope m c t 1 384 rfl slices_S256x2048_o0_384_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 1 := Fin.ext h1
    obtain rfl : r = i := Fin.ext h2
    obtain rfl : l = ⟨j.val, Nat.lt_of_lt_of_le j.isLt (by decide)⟩ := Fin.ext h3
    exact qplain m c t 1 256 rfl slices_S256x2048_o0_256_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 0 := Fin.ext h1
    obtain rfl : r = i := Fin.ext h2
    obtain rfl : l = ⟨128 + j.val, Nat.add_lt_add_left j.isLt 128⟩ := Fin.ext h3
    exact qrope m c t 0 128 rfl slices_S256x2048_o0_128_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 0 := Fin.ext h1
    obtain rfl : r = i := Fin.ext h2
    obtain rfl : l = ⟨j.val, Nat.lt_of_lt_of_le j.isLt (by decide)⟩ := Fin.ext h3
    exact qplain m c t 0 0 rfl slices_S256x2048_o0_0_S256x128 r j _

set_option maxHeartbeats 2000000 in
/-- What grid point `t` leaves of the keys, at an entry of its block. -/
theorem point10 (c : Dev nD) (t : Fin cfg0.N) (d : Fin 8) (r : Fin 256) (l : Fin 256) :
    (show EReal from (outsAt0 m c t).2.1 (ix4 0 d r l : S1x8x256x256.Idx)) = Km m c (tb t) d (ti t r) l := by
  unfold outsAt0
  frame_out
  canon_tiles x h
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 7 := Fin.ext h1
    obtain rfl : r = i := Fin.ext h2
    obtain rfl : l = ⟨128 + j.val, Nat.add_lt_add_left j.isLt 128⟩ := Fin.ext h3
    exact krope m c t 7 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 7 := Fin.ext h1
    obtain rfl : r = i := Fin.ext h2
    obtain rfl : l = ⟨j.val, Nat.lt_of_lt_of_le j.isLt (by decide)⟩ := Fin.ext h3
    exact kplain m c t 7 896 rfl slices_S256x2048_o0_896_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 6 := Fin.ext h1
    obtain rfl : r = i := Fin.ext h2
    obtain rfl : l = ⟨128 + j.val, Nat.add_lt_add_left j.isLt 128⟩ := Fin.ext h3
    exact krope m c t 6 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 6 := Fin.ext h1
    obtain rfl : r = i := Fin.ext h2
    obtain rfl : l = ⟨j.val, Nat.lt_of_lt_of_le j.isLt (by decide)⟩ := Fin.ext h3
    exact kplain m c t 6 768 rfl slices_S256x2048_o0_768_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 5 := Fin.ext h1
    obtain rfl : r = i := Fin.ext h2
    obtain rfl : l = ⟨128 + j.val, Nat.add_lt_add_left j.isLt 128⟩ := Fin.ext h3
    exact krope m c t 5 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 5 := Fin.ext h1
    obtain rfl : r = i := Fin.ext h2
    obtain rfl : l = ⟨j.val, Nat.lt_of_lt_of_le j.isLt (by decide)⟩ := Fin.ext h3
    exact kplain m c t 5 640 rfl slices_S256x2048_o0_640_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 4 := Fin.ext h1
    obtain rfl : r = i := Fin.ext h2
    obtain rfl : l = ⟨128 + j.val, Nat.add_lt_add_left j.isLt 128⟩ := Fin.ext h3
    exact krope m c t 4 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 4 := Fin.ext h1
    obtain rfl : r = i := Fin.ext h2
    obtain rfl : l = ⟨j.val, Nat.lt_of_lt_of_le j.isLt (by decide)⟩ := Fin.ext h3
    exact kplain m c t 4 512 rfl slices_S256x2048_o0_512_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 3 := Fin.ext h1
    obtain rfl : r = i := Fin.ext h2
    obtain rfl : l = ⟨128 + j.val, Nat.add_lt_add_left j.isLt 128⟩ := Fin.ext h3
    exact krope m c t 3 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 3 := Fin.ext h1
    obtain rfl : r = i := Fin.ext h2
    obtain rfl : l = ⟨j.val, Nat.lt_of_lt_of_le j.isLt (by decide)⟩ := Fin.ext h3
    exact kplain m c t 3 384 rfl slices_S256x2048_o0_384_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 2 := Fin.ext h1
    obtain rfl : r = i := Fin.ext h2
    obtain rfl : l = ⟨128 + j.val, Nat.add_lt_add_left j.isLt 128⟩ := Fin.ext h3
    exact krope m c t 2 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 2 := Fin.ext h1
    obtain rfl : r = i := Fin.ext h2
    obtain rfl : l = ⟨j.val, Nat.lt_of_lt_of_le j.isLt (by decide)⟩ := Fin.ext h3
    exact kplain m c t 2 256 rfl slices_S256x2048_o0_256_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 1 := Fin.ext h1
    obtain rfl : r = i := Fin.ext h2
    obtain rfl : l = ⟨128 + j.val, Nat.add_lt_add_left j.isLt 128⟩ := Fin.ext h3
    exact krope m c t 1 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 1 := Fin.ext h1
    obtain rfl : r = i := Fin.ext h2
    obtain rfl : l = ⟨j.val, Nat.lt_of_lt_of_le j.isLt (by decide)⟩ := Fin.ext h3
    exact kplain m c t 1 128 rfl slices_S256x2048_o0_128_S256x128 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 0 := Fin.ext h1
    obtain rfl : r = i := Fin.ext h2
    obtain rfl : l = ⟨128 + j.val, Nat.add_lt_add_left j.isLt 128⟩ := Fin.ext h3
    exact krope m c t 0 r j _
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 0 := Fin.ext h1
    obtain rfl : r = i := Fin.ext h2
    obtain rfl : l = ⟨j.val, Nat.lt_of_lt_of_le j.isLt (by decide)⟩ := Fin.ext h3
    exact kplain m c t 0 0 rfl slices_S256x2048_o0_0_S256x128 r j _

set_option maxHeartbeats 2000000 in
/-- What grid point `t` leaves of the values, at an entry of its block. -/
theorem point11 (c : Dev nD) (t : Fin cfg0.N) (d : Fin 8) (r : Fin 256) (l : Fin 128) :
    (show EReal from (outsAt0 m c t).2.2 (ix4 0 d r l : S1x8x256x128.Idx)) = Vm m c (tb t) d (ti t r) l := by
  unfold outsAt0
  frame_out
  canon_tiles x h
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 7 := Fin.ext h1
    obtain rfl : r = i := Fin.ext h2
    obtain rfl : l = j := Fin.ext h3
    exact vals m c t 7 1920 rfl slices_S256x2048_o0_1920_S256x128 r l
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 6 := Fin.ext h1
    obtain rfl : r = i := Fin.ext h2
    obtain rfl : l = j := Fin.ext h3
    exact vals m c t 6 1792 rfl slices_S256x2048_o0_1792_S256x128 r l
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 5 := Fin.ext h1
    obtain rfl : r = i := Fin.ext h2
    obtain rfl : l = j := Fin.ext h3
    exact vals m c t 5 1664 rfl slices_S256x2048_o0_1664_S256x128 r l
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 4 := Fin.ext h1
    obtain rfl : r = i := Fin.ext h2
    obtain rfl : l = j := Fin.ext h3
    exact vals m c t 4 1536 rfl slices_S256x2048_o0_1536_S256x128 r l
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 3 := Fin.ext h1
    obtain rfl : r = i := Fin.ext h2
    obtain rfl : l = j := Fin.ext h3
    exact vals m c t 3 1408 rfl slices_S256x2048_o0_1408_S256x128 r l
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 2 := Fin.ext h1
    obtain rfl : r = i := Fin.ext h2
    obtain rfl : l = j := Fin.ext h3
    exact vals m c t 2 1280 rfl slices_S256x2048_o0_1280_S256x128 r l
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 1 := Fin.ext h1
    obtain rfl : r = i := Fin.ext h2
    obtain rfl : l = j := Fin.ext h3
    exact vals m c t 1 1152 rfl slices_S256x2048_o0_1152_S256x128 r l
  · obtain ⟨a, b, i, j, rfl⟩ : ∃ (a b : Fin 1) (i : Fin 256) (j : Fin 128), x = (ix4 a b i j : S1x1x256x128.Idx) :=
      ⟨x 0, x 1, x 2, x 3, eq_ix4 (n0 := 1) (n1 := 1) (n2 := 256) (n3 := 128) x⟩
    obtain rfl : a = 0 := Subsingleton.elim _ _
    obtain rfl : b = 0 := Subsingleton.elim _ _
    obtain rfl : d = 0 := Fin.ext h1
    obtain rfl : r = i := Fin.ext h2
    obtain rfl : l = j := Fin.ext h3
    exact vals m c t 0 1024 rfl slices_S256x2048_o0_1024_S256x128 r l

end Cert.Proof.Prep

end
-- ==== Proof.Prep.Final.lean ====
/- What the head preparation's three result arrays hold after the run. -/
module

public import proofs.«01_k».proof.Proof.Prep.Pieces

@[expose] public section

set_option maxRecDepth 16384

noncomputable section

namespace Cert.Proof.Prep

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- THE QUERIES after the run. -/
theorem final9 (c : Dev nD) : (dats m 0 c).arrAt 9 (cfgs 0).N = QS tables (m ((c : Thread nD τ).loc main_arg0)) (m ((c : Thread nD τ).loc main_arg2)) (m ((c : Thread nD τ).loc main_arg3)) := by
  refine (dats m 0 c).arrAt_eq_of_covers 9 _ covers9 fun t _ y => ?_
  blk_simp
  rw [after0_9]
  obtain ⟨a, d, r, l, rfl⟩ : ∃ (a : Fin 1) (d : Fin 8) (r : Fin 256) (l : Fin 256), y = (ix4 a d r l : S1x8x256x256.Idx) :=
    ⟨y 0, y 1, y 2, y 3, eq_ix4 (n0 := 1) (n1 := 8) (n2 := 256) (n3 := 256) y⟩
  obtain rfl : a = 0 := Subsingleton.elim _ _
  refine (point9 m c t d r l).trans ?_
  refine Eq.trans (b := QS tables (m ((c : Thread nD τ).loc main_arg0)) (m ((c : Thread nD τ).loc main_arg2)) (m ((c : Thread nD τ).loc main_arg3)) (ix4 (tb t) d (ti t r) l : S8x8x4352x256.Idx)) rfl ?_
  exact congrArg (QS tables (m ((c : Thread nD τ).loc main_arg0)) (m ((c : Thread nD τ).loc main_arg2)) (m ((c : Thread nD τ).loc main_arg3))) (q_emb t d r l).symm

/-- THE KEYS after the run. -/
theorem final10 (c : Dev nD) : (dats m 0 c).arrAt 10 (cfgs 0).N = KS tables (m ((c : Thread nD τ).loc main_arg0)) (m ((c : Thread nD τ).loc main_arg1)) (m ((c : Thread nD τ).loc main_arg4)) (m ((c : Thread nD τ).loc main_arg5)) := by
  refine (dats m 0 c).arrAt_eq_of_covers 10 _ covers10 fun t _ y => ?_
  blk_simp
  rw [after0_10]
  obtain ⟨a, d, r, l, rfl⟩ : ∃ (a : Fin 1) (d : Fin 8) (r : Fin 256) (l : Fin 256), y = (ix4 a d r l : S1x8x256x256.Idx) :=
    ⟨y 0, y 1, y 2, y 3, eq_ix4 (n0 := 1) (n1 := 8) (n2 := 256) (n3 := 256) y⟩
  obtain rfl : a = 0 := Subsingleton.elim _ _
  refine (point10 m c t d r l).trans ?_
  refine Eq.trans (b := KS tables (m ((c : Thread nD τ).loc main_arg0)) (m ((c : Thread nD τ).loc main_arg1)) (m ((c : Thread nD τ).loc main_arg4)) (m ((c : Thread nD τ).loc main_arg5)) (ix4 (tb t) d (ti t r) l : S8x8x4352x256.Idx)) rfl ?_
  exact congrArg (KS tables (m ((c : Thread nD τ).loc main_arg0)) (m ((c : Thread nD τ).loc main_arg1)) (m ((c : Thread nD τ).loc main_arg4)) (m ((c : Thread nD τ).loc main_arg5))) (k_emb t d r l).symm

/-- THE VALUES after the run. -/
theorem final11 (c : Dev nD) : (dats m 0 c).arrAt 11 (cfgs 0).N = VS (m ((c : Thread nD τ).loc main_arg0)) (m ((c : Thread nD τ).loc main_arg4)) (m ((c : Thread nD τ).loc main_arg5)) := by
  refine (dats m 0 c).arrAt_eq_of_covers 11 _ covers11 fun t _ y => ?_
  blk_simp
  rw [after0_11]
  obtain ⟨a, d, r, l, rfl⟩ : ∃ (a : Fin 1) (d : Fin 8) (r : Fin 256) (l : Fin 128), y = (ix4 a d r l : S1x8x256x128.Idx) :=
    ⟨y 0, y 1, y 2, y 3, eq_ix4 (n0 := 1) (n1 := 8) (n2 := 256) (n3 := 128) y⟩
  obtain rfl : a = 0 := Subsingleton.elim _ _
  refine (point11 m c t d r l).trans ?_
  refine Eq.trans (b := VS (m ((c : Thread nD τ).loc main_arg0)) (m ((c : Thread nD τ).loc main_arg4)) (m ((c : Thread nD τ).loc main_arg5)) (ix4 (tb t) d (ti t r) l : S8x8x4352x128.Idx)) rfl ?_
  exact congrArg (VS (m ((c : Thread nD τ).loc main_arg0)) (m ((c : Thread nD τ).loc main_arg4)) (m ((c : Thread nD τ).loc main_arg5))) (v_emb t d r l).symm

end Cert.Proof.Prep

end
-- ==== Proof.Prep.Ref.lean ====
/- What the head preparation's reference computes, entry by entry: the rows of the context and the rows of the latents apart. -/
module

public import proofs.«01_k».proof.Proof.Gen.Reference5Ideal.Run
public import Idealize.ShloMosaic.Lib.Pointwise
public import Idealize.ShloMosaic.Lib.Pipeline.ValueKit
public import proofs.«01_k».proof.Proof.Prep.Spec

@[expose] public section

set_option maxRecDepth 16384

noncomputable section

namespace Cert.Proof.Prep.Ref

open Idealize.ShloMosaic Idealize.ShloMosaic.TcCoe Idealize.SL.Sem
open Cert.Reference5Ideal Cert.Reference5Ideal.Gen

/-- The two inputs by batch row and token. -/
def zz (Z : FVec Ideal S34816x6400 .bf16) : FVec Ideal S8x4352x6400 .f32 :=
  extf .f32 (shapeCast S8x4352x6400 Z shapeCasts_S34816x6400_S8x4352x6400) bitsLt_bf16_f32
def krs (Zs : FVec Ideal S34816x128 .f32) : FVec Ideal S8x4352x64 .f32 :=
  extractStridedSlice S8x4352x64 ![0, 0, 0] (shapeCast S8x4352x128 Zs shapeCasts_S34816x128_S8x4352x128) slices_S8x4352x128_S8x4352x64_0_0_0

/-- The latent `cq` of these rows, its sums of squares, its norm, and the heads of its product with the weights. -/
def inQC (Z : FVec Ideal S34816x6400 .bf16) : FVec Ideal S8x256x768 .f32 :=
  extractStridedSlice S8x256x768 ![0, 0, 0] (extractStridedSlice S8x4352x768 ![0, 0, 4608] (zz Z) slices_S8x4352x6400_S8x4352x768_0_0_4608) slices_S8x4352x768_S8x256x768_0_0_0
def sqQC (Y : FVec Ideal S8x256x768 .f32) : FVec Ideal S8x256 .f32 :=
  Host.reduceAdd (mulf Y Y) (constant S_ .f32 0x00000000#32) reducesTo_S8x256x768_S8x256_d2 h_S_
def nmQC (Y : FVec Ideal S8x256x768 .f32) (s : FVec Ideal S8x256 .f32) (nw : FVec Ideal S768 .f32) : FVec Ideal S8x256x768 .f32 :=
  mulf (mulf Y (broadcastInDim S8x256x768 ![0, 1, 2] bcast_S8x256x1_S8x256x768_0_1_2 (Host.rsqrt (addf (Host.divf
    (broadcastInDim S8x256x1 ![0, 1] bcast_S8x256_S8x256x1_0_1 s) (broadcastInDim S8x256x1 ![] bcast_S_S8x256x1 (constant S_ .f32 0x44400000#32)))
    (broadcastInDim S8x256x1 ![] bcast_S_S8x256x1 (constant S_ .f32 0x358637BD#32))))))
    (broadcastInDim S8x256x768 ![0, 1, 2] bcast_S1x1x768_S8x256x768_0_1_2 (broadcastInDim S1x1x768 ![2] bcast_S768_S1x1x768_2 nw))
def hdQC (Z : FVec Ideal S34816x6400 .bf16) (nw : FVec Ideal S768 .f32) (W : FVec Ideal S768x1536 .f32) : FVec Ideal S8x256x8x192 .f32 :=
  shapeCast S8x256x8x192 (Host.dotGeneral dot_S8x256x768_S768x1536_S8x256x1536_2_0_01_1_n_n none (nmQC (inQC Z) (sqQC (inQC Z)) nw) W)
    shapeCasts_S8x256x1536_S8x256x8x192

theorem inQC_at (Z : FVec Ideal S34816x6400 .bf16) (b : Fin 8) (i : Fin 256) (k : Fin 768) :
    inQC Z (ix3 b i k) = cq Z b ⟨i.val, by omega⟩ k := by
  pointwise [inQC, zz, cq]

theorem sqQC_at (Y : FVec Ideal S8x256x768 .f32) (b : Fin 8) (i : Fin 256) :
    sqQC Y (ix2 b i) = ∑ k : Fin 768, Y (ix3 b i k) * Y (ix3 b i k) := by
  pointwise [sqQC]

theorem nmQC_at (Y : FVec Ideal S8x256x768 .f32) (s : FVec Ideal S8x256 .f32) (nw : FVec Ideal S768 .f32) (b : Fin 8) (i : Fin 256) (k : Fin 768) :
    nmQC Y s nw (ix3 b i k)
      = Y (ix3 b i k) * Ideal.rsqrt (Ideal.div (s (ix2 b i)) (Ideal.ofBits .f32 0x44400000#32) + Ideal.ofBits .f32 0x358637BD#32) * nw (ix1 k) := by
  pointwise [nmQC]

theorem dotQC_at (H : FVec Ideal S8x256x768 .f32) (W : FVec Ideal S768x1536 .f32) (b : Fin 8) (i : Fin 256) (l : Fin 1536) :
    Host.dotGeneral dot_S8x256x768_S768x1536_S8x256x1536_2_0_01_1_n_n none H W (ix3 b i l) = ∑ k : Fin 768, H (ix3 b i k) * W (ix2 k l) := by
  pointwise []

theorem cutQC_at (H : FVec Ideal S8x256x1536 .f32) (b : Fin 8) (i : Fin 256) (h : Fin 8) (l : Fin 192) :
    shapeCast S8x256x8x192 H shapeCasts_S8x256x1536_S8x256x8x192 (ix4 b i h l) = H (ix3 b i ⟨h.val * 192 + l.val, by omega⟩) := by
  pointwise []

theorem hdQC_at (Z : FVec Ideal S34816x6400 .bf16) (nw : FVec Ideal S768 .f32) (W : FVec Ideal S768x1536 .f32) (b : Fin 8) (i : Fin 256) (h : Fin 8) (l : Fin 192) :
    hdQC Z nw W (ix4 b i h l) = qv Z nw W b ⟨i.val, by omega⟩ ⟨h.val * 192 + l.val, by omega⟩ := by
  refine (cutQC_at _ b i h l).trans ((dotQC_at _ W b i _).trans ?_)
  simp only [nmQC_at, sqQC_at, inQC_at]
  rfl

/-- The latent `ckv` of these rows, its sums of squares, its norm, and the heads of its product with the weights. -/
def inKC (Z : FVec Ideal S34816x6400 .bf16) : FVec Ideal S8x256x512 .f32 :=
  extractStridedSlice S8x256x512 ![0, 0, 0] (extractStridedSlice S8x4352x512 ![0, 0, 4096] (zz Z) slices_S8x4352x6400_S8x4352x512_0_0_4096) slices_S8x4352x512_S8x256x512_0_0_0
def sqKC (Y : FVec Ideal S8x256x512 .f32) : FVec Ideal S8x256 .f32 :=
  Host.reduceAdd (mulf Y Y) (constant S_ .f32 0x00000000#32) reducesTo_S8x256x512_S8x256_d2 h_S_
def nmKC (Y : FVec Ideal S8x256x512 .f32) (s : FVec Ideal S8x256 .f32) (nw : FVec Ideal S512 .f32) : FVec Ideal S8x256x512 .f32 :=
  mulf (mulf Y (broadcastInDim S8x256x512 ![0, 1, 2] bcast_S8x256x1_S8x256x512_0_1_2 (Host.rsqrt (addf (Host.divf
    (broadcastInDim S8x256x1 ![0, 1] bcast_S8x256_S8x256x1_0_1 s) (broadcastInDim S8x256x1 ![] bcast_S_S8x256x1 (constant S_ .f32 0x44000000#32)))
    (broadcastInDim S8x256x1 ![] bcast_S_S8x256x1 (constant S_ .f32 0x358637BD#32))))))
    (broadcastInDim S8x256x512 ![0, 1, 2] bcast_S1x1x512_S8x256x512_0_1_2 (broadcastInDim S1x1x512 ![2] bcast_S512_S1x1x512_2 nw))
def hdKC (Z : FVec Ideal S34816x6400 .bf16) (nw : FVec Ideal S512 .f32) (W : FVec Ideal S512x2048 .f32) : FVec Ideal S8x256x8x256 .f32 :=
  shapeCast S8x256x8x256 (Host.dotGeneral dot_S8x256x512_S512x2048_S8x256x2048_2_0_01_1_n_n none (nmKC (inKC Z) (sqKC (inKC Z)) nw) W)
    shapeCasts_S8x256x2048_S8x256x8x256

theorem inKC_at (Z : FVec Ideal S34816x6400 .bf16) (b : Fin 8) (i : Fin 256) (k : Fin 512) :
    inKC Z (ix3 b i k) = ckv Z b ⟨i.val, by omega⟩ k := by
  pointwise [inKC, zz, ckv]

theorem sqKC_at (Y : FVec Ideal S8x256x512 .f32) (b : Fin 8) (i : Fin 256) :
    sqKC Y (ix2 b i) = ∑ k : Fin 512, Y (ix3 b i k) * Y (ix3 b i k) := by
  pointwise [sqKC]

theorem nmKC_at (Y : FVec Ideal S8x256x512 .f32) (s : FVec Ideal S8x256 .f32) (nw : FVec Ideal S512 .f32) (b : Fin 8) (i : Fin 256) (k : Fin 512) :
    nmKC Y s nw (ix3 b i k)
      = Y (ix3 b i k) * Ideal.rsqrt (Ideal.div (s (ix2 b i)) (Ideal.ofBits .f32 0x44000000#32) + Ideal.ofBits .f32 0x358637BD#32) * nw (ix1 k) := by
  pointwise [nmKC]

theorem dotKC_at (H : FVec Ideal S8x256x512 .f32) (W : FVec Ideal S512x2048 .f32) (b : Fin 8) (i : Fin 256) (l : Fin 2048) :
    Host.dotGeneral dot_S8x256x512_S512x2048_S8x256x2048_2_0_01_1_n_n none H W (ix3 b i l) = ∑ k : Fin 512, H (ix3 b i k) * W (ix2 k l) := by
  pointwise []

theorem cutKC_at (H : FVec Ideal S8x256x2048 .f32) (b : Fin 8) (i : Fin 256) (h : Fin 8) (l : Fin 256) :
    shapeCast S8x256x8x256 H shapeCasts_S8x256x2048_S8x256x8x256 (ix4 b i h l) = H (ix3 b i ⟨h.val * 256 + l.val, by omega⟩) := by
  pointwise []

theorem hdKC_at (Z : FVec Ideal S34816x6400 .bf16) (nw : FVec Ideal S512 .f32) (W : FVec Ideal S512x2048 .f32) (b : Fin 8) (i : Fin 256) (h : Fin 8) (l : Fin 256) :
    hdKC Z nw W (ix4 b i h l) = kv Z nw W b ⟨i.val, by omega⟩ ⟨h.val * 256 + l.val, by omega⟩ := by
  refine (cutKC_at _ b i h l).trans ((dotKC_at _ W b i _).trans ?_)
  simp only [nmKC_at, sqKC_at, inKC_at]
  rfl

/-- The plain and the rotary entries of the heads, side by side, head by head. -/
def headsC (A : FVec Ideal S8x256x8x128 .f32) (B : FVec Ideal S8x256x8x64 .f32) : FVec Ideal S8x8x256x192 .f32 :=
  transpose S8x8x256x192 [0, 2, 1, 3] (concatenate S8x256x8x192 3 [⟨S8x256x8x128, A⟩, ⟨S8x256x8x64, B⟩] concatenates_S8x256x8x128_S8x256x8x64_S8x256x8x192_d3)
    transposes_S8x256x8x192_S8x8x256x192_0_2_1_3
def scaledC (A : FVec Ideal S8x8x256x192 .f32) : FVec Ideal S8x8x256x192 .f32 :=
  mulf A (broadcastInDim S8x8x256x192 ![] bcast_S_S8x8x256x192 (constant S_ .f32 0x3D93CD3A#32))
def plainQC (q : FVec Ideal S8x256x8x192 .f32) : FVec Ideal S8x256x8x128 .f32 := extractStridedSlice S8x256x8x128 ![0, 0, 0, 0] q slices_S8x256x8x192_S8x256x8x128_0_0_0_0
def tailQC (q : FVec Ideal S8x256x8x192 .f32) : FVec Ideal S8x256x8x64 .f32 := extractStridedSlice S8x256x8x64 ![0, 0, 0, 128] q slices_S8x256x8x192_S8x256x8x64_0_0_0_128
def plainKC (q : FVec Ideal S8x256x8x256 .f32) : FVec Ideal S8x256x8x128 .f32 := extractStridedSlice S8x256x8x128 ![0, 0, 0, 0] q slices_S8x256x8x256_S8x256x8x128_0_0_0_0
def valsC (q : FVec Ideal S8x256x8x256 .f32) : FVec Ideal S8x8x256x128 .f32 :=
  transpose S8x8x256x128 [0, 2, 1, 3] (extractStridedSlice S8x256x8x128 ![0, 0, 0, 128] q slices_S8x256x8x256_S8x256x8x128_0_0_0_128) transposes_S8x256x8x128_S8x8x256x128_0_2_1_3
def oneC (Zs : FVec Ideal S34816x128 .f32) : FVec Ideal S8x256x1x64 .f32 :=
  broadcastInDim S8x256x1x64 ![0, 1, 3] bcast_S8x256x64_S8x256x1x64_0_1_3 (extractStridedSlice S8x256x64 ![0, 0, 0] (krs Zs) slices_S8x4352x64_S8x256x64_0_0_0)
def allC (x : FVec Ideal S8x256x1x64 .f32) : FVec Ideal S8x256x8x64 .f32 := broadcastInDim S8x256x8x64 ![0, 1, 2, 3] bcast_S8x256x1x64_S8x256x8x64_0_1_2_3 x

theorem headsC_at (A : FVec Ideal S8x256x8x128 .f32) (B : FVec Ideal S8x256x8x64 .f32) (b h : Fin 8) (i : Fin 256) (l : Fin 192) :
    headsC A B (ix4 b h i l) = if hl : l.val < 128 then A (ix4 b i h ⟨l.val, hl⟩) else B (ix4 b i h ⟨l.val - 128, by omega⟩) := by
  pointwise [headsC]

theorem scaledC_at (A : FVec Ideal S8x8x256x192 .f32) (b h : Fin 8) (i : Fin 256) (l : Fin 192) : scaledC A (ix4 b h i l) = A (ix4 b h i l) * sc := by
  pointwise [scaledC, sc]

theorem plainQC_at (q : FVec Ideal S8x256x8x192 .f32) (b : Fin 8) (i : Fin 256) (h : Fin 8) (l : Fin 128) : plainQC q (ix4 b i h l) = q (ix4 b i h ⟨l.val, by omega⟩) := by
  pointwise [plainQC]

theorem tailQC_at (q : FVec Ideal S8x256x8x192 .f32) (b : Fin 8) (i : Fin 256) (h : Fin 8) (l : Fin 64) : tailQC q (ix4 b i h l) = q (ix4 b i h ⟨128 + l.val, by omega⟩) := by
  pointwise [tailQC]

theorem plainKC_at (q : FVec Ideal S8x256x8x256 .f32) (b : Fin 8) (i : Fin 256) (h : Fin 8) (l : Fin 128) : plainKC q (ix4 b i h l) = q (ix4 b i h ⟨l.val, by omega⟩) := by
  pointwise [plainKC]

theorem valsC_at (q : FVec Ideal S8x256x8x256 .f32) (b h : Fin 8) (i : Fin 256) (l : Fin 128) : valsC q (ix4 b h i l) = q (ix4 b i h ⟨128 + l.val, by omega⟩) := by
  pointwise [valsC]

theorem oneC_at (Zs : FVec Ideal S34816x128 .f32) (b : Fin 8) (i : Fin 256) (j : Fin 64) :
    oneC Zs (ix4 b i 0 j) = kr Zs b ⟨i.val, by omega⟩ j := by
  pointwise [oneC, krs, kr]

theorem allC_at (x : FVec Ideal S8x256x1x64 .f32) (b : Fin 8) (i : Fin 256) (h : Fin 8) (j : Fin 64) : allC x (ix4 b i h j) = x (ix4 b i 0 j) := by
  pointwise [allC]

/-- The latent `cq` of these rows, its sums of squares, its norm, and the heads of its product with the weights. -/
def inQL (Z : FVec Ideal S34816x6400 .bf16) : FVec Ideal S8x4096x768 .f32 :=
  extractStridedSlice S8x4096x768 ![0, 256, 0] (extractStridedSlice S8x4352x768 ![0, 0, 4608] (zz Z) slices_S8x4352x6400_S8x4352x768_0_0_4608) slices_S8x4352x768_S8x4096x768_0_256_0
def sqQL (Y : FVec Ideal S8x4096x768 .f32) : FVec Ideal S8x4096 .f32 :=
  Host.reduceAdd (mulf Y Y) (constant S_ .f32 0x00000000#32) reducesTo_S8x4096x768_S8x4096_d2 h_S_
def nmQL (Y : FVec Ideal S8x4096x768 .f32) (s : FVec Ideal S8x4096 .f32) (nw : FVec Ideal S768 .f32) : FVec Ideal S8x4096x768 .f32 :=
  mulf (mulf Y (broadcastInDim S8x4096x768 ![0, 1, 2] bcast_S8x4096x1_S8x4096x768_0_1_2 (Host.rsqrt (addf (Host.divf
    (broadcastInDim S8x4096x1 ![0, 1] bcast_S8x4096_S8x4096x1_0_1 s) (broadcastInDim S8x4096x1 ![] bcast_S_S8x4096x1 (constant S_ .f32 0x44400000#32)))
    (broadcastInDim S8x4096x1 ![] bcast_S_S8x4096x1 (constant S_ .f32 0x358637BD#32))))))
    (broadcastInDim S8x4096x768 ![0, 1, 2] bcast_S1x1x768_S8x4096x768_0_1_2 (broadcastInDim S1x1x768 ![2] bcast_S768_S1x1x768_2 nw))
def hdQL (Z : FVec Ideal S34816x6400 .bf16) (nw : FVec Ideal S768 .f32) (W : FVec Ideal S768x1536 .f32) : FVec Ideal S8x4096x8x192 .f32 :=
  shapeCast S8x4096x8x192 (Host.dotGeneral dot_S8x4096x768_S768x1536_S8x4096x1536_2_0_01_1_n_n none (nmQL (inQL Z) (sqQL (inQL Z)) nw) W)
    shapeCasts_S8x4096x1536_S8x4096x8x192

theorem inQL_at (Z : FVec Ideal S34816x6400 .bf16) (b : Fin 8) (i : Fin 4096) (k : Fin 768) :
    inQL Z (ix3 b i k) = cq Z b ⟨256 + i.val, by omega⟩ k := by
  pointwise [inQL, zz, cq]

theorem sqQL_at (Y : FVec Ideal S8x4096x768 .f32) (b : Fin 8) (i : Fin 4096) :
    sqQL Y (ix2 b i) = ∑ k : Fin 768, Y (ix3 b i k) * Y (ix3 b i k) := by
  pointwise [sqQL]

theorem nmQL_at (Y : FVec Ideal S8x4096x768 .f32) (s : FVec Ideal S8x4096 .f32) (nw : FVec Ideal S768 .f32) (b : Fin 8) (i : Fin 4096) (k : Fin 768) :
    nmQL Y s nw (ix3 b i k)
      = Y (ix3 b i k) * Ideal.rsqrt (Ideal.div (s (ix2 b i)) (Ideal.ofBits .f32 0x44400000#32) + Ideal.ofBits .f32 0x358637BD#32) * nw (ix1 k) := by
  pointwise [nmQL]

theorem dotQL_at (H : FVec Ideal S8x4096x768 .f32) (W : FVec Ideal S768x1536 .f32) (b : Fin 8) (i : Fin 4096) (l : Fin 1536) :
    Host.dotGeneral dot_S8x4096x768_S768x1536_S8x4096x1536_2_0_01_1_n_n none H W (ix3 b i l) = ∑ k : Fin 768, H (ix3 b i k) * W (ix2 k l) := by
  pointwise []

theorem cutQL_at (H : FVec Ideal S8x4096x1536 .f32) (b : Fin 8) (i : Fin 4096) (h : Fin 8) (l : Fin 192) :
    shapeCast S8x4096x8x192 H shapeCasts_S8x4096x1536_S8x4096x8x192 (ix4 b i h l) = H (ix3 b i ⟨h.val * 192 + l.val, by omega⟩) := by
  pointwise []

theorem hdQL_at (Z : FVec Ideal S34816x6400 .bf16) (nw : FVec Ideal S768 .f32) (W : FVec Ideal S768x1536 .f32) (b : Fin 8) (i : Fin 4096) (h : Fin 8) (l : Fin 192) :
    hdQL Z nw W (ix4 b i h l) = qv Z nw W b ⟨256 + i.val, by omega⟩ ⟨h.val * 192 + l.val, by omega⟩ := by
  refine (cutQL_at _ b i h l).trans ((dotQL_at _ W b i _).trans ?_)
  simp only [nmQL_at, sqQL_at, inQL_at]
  rfl

/-- The latent `ckv` of these rows, its sums of squares, its norm, and the heads of its product with the weights. -/
def inKL (Z : FVec Ideal S34816x6400 .bf16) : FVec Ideal S8x4096x512 .f32 :=
  extractStridedSlice S8x4096x512 ![0, 256, 0] (extractStridedSlice S8x4352x512 ![0, 0, 4096] (zz Z) slices_S8x4352x6400_S8x4352x512_0_0_4096) slices_S8x4352x512_S8x4096x512_0_256_0
def sqKL (Y : FVec Ideal S8x4096x512 .f32) : FVec Ideal S8x4096 .f32 :=
  Host.reduceAdd (mulf Y Y) (constant S_ .f32 0x00000000#32) reducesTo_S8x4096x512_S8x4096_d2 h_S_
def nmKL (Y : FVec Ideal S8x4096x512 .f32) (s : FVec Ideal S8x4096 .f32) (nw : FVec Ideal S512 .f32) : FVec Ideal S8x4096x512 .f32 :=
  mulf (mulf Y (broadcastInDim S8x4096x512 ![0, 1, 2] bcast_S8x4096x1_S8x4096x512_0_1_2 (Host.rsqrt (addf (Host.divf
    (broadcastInDim S8x4096x1 ![0, 1] bcast_S8x4096_S8x4096x1_0_1 s) (broadcastInDim S8x4096x1 ![] bcast_S_S8x4096x1 (constant S_ .f32 0x44000000#32)))
    (broadcastInDim S8x4096x1 ![] bcast_S_S8x4096x1 (constant S_ .f32 0x358637BD#32))))))
    (broadcastInDim S8x4096x512 ![0, 1, 2] bcast_S1x1x512_S8x4096x512_0_1_2 (broadcastInDim S1x1x512 ![2] bcast_S512_S1x1x512_2 nw))
def hdKL (Z : FVec Ideal S34816x6400 .bf16) (nw : FVec Ideal S512 .f32) (W : FVec Ideal S512x2048 .f32) : FVec Ideal S8x4096x8x256 .f32 :=
  shapeCast S8x4096x8x256 (Host.dotGeneral dot_S8x4096x512_S512x2048_S8x4096x2048_2_0_01_1_n_n none (nmKL (inKL Z) (sqKL (inKL Z)) nw) W)
    shapeCasts_S8x4096x2048_S8x4096x8x256

theorem inKL_at (Z : FVec Ideal S34816x6400 .bf16) (b : Fin 8) (i : Fin 4096) (k : Fin 512) :
    inKL Z (ix3 b i k) = ckv Z b ⟨256 + i.val, by omega⟩ k := by
  pointwise [inKL, zz, ckv]

theorem sqKL_at (Y : FVec Ideal S8x4096x512 .f32) (b : Fin 8) (i : Fin 4096) :
    sqKL Y (ix2 b i) = ∑ k : Fin 512, Y (ix3 b i k) * Y (ix3 b i k) := by
  pointwise [sqKL]

theorem nmKL_at (Y : FVec Ideal S8x4096x512 .f32) (s : FVec Ideal S8x4096 .f32) (nw : FVec Ideal S512 .f32) (b : Fin 8) (i : Fin 4096) (k : Fin 512) :
    nmKL Y s nw (ix3 b i k)
      = Y (ix3 b i k) * Ideal.rsqrt (Ideal.div (s (ix2 b i)) (Ideal.ofBits .f32 0x44000000#32) + Ideal.ofBits .f32 0x358637BD#32) * nw (ix1 k) := by
  pointwise [nmKL]

theorem dotKL_at (H : FVec Ideal S8x4096x512 .f32) (W : FVec Ideal S512x2048 .f32) (b : Fin 8) (i : Fin 4096) (l : Fin 2048) :
    Host.dotGeneral dot_S8x4096x512_S512x2048_S8x4096x2048_2_0_01_1_n_n none H W (ix3 b i l) = ∑ k : Fin 512, H (ix3 b i k) * W (ix2 k l) := by
  pointwise []

theorem cutKL_at (H : FVec Ideal S8x4096x2048 .f32) (b : Fin 8) (i : Fin 4096) (h : Fin 8) (l : Fin 256) :
    shapeCast S8x4096x8x256 H shapeCasts_S8x4096x2048_S8x4096x8x256 (ix4 b i h l) = H (ix3 b i ⟨h.val * 256 + l.val, by omega⟩) := by
  pointwise []

theorem hdKL_at (Z : FVec Ideal S34816x6400 .bf16) (nw : FVec Ideal S512 .f32) (W : FVec Ideal S512x2048 .f32) (b : Fin 8) (i : Fin 4096) (h : Fin 8) (l : Fin 256) :
    hdKL Z nw W (ix4 b i h l) = kv Z nw W b ⟨256 + i.val, by omega⟩ ⟨h.val * 256 + l.val, by omega⟩ := by
  refine (cutKL_at _ b i h l).trans ((dotKL_at _ W b i _).trans ?_)
  simp only [nmKL_at, sqKL_at, inKL_at]
  rfl

/-- The plain and the rotary entries of the heads, side by side, head by head. -/
def headsL (A : FVec Ideal S8x4096x8x128 .f32) (B : FVec Ideal S8x4096x8x64 .f32) : FVec Ideal S8x8x4096x192 .f32 :=
  transpose S8x8x4096x192 [0, 2, 1, 3] (concatenate S8x4096x8x192 3 [⟨S8x4096x8x128, A⟩, ⟨S8x4096x8x64, B⟩] concatenates_S8x4096x8x128_S8x4096x8x64_S8x4096x8x192_d3)
    transposes_S8x4096x8x192_S8x8x4096x192_0_2_1_3
def scaledL (A : FVec Ideal S8x8x4096x192 .f32) : FVec Ideal S8x8x4096x192 .f32 :=
  mulf A (broadcastInDim S8x8x4096x192 ![] bcast_S_S8x8x4096x192 (constant S_ .f32 0x3D93CD3A#32))
def plainQL (q : FVec Ideal S8x4096x8x192 .f32) : FVec Ideal S8x4096x8x128 .f32 := extractStridedSlice S8x4096x8x128 ![0, 0, 0, 0] q slices_S8x4096x8x192_S8x4096x8x128_0_0_0_0
def tailQL (q : FVec Ideal S8x4096x8x192 .f32) : FVec Ideal S8x4096x8x64 .f32 := extractStridedSlice S8x4096x8x64 ![0, 0, 0, 128] q slices_S8x4096x8x192_S8x4096x8x64_0_0_0_128
def plainKL (q : FVec Ideal S8x4096x8x256 .f32) : FVec Ideal S8x4096x8x128 .f32 := extractStridedSlice S8x4096x8x128 ![0, 0, 0, 0] q slices_S8x4096x8x256_S8x4096x8x128_0_0_0_0
def valsL (q : FVec Ideal S8x4096x8x256 .f32) : FVec Ideal S8x8x4096x128 .f32 :=
  transpose S8x8x4096x128 [0, 2, 1, 3] (extractStridedSlice S8x4096x8x128 ![0, 0, 0, 128] q slices_S8x4096x8x256_S8x4096x8x128_0_0_0_128) transposes_S8x4096x8x128_S8x8x4096x128_0_2_1_3
def oneL (Zs : FVec Ideal S34816x128 .f32) : FVec Ideal S8x4096x1x64 .f32 :=
  broadcastInDim S8x4096x1x64 ![0, 1, 3] bcast_S8x4096x64_S8x4096x1x64_0_1_3 (extractStridedSlice S8x4096x64 ![0, 256, 0] (krs Zs) slices_S8x4352x64_S8x4096x64_0_256_0)
def allL (x : FVec Ideal S8x4096x1x64 .f32) : FVec Ideal S8x4096x8x64 .f32 := broadcastInDim S8x4096x8x64 ![0, 1, 2, 3] bcast_S8x4096x1x64_S8x4096x8x64_0_1_2_3 x

theorem headsL_at (A : FVec Ideal S8x4096x8x128 .f32) (B : FVec Ideal S8x4096x8x64 .f32) (b h : Fin 8) (i : Fin 4096) (l : Fin 192) :
    headsL A B (ix4 b h i l) = if hl : l.val < 128 then A (ix4 b i h ⟨l.val, hl⟩) else B (ix4 b i h ⟨l.val - 128, by omega⟩) := by
  pointwise [headsL]

theorem scaledL_at (A : FVec Ideal S8x8x4096x192 .f32) (b h : Fin 8) (i : Fin 4096) (l : Fin 192) : scaledL A (ix4 b h i l) = A (ix4 b h i l) * sc := by
  pointwise [scaledL, sc]

theorem plainQL_at (q : FVec Ideal S8x4096x8x192 .f32) (b : Fin 8) (i : Fin 4096) (h : Fin 8) (l : Fin 128) : plainQL q (ix4 b i h l) = q (ix4 b i h ⟨l.val, by omega⟩) := by
  pointwise [plainQL]

theorem tailQL_at (q : FVec Ideal S8x4096x8x192 .f32) (b : Fin 8) (i : Fin 4096) (h : Fin 8) (l : Fin 64) : tailQL q (ix4 b i h l) = q (ix4 b i h ⟨128 + l.val, by omega⟩) := by
  pointwise [tailQL]

theorem plainKL_at (q : FVec Ideal S8x4096x8x256 .f32) (b : Fin 8) (i : Fin 4096) (h : Fin 8) (l : Fin 128) : plainKL q (ix4 b i h l) = q (ix4 b i h ⟨l.val, by omega⟩) := by
  pointwise [plainKL]

theorem valsL_at (q : FVec Ideal S8x4096x8x256 .f32) (b h : Fin 8) (i : Fin 4096) (l : Fin 128) : valsL q (ix4 b h i l) = q (ix4 b i h ⟨128 + l.val, by omega⟩) := by
  pointwise [valsL]

theorem oneL_at (Zs : FVec Ideal S34816x128 .f32) (b : Fin 8) (i : Fin 4096) (j : Fin 64) :
    oneL Zs (ix4 b i 0 j) = kr Zs b ⟨256 + i.val, by omega⟩ j := by
  pointwise [oneL, krs, kr]

theorem allL_at (x : FVec Ideal S8x4096x1x64 .f32) (b : Fin 8) (i : Fin 4096) (h : Fin 8) (j : Fin 64) : allL x (ix4 b i h j) = x (ix4 b i 0 j) := by
  pointwise [allL]

/-- A table's entries for every batch row and head. -/
def tab8 (c : FVec Ideal S4096x16 .f32) : FVec Ideal S8x4096x8x16 .f32 :=
  broadcastInDim S8x4096x8x16 ![0, 1, 2, 3] bcast_S1x4096x1x16_S8x4096x8x16_0_1_2_3 (broadcastInDim S1x4096x1x16 ![1, 2, 3] bcast_S4096x1x16_S1x4096x1x16_1_2_3
      (broadcastInDim S4096x1x16 ![0, 2] bcast_S4096x16_S4096x1x16_0_2 c))

/-- The lower and the upper 16 entries of a half. -/
def lo8 (x : FVec Ideal S8x4096x8x32 .f32) : FVec Ideal S8x4096x8x16 .f32 := extractStridedSlice S8x4096x8x16 ![0, 0, 0, 0] x slices_S8x4096x8x32_S8x4096x8x16_0_0_0_0
def hi8 (x : FVec Ideal S8x4096x8x32 .f32) : FVec Ideal S8x4096x8x16 .f32 := extractStridedSlice S8x4096x8x16 ![0, 0, 0, 16] x slices_S8x4096x8x32_S8x4096x8x16_0_0_0_16

/-- One half of the rotation, for 8 heads. -/
def half8 (x : FVec Ideal S8x4096x8x32 .f32) (c s : FVec Ideal S4096x16 .f32) : FVec Ideal S8x4096x8x32 .f32 :=
  concatenate S8x4096x8x32 3 [⟨S8x4096x8x16, subf (mulf (lo8 x) (tab8 c)) (mulf (hi8 x) (tab8 s))⟩, ⟨S8x4096x8x16, addf (mulf (lo8 x) (tab8 s)) (mulf (hi8 x) (tab8 c))⟩]
    concatenates_S8x4096x8x16_S8x4096x8x16_S8x4096x8x32_d3

/-- The rotation, for 8 heads. -/
def rot8 (x : FVec Ideal S8x4096x8x64 .f32) (T : Tables) : FVec Ideal S8x4096x8x64 .f32 :=
  concatenate S8x4096x8x64 3 [⟨S8x4096x8x32, half8 (extractStridedSlice S8x4096x8x32 ![0, 0, 0, 0] x slices_S8x4096x8x64_S8x4096x8x32_0_0_0_0) T.cr T.sr⟩,
    ⟨S8x4096x8x32, half8 (extractStridedSlice S8x4096x8x32 ![0, 0, 0, 32] x slices_S8x4096x8x64_S8x4096x8x32_0_0_0_32) T.cc T.sc⟩] concatenates_S8x4096x8x32_S8x4096x8x32_S8x4096x8x64_d3

theorem tab8_at (c : FVec Ideal S4096x16 .f32) (b : Fin 8) (i : Fin 4096) (h : Fin 8) (j : Fin 16) : tab8 c (ix4 b i h j) = c (ix2 i j) := by
  pointwise [tab8]

theorem lo8_at (x : FVec Ideal S8x4096x8x32 .f32) (b : Fin 8) (i : Fin 4096) (h : Fin 8) (j : Fin 16) : lo8 x (ix4 b i h j) = x (ix4 b i h ⟨j.val, by omega⟩) := by
  pointwise [lo8]

theorem hi8_at (x : FVec Ideal S8x4096x8x32 .f32) (b : Fin 8) (i : Fin 4096) (h : Fin 8) (j : Fin 16) : hi8 x (ix4 b i h j) = x (ix4 b i h ⟨16 + j.val, by omega⟩) := by
  pointwise [hi8]

theorem join16_8 (A B : FVec Ideal S8x4096x8x16 .f32) (b : Fin 8) (i : Fin 4096) (h : Fin 8) (j : Fin 32) :
    (concatenate S8x4096x8x32 3 [⟨S8x4096x8x16, A⟩, ⟨S8x4096x8x16, B⟩] concatenates_S8x4096x8x16_S8x4096x8x16_S8x4096x8x32_d3 : FVec Ideal S8x4096x8x32 .f32) (ix4 b i h j)
      = if hj : j.val < 16 then A (ix4 b i h ⟨j.val, hj⟩) else B (ix4 b i h ⟨j.val - 16, by omega⟩) := by
  pointwise []

theorem join32_8 (A B : FVec Ideal S8x4096x8x32 .f32) (b : Fin 8) (i : Fin 4096) (h : Fin 8) (j : Fin 64) :
    (concatenate S8x4096x8x64 3 [⟨S8x4096x8x32, A⟩, ⟨S8x4096x8x32, B⟩] concatenates_S8x4096x8x32_S8x4096x8x32_S8x4096x8x64_d3 : FVec Ideal S8x4096x8x64 .f32) (ix4 b i h j)
      = if hj : j.val < 32 then A (ix4 b i h ⟨j.val, hj⟩) else B (ix4 b i h ⟨j.val - 32, by omega⟩) := by
  pointwise []

theorem half8_at (x : FVec Ideal S8x4096x8x32 .f32) (c s : FVec Ideal S4096x16 .f32) (b : Fin 8) (i : Fin 4096) (h : Fin 8) (j : Fin 32) :
    half8 x c s (ix4 b i h j) = half c s i (fun a => x (ix4 b i h a)) j := by
  unfold half8 half
  rw [join16_8]
  by_cases hj : j.val < 16
  · rw [dif_pos hj, dif_pos hj]
    show lo8 x _ * tab8 c _ - hi8 x _ * tab8 s _ = _
    rw [tab8_at, tab8_at, lo8_at, hi8_at]
  · rw [dif_neg hj, dif_neg hj]
    show lo8 x _ * tab8 s _ + hi8 x _ * tab8 c _ = _
    rw [tab8_at, tab8_at, lo8_at, hi8_at]
    have e : (⟨16 + (j.val - 16), by omega⟩ : Fin 32) = j := Fin.ext (by simp; omega)
    simp only [e]

theorem first8_at (x : FVec Ideal S8x4096x8x64 .f32) (b : Fin 8) (i : Fin 4096) (h : Fin 8) (j : Fin 32) :
    extractStridedSlice S8x4096x8x32 ![0, 0, 0, 0] x slices_S8x4096x8x64_S8x4096x8x32_0_0_0_0 (ix4 b i h j) = x (ix4 b i h ⟨j.val, by omega⟩) := by
  pointwise []

theorem second8_at (x : FVec Ideal S8x4096x8x64 .f32) (b : Fin 8) (i : Fin 4096) (h : Fin 8) (j : Fin 32) :
    extractStridedSlice S8x4096x8x32 ![0, 0, 0, 32] x slices_S8x4096x8x64_S8x4096x8x32_0_0_0_32 (ix4 b i h j) = x (ix4 b i h ⟨32 + j.val, by omega⟩) := by
  pointwise []

theorem rot8_at (x : FVec Ideal S8x4096x8x64 .f32) (T : Tables) (b : Fin 8) (i : Fin 4096) (h : Fin 8) (j : Fin 64) :
    rot8 x T (ix4 b i h j) = rot T i (fun a => x (ix4 b i h a)) j := by
  unfold rot8 rot
  rw [join32_8]
  by_cases hj : j.val < 32
  · rw [dif_pos hj, dif_pos hj, half8_at]
    simp only [first8_at]
  · rw [dif_neg hj, dif_neg hj, half8_at]
    simp only [second8_at]

/-- A table's entries for every batch row and head. -/
def tab1 (c : FVec Ideal S4096x16 .f32) : FVec Ideal S8x4096x1x16 .f32 :=
  broadcastInDim S8x4096x1x16 ![0, 1, 2, 3] bcast_S1x4096x1x16_S8x4096x1x16_0_1_2_3 (broadcastInDim S1x4096x1x16 ![1, 2, 3] bcast_S4096x1x16_S1x4096x1x16_1_2_3
      (broadcastInDim S4096x1x16 ![0, 2] bcast_S4096x16_S4096x1x16_0_2 c))

/-- The lower and the upper 16 entries of a half. -/
def lo1 (x : FVec Ideal S8x4096x1x32 .f32) : FVec Ideal S8x4096x1x16 .f32 := extractStridedSlice S8x4096x1x16 ![0, 0, 0, 0] x slices_S8x4096x1x32_S8x4096x1x16_0_0_0_0
def hi1 (x : FVec Ideal S8x4096x1x32 .f32) : FVec Ideal S8x4096x1x16 .f32 := extractStridedSlice S8x4096x1x16 ![0, 0, 0, 16] x slices_S8x4096x1x32_S8x4096x1x16_0_0_0_16

/-- One half of the rotation, for 1 heads. -/
def half1 (x : FVec Ideal S8x4096x1x32 .f32) (c s : FVec Ideal S4096x16 .f32) : FVec Ideal S8x4096x1x32 .f32 :=
  concatenate S8x4096x1x32 3 [⟨S8x4096x1x16, subf (mulf (lo1 x) (tab1 c)) (mulf (hi1 x) (tab1 s))⟩, ⟨S8x4096x1x16, addf (mulf (lo1 x) (tab1 s)) (mulf (hi1 x) (tab1 c))⟩]
    concatenates_S8x4096x1x16_S8x4096x1x16_S8x4096x1x32_d3

/-- The rotation, for 1 heads. -/
def rot1 (x : FVec Ideal S8x4096x1x64 .f32) (T : Tables) : FVec Ideal S8x4096x1x64 .f32 :=
  concatenate S8x4096x1x64 3 [⟨S8x4096x1x32, half1 (extractStridedSlice S8x4096x1x32 ![0, 0, 0, 0] x slices_S8x4096x1x64_S8x4096x1x32_0_0_0_0) T.cr T.sr⟩,
    ⟨S8x4096x1x32, half1 (extractStridedSlice S8x4096x1x32 ![0, 0, 0, 32] x slices_S8x4096x1x64_S8x4096x1x32_0_0_0_32) T.cc T.sc⟩] concatenates_S8x4096x1x32_S8x4096x1x32_S8x4096x1x64_d3

theorem tab1_at (c : FVec Ideal S4096x16 .f32) (b : Fin 8) (i : Fin 4096) (h : Fin 1) (j : Fin 16) : tab1 c (ix4 b i h j) = c (ix2 i j) := by
  pointwise [tab1]

theorem lo1_at (x : FVec Ideal S8x4096x1x32 .f32) (b : Fin 8) (i : Fin 4096) (h : Fin 1) (j : Fin 16) : lo1 x (ix4 b i h j) = x (ix4 b i h ⟨j.val, by omega⟩) := by
  obtain rfl : h = 0 := Subsingleton.elim _ _
  pointwise [lo1]

theorem hi1_at (x : FVec Ideal S8x4096x1x32 .f32) (b : Fin 8) (i : Fin 4096) (h : Fin 1) (j : Fin 16) : hi1 x (ix4 b i h j) = x (ix4 b i h ⟨16 + j.val, by omega⟩) := by
  obtain rfl : h = 0 := Subsingleton.elim _ _
  pointwise [hi1]

theorem join16_1 (A B : FVec Ideal S8x4096x1x16 .f32) (b : Fin 8) (i : Fin 4096) (h : Fin 1) (j : Fin 32) :
    (concatenate S8x4096x1x32 3 [⟨S8x4096x1x16, A⟩, ⟨S8x4096x1x16, B⟩] concatenates_S8x4096x1x16_S8x4096x1x16_S8x4096x1x32_d3 : FVec Ideal S8x4096x1x32 .f32) (ix4 b i h j)
      = if hj : j.val < 16 then A (ix4 b i h ⟨j.val, hj⟩) else B (ix4 b i h ⟨j.val - 16, by omega⟩) := by
  obtain rfl : h = 0 := Subsingleton.elim _ _
  pointwise []

theorem join32_1 (A B : FVec Ideal S8x4096x1x32 .f32) (b : Fin 8) (i : Fin 4096) (h : Fin 1) (j : Fin 64) :
    (concatenate S8x4096x1x64 3 [⟨S8x4096x1x32, A⟩, ⟨S8x4096x1x32, B⟩] concatenates_S8x4096x1x32_S8x4096x1x32_S8x4096x1x64_d3 : FVec Ideal S8x4096x1x64 .f32) (ix4 b i h j)
      = if hj : j.val < 32 then A (ix4 b i h ⟨j.val, hj⟩) else B (ix4 b i h ⟨j.val - 32, by omega⟩) := by
  obtain rfl : h = 0 := Subsingleton.elim _ _
  pointwise []

theorem half1_at (x : FVec Ideal S8x4096x1x32 .f32) (c s : FVec Ideal S4096x16 .f32) (b : Fin 8) (i : Fin 4096) (h : Fin 1) (j : Fin 32) :
    half1 x c s (ix4 b i h j) = half c s i (fun a => x (ix4 b i h a)) j := by
  unfold half1 half
  rw [join16_1]
  by_cases hj : j.val < 16
  · rw [dif_pos hj, dif_pos hj]
    show lo1 x _ * tab1 c _ - hi1 x _ * tab1 s _ = _
    rw [tab1_at, tab1_at, lo1_at, hi1_at]
  · rw [dif_neg hj, dif_neg hj]
    show lo1 x _ * tab1 s _ + hi1 x _ * tab1 c _ = _
    rw [tab1_at, tab1_at, lo1_at, hi1_at]
    have e : (⟨16 + (j.val - 16), by omega⟩ : Fin 32) = j := Fin.ext (by simp; omega)
    simp only [e]

theorem first1_at (x : FVec Ideal S8x4096x1x64 .f32) (b : Fin 8) (i : Fin 4096) (h : Fin 1) (j : Fin 32) :
    extractStridedSlice S8x4096x1x32 ![0, 0, 0, 0] x slices_S8x4096x1x64_S8x4096x1x32_0_0_0_0 (ix4 b i h j) = x (ix4 b i h ⟨j.val, by omega⟩) := by
  obtain rfl : h = 0 := Subsingleton.elim _ _
  pointwise []

theorem second1_at (x : FVec Ideal S8x4096x1x64 .f32) (b : Fin 8) (i : Fin 4096) (h : Fin 1) (j : Fin 32) :
    extractStridedSlice S8x4096x1x32 ![0, 0, 0, 32] x slices_S8x4096x1x64_S8x4096x1x32_0_0_0_32 (ix4 b i h j) = x (ix4 b i h ⟨32 + j.val, by omega⟩) := by
  obtain rfl : h = 0 := Subsingleton.elim _ _
  pointwise []

theorem rot1_at (x : FVec Ideal S8x4096x1x64 .f32) (T : Tables) (b : Fin 8) (i : Fin 4096) (h : Fin 1) (j : Fin 64) :
    rot1 x T (ix4 b i h j) = rot T i (fun a => x (ix4 b i h a)) j := by
  unfold rot1 rot
  rw [join32_1]
  by_cases hj : j.val < 32
  · rw [dif_pos hj, dif_pos hj, half1_at]
    simp only [first1_at]
  · rw [dif_neg hj, dif_neg hj, half1_at]
    simp only [second1_at]

/-- The context before the latents, and 64 columns of zeros after the 192. -/
def wide (A : FVec Ideal S8x8x256x192 .f32) (B : FVec Ideal S8x8x4096x192 .f32) : FVec Ideal S8x8x4352x256 .bf16 :=
  truncf .bf16 (concatenate S8x8x4352x256 3 [⟨S8x8x4352x192, concatenate S8x8x4352x192 2 [⟨S8x8x256x192, A⟩, ⟨S8x8x4096x192, B⟩]
      concatenates_S8x8x256x192_S8x8x4096x192_S8x8x4352x192_d2⟩,
    ⟨S8x8x4352x64, broadcastInDim S8x8x4352x64 ![] bcast_S_S8x8x4352x64 (constant (F := Ideal) S_ .f32 0x00000000#32)⟩]
    concatenates_S8x8x4352x192_S8x8x4352x64_S8x8x4352x256_d3) bitsLt_bf16_f32
def both (A : FVec Ideal S8x8x256x128 .f32) (B : FVec Ideal S8x8x4096x128 .f32) : FVec Ideal S8x8x4352x128 .bf16 :=
  truncf .bf16 (concatenate S8x8x4352x128 2 [⟨S8x8x256x128, A⟩, ⟨S8x8x4096x128, B⟩] concatenates_S8x8x256x128_S8x8x4096x128_S8x8x4352x128_d2) bitsLt_bf16_f32

theorem wide_at (A : FVec Ideal S8x8x256x192 .f32) (B : FVec Ideal S8x8x4096x192 .f32) (b h : Fin 8) (i : Fin 4352) (l : Fin 256) :
    wide A B (ix4 b h i l) = if hl : l.val < 192 then (if hi : i.val < 256 then A (ix4 b h ⟨i.val, hi⟩ ⟨l.val, hl⟩) else B (ix4 b h ⟨i.val - 256, by omega⟩ ⟨l.val, hl⟩)) else 0 := by
  pointwise [wide]

theorem both_at (A : FVec Ideal S8x8x256x128 .f32) (B : FVec Ideal S8x8x4096x128 .f32) (b h : Fin 8) (i : Fin 4352) (l : Fin 128) :
    both A B (ix4 b h i l) = if hi : i.val < 256 then A (ix4 b h ⟨i.val, hi⟩ l) else B (ix4 b h ⟨i.val - 256, by omega⟩ l) := by
  pointwise [both]

/-- The frequencies, and the angles of the rows and of the columns of the grid. -/
def freq : FVec Ideal S16 .f32 :=
  Host.powf (broadcastInDim S16 ![] bcast_S_S16 (constant S_ .f32 0x461C4000#32)) (Host.divf (Host.negf (sitofp .f32 (iotaInDim S16 32 0)))
    (broadcastInDim S16 ![] bcast_S_S16 (constant S_ .f32 0x41800000#32)))
def ang (p : FVec Ideal S4096 .f32) : FVec Ideal S4096x16 .f32 :=
  mulf (broadcastInDim S4096x16 ![0, 1] bcast_S4096x1_S4096x16_0_1 (broadcastInDim S4096x1 ![0] bcast_S4096_S4096x1_0 p))
    (broadcastInDim S4096x16 ![0, 1] bcast_S1x16_S4096x16_0_1 (broadcastInDim S1x16 ![1] bcast_S16_S1x16_1 freq))
def angR : FVec Ideal S4096x16 .f32 := ang (sitofp .f32 (shapeCast S4096 (broadcastInDim S64x64 ![0] bcast_S64_S64x64_0 (iotaInDim S64 32 0)) shapeCasts_S64x64_S4096))
def angC : FVec Ideal S4096x16 .f32 := ang (sitofp .f32 (shapeCast S4096 (broadcastInDim S64x64 ![0, 1] bcast_S1x64_S64x64_0_1
  (shapeCast S1x64 (iotaInDim S64 32 0) shapeCasts_S64_S1x64)) shapeCasts_S64x64_S4096))
def tables : Tables := ⟨Host.cos angR, Host.sin angR, Host.cos angC, Host.sin angC⟩

/-- The three results as functions of the arguments. -/
def qOf (Z : FVec Ideal S34816x6400 .bf16) (nw : FVec Ideal S768 .f32) (W : FVec Ideal S768x1536 .f32) : FVec Ideal S8x8x4352x256 .bf16 :=
  wide (scaledC (headsC (plainQC (hdQC Z nw W)) (tailQC (hdQC Z nw W)))) (scaledL (headsL (plainQL (hdQL Z nw W)) (rot8 (tailQL (hdQL Z nw W)) tables)))
def kOf (Z : FVec Ideal S34816x6400 .bf16) (Zs : FVec Ideal S34816x128 .f32) (nw : FVec Ideal S512 .f32) (W : FVec Ideal S512x2048 .f32) : FVec Ideal S8x8x4352x256 .bf16 :=
  wide (headsC (plainKC (hdKC Z nw W)) (allC (oneC Zs))) (headsL (plainKL (hdKL Z nw W)) (allL (rot1 (oneL Zs) tables)))
def vOf (Z : FVec Ideal S34816x6400 .bf16) (nw : FVec Ideal S512 .f32) (W : FVec Ideal S512x2048 .f32) : FVec Ideal S8x8x4352x128 .bf16 :=
  both (valsC (hdKC Z nw W)) (valsL (hdKL Z nw W))

theorem tok (i : Fin 4352) (h : ¬ i.val < 256) (hi : 256 + (i.val - 256) < 4352) : (⟨256 + (i.val - 256), hi⟩ : Fin 4352) = i := Fin.ext (by simp; omega)

theorem col {n : Nat} (a l : Nat) (h : ¬ l < 128) (hi : a + (128 + (l - 128)) < n) (hj : a + l < n) : (⟨a + (128 + (l - 128)), hi⟩ : Fin n) = ⟨a + l, hj⟩ :=
  Fin.ext (by simp; omega)

theorem qOf_eq (Z : FVec Ideal S34816x6400 .bf16) (nw : FVec Ideal S768 .f32) (W : FVec Ideal S768x1536 .f32) : qOf Z nw W = QS tables Z nw W := by
  funext j
  obtain ⟨b, h, i, l, rfl⟩ : ∃ (b h : Fin 8) (i : Fin 4352) (l : Fin 256), j = ix4 b h i l := ⟨j 0, j 1, j 2, j 3, eq_ix4 (n0 := 8) (n1 := 8) (n2 := 4352) (n3 := 256) j⟩
  show _ = Qat tables Z nw W b h i l
  unfold qOf Qat line turn
  refine (wide_at _ _ b h i l).trans ?_
  by_cases hl : l.val < 128
  · rw [dif_pos (show l.val < 192 by omega), dif_pos hl]
    by_cases hi : i.val < 256
    · rw [dif_pos hi, scaledC_at, headsC_at, dif_pos hl, plainQC_at, hdQC_at]
    · rw [dif_neg hi, scaledL_at, headsL_at, dif_pos hl, plainQL_at, hdQL_at]
      simp only [tok i hi]
  · rw [dif_neg hl]
    by_cases hl' : l.val < 192
    · rw [dif_pos hl', dif_pos hl']
      beta_reduce
      by_cases hi : i.val < 256
      · rw [dif_pos hi, if_pos hi, scaledC_at, headsC_at, dif_neg hl, tailQC_at, hdQC_at]
      · rw [dif_neg hi, if_neg hi, scaledL_at, headsL_at, dif_neg hl, rot8_at]
        simp only [tailQL_at, hdQL_at, tok i hi]
    · rw [dif_neg hl', dif_neg hl']

theorem kOf_eq (Z : FVec Ideal S34816x6400 .bf16) (Zs : FVec Ideal S34816x128 .f32) (nw : FVec Ideal S512 .f32) (W : FVec Ideal S512x2048 .f32) :
    kOf Z Zs nw W = KS tables Z Zs nw W := by
  funext j
  obtain ⟨b, h, i, l, rfl⟩ : ∃ (b h : Fin 8) (i : Fin 4352) (l : Fin 256), j = ix4 b h i l := ⟨j 0, j 1, j 2, j 3, eq_ix4 (n0 := 8) (n1 := 8) (n2 := 4352) (n3 := 256) j⟩
  show _ = Kat tables Z Zs nw W b h i l
  unfold kOf Kat line turn
  refine (wide_at _ _ b h i l).trans ?_
  by_cases hl : l.val < 128
  · rw [dif_pos (show l.val < 192 by omega), dif_pos hl]
    by_cases hi : i.val < 256
    · rw [dif_pos hi, headsC_at, dif_pos hl, plainKC_at, hdKC_at]
    · rw [dif_neg hi, headsL_at, dif_pos hl, plainKL_at, hdKL_at]
      simp only [tok i hi]
  · rw [dif_neg hl]
    by_cases hl' : l.val < 192
    · rw [dif_pos hl', dif_pos hl']
      beta_reduce
      by_cases hi : i.val < 256
      · rw [dif_pos hi, if_pos hi, headsC_at, dif_neg hl, allC_at, oneC_at]
      · rw [dif_neg hi, if_neg hi, headsL_at, dif_neg hl, allL_at, rot1_at]
        simp only [oneL_at, tok i hi]
    · rw [dif_neg hl', dif_neg hl']

theorem vOf_eq (Z : FVec Ideal S34816x6400 .bf16) (nw : FVec Ideal S512 .f32) (W : FVec Ideal S512x2048 .f32) : vOf Z nw W = VS Z nw W := by
  funext j
  obtain ⟨b, h, i, l, rfl⟩ : ∃ (b h : Fin 8) (i : Fin 4352) (l : Fin 128), j = ix4 b h i l := ⟨j 0, j 1, j 2, j 3, eq_ix4 (n0 := 8) (n1 := 8) (n2 := 4352) (n3 := 128) j⟩
  show _ = Vat Z nw W b h i l
  unfold vOf Vat
  refine (both_at _ _ b h i l).trans ?_
  by_cases hi : i.val < 256
  · rw [dif_pos hi, valsC_at, hdKC_at]
  · rw [dif_neg hi, valsL_at, hdKL_at]
    simp only [tok i hi]

end Cert.Proof.Prep.Ref

end
-- ==== Proof.Prep.Claim.lean ====
/- The claims about the head preparation: its frames, and the kernel's queries, keys and values equal to the
   reference's. -/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import Idealize.ShloMosaic.Lib.Claim
public import proofs.«01_k».proof.Proof.Prep.Final
public import proofs.«01_k».proof.Proof.Prep.Ref

@[expose] public section

set_option maxRecDepth 16384

noncomputable section

namespace Cert.Proof.Prep

open Idealize.ShloMosaic Idealize.ShloMosaic.TcCoe Idealize.SL.Sem

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) :=
  fun m ρ _ => Cert.Kernel5Ideal.Gen.frame m ρ

theorem frame_ref : Cert.quiescent_Reference5Ideal (hReference5Ideal := Cert.Reference5Ideal.Gen.facts) := by
  intro m g _
  exact (θ_run Cert.Reference5Ideal.defs _ _).mono (fun r h => ⟨fun c => (h c).2.2.2, Idealize.ShloMosaic.sem_eq_zero_of_no_sems (by decide) r.2⟩)
    (Cert.Reference5Ideal.Value.run (F := Ideal) m g)

/-- The two sides turn by the same angles. -/
theorem same_tables : Ref.tables = tables := rfl

/-- THE VALUE CLAIM. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨_, _, _, Cert.Kernel5Ideal.Value.run_blocks m g, (θ_run Cert.Reference5Ideal.defs _ _).mono (fun r h c => ?_) (Cert.Reference5Ideal.Value.run (F := Ideal) m' g')⟩
  obtain ⟨h0, h1, h2, h3, h4, h5⟩ := hagree c
  refine ⟨(h c).1.trans ?_, (h c).2.1.trans ?_, (h c).2.2.1.trans ?_, (h c).2.2.2⟩
  · refine Eq.trans (b := Ref.qOf (m' (c.tc.loc Cert.Reference5Ideal.main_arg0)) (m' (c.tc.loc Cert.Reference5Ideal.main_arg2)) (m' (c.tc.loc Cert.Reference5Ideal.main_arg3))) rfl ?_
    rw [h0, h2, h3, Ref.qOf_eq, same_tables]
    exact (final9 m c).symm
  · refine Eq.trans (b := Ref.kOf (m' (c.tc.loc Cert.Reference5Ideal.main_arg0)) (m' (c.tc.loc Cert.Reference5Ideal.main_arg1)) (m' (c.tc.loc Cert.Reference5Ideal.main_arg4))
      (m' (c.tc.loc Cert.Reference5Ideal.main_arg5))) rfl ?_
    rw [h0, h1, h4, h5, Ref.kOf_eq, same_tables]
    exact (final10 m c).symm
  · refine Eq.trans (b := Ref.vOf (m' (c.tc.loc Cert.Reference5Ideal.main_arg0)) (m' (c.tc.loc Cert.Reference5Ideal.main_arg4)) (m' (c.tc.loc Cert.Reference5Ideal.main_arg5))) rfl ?_
    rw [h0, h4, h5, Ref.vOf_eq]
    exact (final11 m c).symm

end Cert.Proof.Prep

end
-- ==== Proof.Mod.Spec.lean ====
/- The modulation of all layers, written once, entry by entry. -/
module

public import Idealize.ShloMosaic.Lib.Pointwise

@[expose] public section

noncomputable section

namespace Cert.Proof.Mod

open Idealize.ShloMosaic

/-- A number times its logistic. -/
def silu (x : EReal) : EReal := x * Ideal.div 1 (1 + Ideal.exp (-x))

/-- The sixteen rows that go in: the eight of the latents, the one of the context, and seven of zeros. -/
def inRow (C : FVec Ideal ⟨2, ![8, 2048]⟩ .f32) (X : FVec Ideal ⟨1, ![2048]⟩ .f32) (r : Fin 16) (k : Fin 2048) : EReal :=
  if h : r.val < 8 then C (ix2 ⟨r.val, h⟩ k) else if r.val = 8 then X (ix1 k) else 0

/-- Column `n` of row `r` in layer `i`: the row's `silu` times the layer's weights, with the layer's bias added. -/
def entry (C : FVec Ideal ⟨2, ![8, 2048]⟩ .f32) (X : FVec Ideal ⟨1, ![2048]⟩ .f32) (W : FVec Ideal ⟨3, ![4, 2048, 6144]⟩ .f32)
    (B : FVec Ideal ⟨2, ![4, 6144]⟩ .f32) (i : Fin 4) (r : Fin 16) (n : Fin 6144) : EReal :=
  (∑ k : Fin 2048, silu (inRow C X r k) * W (ix3 i k n)) + B (ix2 i n)

/-- The whole result. -/
def SPEC (C : FVec Ideal ⟨2, ![8, 2048]⟩ .f32) (X : FVec Ideal ⟨1, ![2048]⟩ .f32) (W : FVec Ideal ⟨3, ![4, 2048, 6144]⟩ .f32)
    (B : FVec Ideal ⟨2, ![4, 6144]⟩ .f32) : FVec Ideal ⟨3, ![4, 16, 6144]⟩ .f32 := fun j => entry C X W B (j 0) (j 1) (j 2)

end Cert.Proof.Mod

end
-- ==== Proof.Mod.Pad.lean ====
/- The sixteen rows that the modulation's kernel is handed: the latents' eight and the context's one set into zeros. -/
module

public import proofs.«01_k».proof.Proof.Gen.Kernel6Ideal.Value
public import Idealize.ShloMosaic.Lib.Pipeline.ValueKit
public import Idealize.ShloMosaic.Lib.Routing.OpsSet
public import proofs.«01_k».proof.Proof.Mod.Spec

@[expose] public section

set_option maxRecDepth 16384

noncomputable section

namespace Cert.Proof.Mod

open Idealize.ShloMosaic Idealize.ShloMosaic.TcCoe Idealize.SL.Sem
open Cert.Kernel6Ideal Cert.Kernel6Ideal.Gen

/-- Zeros, the number of the row where a part goes, and the two parts set one after the other. -/
def zeros : FVec Ideal S16x2048 .f32 := broadcastInDim S16x2048 ![] bcast_S_S16x2048 (constant S_ .f32 0x00000000#32)
def place (v : BitVec 32) : IVec S1 32 := broadcastInDim S1 ![] bcast_S_S1 (constantI S_ 32 v)
def setL (Z : FVec Ideal S16x2048 .f32) (C : FVec Ideal S8x2048 .f32) : FVec Ideal S16x2048 .f32 :=
  Host.scatter scatter_S16x2048_S1_S8x2048_01_n_0_0 (fun _ b => b) Z (place 0#32) C
def setC (Z : FVec Ideal S16x2048 .f32) (X : FVec Ideal S2048 .f32) : FVec Ideal S16x2048 .f32 :=
  Host.scatter scatter_S16x2048_S1_S2048_0_0_0_0 (fun _ b => b) Z (place 8#32) X

theorem zeros_at (r : Fin 16) (k : Fin 2048) : zeros (ix2 r k) = 0 := by
  pointwise [zeros]

/-- Entry `(r', k')` of the latents goes to row `r'` and column `k'`. -/
theorem landsL (r' : Fin 8) (k' : Fin 2048) (r : Fin 16) (k : Fin 2048) :
    scatter_S16x2048_S1_S8x2048_01_n_0_0.resultIdx? (ix2 r' k') (place 0#32) = some (ix2 r k) ↔ r'.val = r.val ∧ k' = k := by
  rw [Routing.resultIdx?_eq_some]
  have s0 : scatter_S16x2048_S1_S8x2048_01_n_0_0.start (ix2 r' k') (place 0#32) 0 = 0 := rfl
  have s1 : scatter_S16x2048_S1_S8x2048_01_n_0_0.start (ix2 r' k') (place 0#32) 1 = 0 := rfl
  have v0 : scatter_S16x2048_S1_S8x2048_01_n_0_0.window (ix2 r' k') 0 = r'.val := rfl
  have v1 : scatter_S16x2048_S1_S8x2048_01_n_0_0.window (ix2 r' k') 1 = k'.val := rfl
  rw [Fin.ext_iff]
  constructor
  · intro q
    have q0 := q 0
    have q1 := q 1
    rw [s0, v0] at q0
    rw [s1, v1] at q1
    change (0 : Int) + (r'.val : Int) = (r.val : Int) at q0
    change (0 : Int) + (k'.val : Int) = (k.val : Int) at q1
    omega
  · intro q a
    revert a
    show ∀ a : Fin 2, _
    intro a
    fin_cases a
    · refine (congrArg₂ (fun x (y : Nat) => x + (y : Int)) s0 v0).trans ?_
      show (0 : Int) + (r'.val : Int) = (r.val : Int)
      omega
    · refine (congrArg₂ (fun x (y : Nat) => x + (y : Int)) s1 v1).trans ?_
      show (0 : Int) + (k'.val : Int) = (k.val : Int)
      omega

/-- Entry `k'` of the context goes to row 8 and column `k'`. -/
theorem landsC (k' : Fin 2048) (r : Fin 16) (k : Fin 2048) :
    scatter_S16x2048_S1_S2048_0_0_0_0.resultIdx? (ix1 k') (place 8#32) = some (ix2 r k) ↔ r.val = 8 ∧ k' = k := by
  rw [Routing.resultIdx?_eq_some]
  have s0 : scatter_S16x2048_S1_S2048_0_0_0_0.start (ix1 k') (place 8#32) 0 = 8 := rfl
  have s1 : scatter_S16x2048_S1_S2048_0_0_0_0.start (ix1 k') (place 8#32) 1 = 0 := rfl
  have v0 : scatter_S16x2048_S1_S2048_0_0_0_0.window (ix1 k') 0 = 0 := rfl
  have v1 : scatter_S16x2048_S1_S2048_0_0_0_0.window (ix1 k') 1 = k'.val := rfl
  rw [Fin.ext_iff]
  constructor
  · intro q
    have q0 := q 0
    have q1 := q 1
    rw [s0, v0] at q0
    rw [s1, v1] at q1
    change (8 : Int) + ((0 : Nat) : Int) = (r.val : Int) at q0
    change (0 : Int) + (k'.val : Int) = (k.val : Int) at q1
    omega
  · intro q a
    revert a
    show ∀ a : Fin 2, _
    intro a
    fin_cases a
    · refine (congrArg₂ (fun x (y : Nat) => x + (y : Int)) s0 v0).trans ?_
      show (8 : Int) + ((0 : Nat) : Int) = (r.val : Int)
      omega
    · refine (congrArg₂ (fun x (y : Nat) => x + (y : Int)) s1 v1).trans ?_
      show (0 : Int) + (k'.val : Int) = (k.val : Int)
      omega

/-- An array with its first eight rows set. -/
theorem setL_at (Z : FVec Ideal S16x2048 .f32) (C : FVec Ideal S8x2048 .f32) (r : Fin 16) (k : Fin 2048) :
    setL Z C (ix2 r k) = if h : r.val < 8 then C (ix2 ⟨r.val, h⟩ k) else Z (ix2 r k) := by
  have lands : ∀ j : S8x2048.Idx, scatter_S16x2048_S1_S8x2048_01_n_0_0.resultIdx? j (place 0#32) = some (ix2 r k) →
      ∃ h : r.val < 8, j = ix2 ⟨r.val, h⟩ k := by
    intro j hj
    obtain ⟨r', k', rfl⟩ : ∃ (r' : Fin 8) (k' : Fin 2048), j = ix2 r' k' := ⟨j 0, j 1, eq_ix2 (n0 := 8) (n1 := 2048) j⟩
    obtain ⟨e, rfl⟩ := (landsL r' k' r k).1 hj
    exact ⟨e ▸ r'.isLt, congrArg (fun q : Fin 8 => (ix2 q k' : S8x2048.Idx)) (Fin.ext e)⟩
  unfold setL
  by_cases h : r.val < 8
  · rw [dif_pos h]
    exact Routing.scatter_set_hit _ _ _ _ _ _ (fun j hj => congrArg C (lands j hj).2) (ix2 ⟨r.val, h⟩ k) ((landsL _ _ _ _).2 ⟨rfl, rfl⟩)
  · rw [dif_neg h]
    exact Routing.scatter_set_miss _ _ _ _ _ fun j hj => h (lands j hj).1

/-- An array with its row 8 set. -/
theorem setC_at (Z : FVec Ideal S16x2048 .f32) (X : FVec Ideal S2048 .f32) (r : Fin 16) (k : Fin 2048) :
    setC Z X (ix2 r k) = if r.val = 8 then X (ix1 k) else Z (ix2 r k) := by
  have lands : ∀ j : S2048.Idx, scatter_S16x2048_S1_S2048_0_0_0_0.resultIdx? j (place 8#32) = some (ix2 r k) → r.val = 8 ∧ j = ix1 k := by
    intro j hj
    obtain ⟨k', rfl⟩ : ∃ k' : Fin 2048, j = ix1 k' := ⟨j 0, eq_ix1 (n0 := 2048) j⟩
    obtain ⟨e, rfl⟩ := (landsC k' r k).1 hj
    exact ⟨e, rfl⟩
  unfold setC
  by_cases h : r.val = 8
  · rw [if_pos h]
    exact Routing.scatter_set_hit _ _ _ _ _ _ (fun j hj => congrArg X (lands j hj).2) (ix1 k) ((landsC _ _ _).2 ⟨h, rfl⟩)
  · rw [if_neg h]
    exact Routing.scatter_set_miss _ _ _ _ _ fun j hj => h (lands j hj).1

/-- The rows handed to the kernel. -/
theorem pad_at (C : FVec Ideal S8x2048 .f32) (X : FVec Ideal S2048 .f32) (r : Fin 16) (k : Fin 2048) :
    setC (setL zeros C) X (ix2 r k) = inRow C X r k := by
  rw [setC_at, setL_at, zeros_at]
  unfold inRow
  by_cases h : r.val < 8
  · rw [if_neg (by omega), dif_pos h, dif_pos h]
  · rw [dif_neg h, dif_neg h]

end Cert.Proof.Mod

end
-- ==== Proof.Mod.Final.lean ====
/- What the modulation's result array holds after the run. -/
module

public import proofs.«01_k».proof.Proof.Gen.Kernel6Ideal.Value
public import Idealize.ShloMosaic.Lib.Pipeline.ValueKit
public import Idealize.ShloMosaic.Lib.Pipeline.Covers
public import proofs.«01_k».proof.Proof.Mod.Pad

@[expose] public section

set_option maxRecDepth 16384

noncomputable section

namespace Cert.Proof.Mod

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- One block of the result from the staged rows, weights and bias. -/
theorem pay_at (x : FVec Ideal S16x2048 .f32) (w : FVec Ideal S1x2048x768 .f32) (b : FVec Ideal S1x1x768 .f32) (r : Fin 16) (n : Fin 768) :
    k0_pay1 (F := Ideal) x w b (ix3 0 r n) = (∑ k : Fin 2048, silu (x (ix2 r k)) * w (ix3 0 k n)) + b (ix3 0 0 n) := by
  unfold silu
  pointwise [k0_pay1]
  simp only [sub_eq_add_neg, zero_add]

/-- The blocks of grid point `t`: all the rows, and 768 columns of one layer. -/
theorem idx : ∀ t : Fin cfg0.N,
    win0_0.index t = ![0, 0] ∧ win0_1.index t = ![t.val / 8, 0, t.val % 8] ∧ win0_2.index t = ![t.val / 8, 0, t.val % 8]
    ∧ win0_3.index t = ![t.val / 8, 0, t.val % 8] :=
  (by decide +kernel : ∀ t : Fin grid0.N, _)

/-- Every block of the result is some grid point's. -/
theorem covers : (cfg0.win 3).Covers :=
  (cfg0.win 3).covers_of_index_surj rfl (by decide) fun β => by
    have h0 : (β 0).val < 4 := (β 0).isLt
    have h1 : (β 1).val < 1 := (β 1).isLt
    have h2 : (β 2).val < 8 := (β 2).isLt
    refine ⟨⟨(β 0).val * 8 + (β 2).val, lt_of_lt_of_eq (by omega) N_0.symm⟩, fun a => ?_⟩
    show win0_3.index _ a = _
    rw [(idx _).2.2.2]
    fin_cases a <;> simp <;> omega

theorem tlt (t : Fin cfg0.N) : t.val < 32 := lt_of_lt_of_eq t.isLt N_0

/-- The layer of grid point `t`, and the column that column `n` of its block is. -/
def tl (t : Fin cfg0.N) : Fin 4 := ⟨t.val / 8, by have := tlt t; omega⟩
def tn (t : Fin cfg0.N) (n : Fin 768) : Fin 6144 := ⟨t.val % 8 * 768 + n.val, by omega⟩

theorem V4 (c : Dev nD) (r : Fin 16) (k : Fin 2048) :
    (show EReal from V m c main_v4 (ix2 r k : S16x2048.Idx)) = inRow (m ((c : Thread nD τ).loc main_arg0)) (m ((c : Thread nD τ).loc main_arg1)) r k := by
  entry_read
  exact pad_at (m ((c : Thread nD τ).loc main_arg0)) (m ((c : Thread nD τ).loc main_arg1)) r k

theorem bias_at (B : FVec Ideal S4x6144 .f32) (i : Fin 4) (n : Fin 6144) :
    shapeCast S4x1x6144 B shapeCasts_S4x6144_S4x1x6144 (ix3 i 0 n) = B (ix2 i n) := by
  pointwise []

theorem V5 (c : Dev nD) (i : Fin 4) (n : Fin 6144) :
    (show EReal from V m c main_v5 (ix3 i 0 n : S4x1x6144.Idx)) = m ((c : Thread nD τ).loc main_arg3) (ix2 i n : S4x6144.Idx) := by
  entry_read
  exact bias_at (m ((c : Thread nD τ).loc main_arg3)) i n

theorem x_at (c : Dev nD) (t : Fin cfg0.N) (r : Fin 16) (k : Fin 2048) :
    (show EReal from iblk m c 0 t (ix2 r k : S16x2048.Idx)) = inRow (m ((c : Thread nD τ).loc main_arg0)) (m ((c : Thread nD τ).loc main_arg1)) r k := by
  refine Eq.trans ?_ (V4 m c r k)
  blk_point [iblk, idx t]

theorem w_at (c : Dev nD) (t : Fin cfg0.N) (k : Fin 2048) (n : Fin 768) :
    (show EReal from iblk m c 1 t (ix3 0 k n : S1x2048x768.Idx)) = m ((c : Thread nD τ).loc main_arg2) (ix3 (tl t) k (tn t n) : S4x2048x6144.Idx) := by
  blk_point [iblk, V, idx t, tl, tn]

theorem b_at (c : Dev nD) (t : Fin cfg0.N) (n : Fin 768) :
    (show EReal from iblk m c 2 t (ix3 0 0 n : S1x1x768.Idx)) = m ((c : Thread nD τ).loc main_arg3) (ix2 (tl t) (tn t n) : S4x6144.Idx) := by
  refine Eq.trans ?_ (V5 m c (tl t) (tn t n))
  blk_point [iblk, idx t, tl, tn]

theorem o_emb (t : Fin cfg0.N) (r : Fin 16) (n : Fin 768) :
    ((cfg0.win 3).blk t).view.emb (ix3 0 r n : S1x16x768.Idx) = (ix3 (tl t) r (tn t n) : S4x16x6144.Idx) := by
  blk_ext [idx t, tl, tn]

/-- What grid point `t` leaves for the result, at an entry of its block, is `SPEC` at the entry's place. -/
theorem point (c : Dev nD) (t : Fin cfg0.N) (r : Fin 16) (n : Fin 768) :
    (show EReal from out0_3 (iblk m c 0 t) (iblk m c 1 t) (iblk m c 2 t) (ix3 0 r n : S1x16x768.Idx)) = entry (m ((c : Thread nD τ).loc main_arg0)) (m ((c : Thread nD τ).loc main_arg1))
      (m ((c : Thread nD τ).loc main_arg2)) (m ((c : Thread nD τ).loc main_arg3)) (tl t) r (tn t n) := by
  unfold out0_3
  canon_tiles x h
  obtain ⟨u, i, j, rfl⟩ : ∃ (u : Fin 1) (i : Fin 16) (j : Fin 768), x = (ix3 u i j : S1x16x768.Idx) := ⟨x 0, x 1, x 2, eq_ix3 (n0 := 1) (n1 := 16) (n2 := 768) x⟩
  obtain rfl : u = 0 := Subsingleton.elim _ _
  obtain rfl : r = i := Fin.ext h1
  obtain rfl : n = j := Fin.ext h2
  refine (pay_at _ _ _ r n).trans ?_
  refine congrArg₂ (· + ·) (Finset.sum_congr rfl fun k _ => congrArg₂ (· * ·) (congrArg silu ?_) ?_) ?_
  · refine Eq.trans ?_ (x_at m c t r k)
    pointwise []
  · refine Eq.trans ?_ (w_at m c t k n)
    pointwise []
  · refine Eq.trans ?_ (b_at m c t n)
    pointwise []

/-- THE RESULT ARRAY after the run. -/
theorem final (c : Dev nD) :
    (dats m 0 c).arrAt 3 (cfgs 0).N = SPEC (m ((c : Thread nD τ).loc main_arg0)) (m ((c : Thread nD τ).loc main_arg1))
      (m ((c : Thread nD τ).loc main_arg2)) (m ((c : Thread nD τ).loc main_arg3)) := by
  refine (dats m 0 c).arrAt_eq_of_covers 3 _ covers fun t _ y => ?_
  blk_simp
  rw [after0_3]
  obtain ⟨u, r, n, rfl⟩ : ∃ (u : Fin 1) (r : Fin 16) (n : Fin 768), y = (ix3 u r n : S1x16x768.Idx) := ⟨y 0, y 1, y 2, eq_ix3 (n0 := 1) (n1 := 16) (n2 := 768) y⟩
  obtain rfl : u = 0 := Subsingleton.elim _ _
  refine (point m c t r n).trans ?_
  refine Eq.trans (b := SPEC (m ((c : Thread nD τ).loc main_arg0)) (m ((c : Thread nD τ).loc main_arg1))
      (m ((c : Thread nD τ).loc main_arg2)) (m ((c : Thread nD τ).loc main_arg3)) (ix3 (tl t) r (tn t n) : S4x16x6144.Idx)) rfl ?_
  exact congrArg (SPEC (m ((c : Thread nD τ).loc main_arg0)) (m ((c : Thread nD τ).loc main_arg1))
      (m ((c : Thread nD τ).loc main_arg2)) (m ((c : Thread nD τ).loc main_arg3))) (o_emb t r n).symm

end Cert.Proof.Mod

end
-- ==== Proof.Mod.Ref.lean ====
/- What the modulation's reference computes, entry by entry. -/
module

public import proofs.«01_k».proof.Proof.Gen.Reference6Ideal.Run
public import Idealize.ShloMosaic.Lib.Pointwise
public import Idealize.ShloMosaic.Lib.Pipeline.ValueKit
public import proofs.«01_k».proof.Proof.Mod.Spec

@[expose] public section

set_option maxRecDepth 16384

noncomputable section

namespace Cert.Proof.Mod

open Idealize.ShloMosaic Idealize.ShloMosaic.TcCoe Idealize.SL.Sem
open Cert.Reference6Ideal Cert.Reference6Ideal.Gen

/-- The latents' rows and the context's row through `silu`. -/
def actL (C : FVec Ideal S8x2048 .f32) : FVec Ideal S8x2048 .f32 :=
  mulf C (Host.divf (broadcastInDim S8x2048 ![] bcast_S_S8x2048 (constant S_ .f32 0x3F800000#32))
    (addf (broadcastInDim S8x2048 ![] bcast_S_S8x2048 (constant S_ .f32 0x3F800000#32)) (Host.exp (Host.negf C))))
def actC (X : FVec Ideal S2048 .f32) : FVec Ideal S2048 .f32 :=
  mulf X (Host.divf (broadcastInDim S2048 ![] bcast_S_S2048 (constant S_ .f32 0x3F800000#32))
    (addf (broadcastInDim S2048 ![] bcast_S_S2048 (constant S_ .f32 0x3F800000#32)) (Host.exp (Host.negf X))))

/-- The rows of the latents, of the context and of the bias alone, for the weights and the bias of one layer. -/
def rowsL (A : FVec Ideal S8x2048 .f32) (w : FVec Ideal S2048x6144 .f32) (b : FVec Ideal S6144 .f32) : FVec Ideal S8x6144 .f32 :=
  addf (Host.dotGeneral dot_S8x2048_S2048x6144_S8x6144_1_0_0_1_n_n none A w)
    (broadcastInDim S8x6144 ![0, 1] bcast_S1x6144_S8x6144_0_1 (broadcastInDim S1x6144 ![1] bcast_S6144_S1x6144_1 b))
def rowC (A : FVec Ideal S2048 .f32) (w : FVec Ideal S2048x6144 .f32) (b : FVec Ideal S6144 .f32) : FVec Ideal S1x6144 .f32 :=
  broadcastInDim S1x6144 ![1] bcast_S6144_S1x6144_1 (addf (Host.dotGeneral dot_S2048_S2048x6144_S6144_0_0_n_1_n_n none A w) b)
def rowsB (b : FVec Ideal S6144 .f32) : FVec Ideal S7x6144 .f32 := broadcastInDim S7x6144 ![1] bcast_S6144_S7x6144_1 b

/-- One layer's sixteen rows. -/
def layer (AL : FVec Ideal S8x2048 .f32) (AC : FVec Ideal S2048 .f32) (w : FVec Ideal S2048x6144 .f32) (b : FVec Ideal S6144 .f32) :
    FVec Ideal S16x6144 .f32 :=
  concatenate S16x6144 0 [⟨S8x6144, rowsL AL w b⟩, ⟨S1x6144, rowC AC w b⟩, ⟨S7x6144, rowsB b⟩] concatenates_S8x6144_S1x6144_S7x6144_S16x6144_d0

/-- The weights of each layer. -/
def w0 (W : FVec Ideal S4x2048x6144 .f32) : FVec Ideal S2048x6144 .f32 :=
  shapeCast S2048x6144 (extractStridedSlice S1x2048x6144 ![0, 0, 0] W slices_S4x2048x6144_S1x2048x6144_0_0_0) shapeCasts_S1x2048x6144_S2048x6144
def w1 (W : FVec Ideal S4x2048x6144 .f32) : FVec Ideal S2048x6144 .f32 :=
  shapeCast S2048x6144 (extractStridedSlice S1x2048x6144 ![1, 0, 0] W slices_S4x2048x6144_S1x2048x6144_1_0_0) shapeCasts_S1x2048x6144_S2048x6144
def w2 (W : FVec Ideal S4x2048x6144 .f32) : FVec Ideal S2048x6144 .f32 :=
  shapeCast S2048x6144 (extractStridedSlice S1x2048x6144 ![2, 0, 0] W slices_S4x2048x6144_S1x2048x6144_2_0_0) shapeCasts_S1x2048x6144_S2048x6144
def w3 (W : FVec Ideal S4x2048x6144 .f32) : FVec Ideal S2048x6144 .f32 :=
  shapeCast S2048x6144 (extractStridedSlice S1x2048x6144 ![3, 0, 0] W slices_S4x2048x6144_S1x2048x6144_3_0_0) shapeCasts_S1x2048x6144_S2048x6144

/-- The bias of each layer. -/
def b0 (B : FVec Ideal S4x6144 .f32) : FVec Ideal S6144 .f32 :=
  shapeCast S6144 (extractStridedSlice S1x6144 ![0, 0] B slices_S4x6144_S1x6144_0_0) shapeCasts_S1x6144_S6144
def b1 (B : FVec Ideal S4x6144 .f32) : FVec Ideal S6144 .f32 :=
  shapeCast S6144 (extractStridedSlice S1x6144 ![1, 0] B slices_S4x6144_S1x6144_1_0) shapeCasts_S1x6144_S6144
def b2 (B : FVec Ideal S4x6144 .f32) : FVec Ideal S6144 .f32 :=
  shapeCast S6144 (extractStridedSlice S1x6144 ![2, 0] B slices_S4x6144_S1x6144_2_0) shapeCasts_S1x6144_S6144
def b3 (B : FVec Ideal S4x6144 .f32) : FVec Ideal S6144 .f32 :=
  shapeCast S6144 (extractStridedSlice S1x6144 ![3, 0] B slices_S4x6144_S1x6144_3_0) shapeCasts_S1x6144_S6144

/-- Four arrays of sixteen rows, one after another. -/
def stack (L0 L1 L2 L3 : FVec Ideal S16x6144 .f32) : FVec Ideal S4x16x6144 .f32 :=
  concatenate S4x16x6144 0 [⟨S1x16x6144, broadcastInDim S1x16x6144 ![1, 2] bcast_S16x6144_S1x16x6144_1_2 L0⟩,
    ⟨S1x16x6144, broadcastInDim S1x16x6144 ![1, 2] bcast_S16x6144_S1x16x6144_1_2 L1⟩,
    ⟨S1x16x6144, broadcastInDim S1x16x6144 ![1, 2] bcast_S16x6144_S1x16x6144_1_2 L2⟩,
    ⟨S1x16x6144, broadcastInDim S1x16x6144 ![1, 2] bcast_S16x6144_S1x16x6144_1_2 L3⟩]
    concatenates_S1x16x6144_S1x16x6144_S1x16x6144_S1x16x6144_S4x16x6144_d0

/-- The reference as a function of its arguments. -/
def REF (C : FVec Ideal S8x2048 .f32) (X : FVec Ideal S2048 .f32) (W : FVec Ideal S4x2048x6144 .f32) (B : FVec Ideal S4x6144 .f32) :
    FVec Ideal S4x16x6144 .f32 :=
  stack (layer (actL C) (actC X) (w0 W) (b0 B)) (layer (actL C) (actC X) (w1 W) (b1 B)) (layer (actL C) (actC X) (w2 W) (b2 B))
    (layer (actL C) (actC X) (w3 W) (b3 B))

theorem actL_at (C : FVec Ideal S8x2048 .f32) (r : Fin 8) (k : Fin 2048) : actL C (ix2 r k) = silu (C (ix2 r k)) := by
  unfold silu
  pointwise [actL]

theorem actC_at (X : FVec Ideal S2048 .f32) (k : Fin 2048) : actC X (ix1 k) = silu (X (ix1 k)) := by
  unfold silu
  pointwise [actC]

theorem rowsL_at (A : FVec Ideal S8x2048 .f32) (w : FVec Ideal S2048x6144 .f32) (b : FVec Ideal S6144 .f32) (r : Fin 8) (n : Fin 6144) :
    rowsL A w b (ix2 r n) = (∑ k : Fin 2048, A (ix2 r k) * w (ix2 k n)) + b (ix1 n) := by
  pointwise [rowsL]

theorem rowC_at (A : FVec Ideal S2048 .f32) (w : FVec Ideal S2048x6144 .f32) (b : FVec Ideal S6144 .f32) (n : Fin 6144) :
    rowC A w b (ix2 0 n) = (∑ k : Fin 2048, A (ix1 k) * w (ix2 k n)) + b (ix1 n) := by
  pointwise [rowC]

theorem rowsB_at (b : FVec Ideal S6144 .f32) (r : Fin 7) (n : Fin 6144) : rowsB b (ix2 r n) = b (ix1 n) := by
  pointwise [rowsB]

/-- Which of the three parts a row of a layer comes from. -/
theorem cat_at (P : FVec Ideal S8x6144 .f32) (Q : FVec Ideal S1x6144 .f32) (R : FVec Ideal S7x6144 .f32) (r : Fin 16) (n : Fin 6144) :
    (concatenate S16x6144 0 [⟨S8x6144, P⟩, ⟨S1x6144, Q⟩, ⟨S7x6144, R⟩] concatenates_S8x6144_S1x6144_S7x6144_S16x6144_d0 : FVec Ideal S16x6144 .f32) (ix2 r n)
      = if h : r.val < 8 then P (ix2 ⟨r.val, h⟩ n) else if h' : r.val - 8 < 1 then Q (ix2 ⟨r.val - 8, h'⟩ n)
        else R (ix2 ⟨r.val - 8 - 1, by omega⟩ n) := by
  pointwise []

theorem w0_at (W : FVec Ideal S4x2048x6144 .f32) (k : Fin 2048) (n : Fin 6144) : w0 W (ix2 k n) = W (ix3 0 k n) := by pointwise [w0]
theorem w1_at (W : FVec Ideal S4x2048x6144 .f32) (k : Fin 2048) (n : Fin 6144) : w1 W (ix2 k n) = W (ix3 1 k n) := by pointwise [w1]
theorem w2_at (W : FVec Ideal S4x2048x6144 .f32) (k : Fin 2048) (n : Fin 6144) : w2 W (ix2 k n) = W (ix3 2 k n) := by pointwise [w2]
theorem w3_at (W : FVec Ideal S4x2048x6144 .f32) (k : Fin 2048) (n : Fin 6144) : w3 W (ix2 k n) = W (ix3 3 k n) := by pointwise [w3]
theorem b0_at (B : FVec Ideal S4x6144 .f32) (n : Fin 6144) : b0 B (ix1 n) = B (ix2 0 n) := by pointwise [b0]
theorem b1_at (B : FVec Ideal S4x6144 .f32) (n : Fin 6144) : b1 B (ix1 n) = B (ix2 1 n) := by pointwise [b1]
theorem b2_at (B : FVec Ideal S4x6144 .f32) (n : Fin 6144) : b2 B (ix1 n) = B (ix2 2 n) := by pointwise [b2]
theorem b3_at (B : FVec Ideal S4x6144 .f32) (n : Fin 6144) : b3 B (ix1 n) = B (ix2 3 n) := by pointwise [b3]

/-- Each layer of the stack. -/
theorem stack0_at (L0 L1 L2 L3 : FVec Ideal S16x6144 .f32) (r : Fin 16) (n : Fin 6144) : stack L0 L1 L2 L3 (ix3 0 r n) = L0 (ix2 r n) := by pointwise [stack]
theorem stack1_at (L0 L1 L2 L3 : FVec Ideal S16x6144 .f32) (r : Fin 16) (n : Fin 6144) : stack L0 L1 L2 L3 (ix3 1 r n) = L1 (ix2 r n) := by pointwise [stack]
theorem stack2_at (L0 L1 L2 L3 : FVec Ideal S16x6144 .f32) (r : Fin 16) (n : Fin 6144) : stack L0 L1 L2 L3 (ix3 2 r n) = L2 (ix2 r n) := by pointwise [stack]
theorem stack3_at (L0 L1 L2 L3 : FVec Ideal S16x6144 .f32) (r : Fin 16) (n : Fin 6144) : stack L0 L1 L2 L3 (ix3 3 r n) = L3 (ix2 r n) := by pointwise [stack]

theorem silu_zero : silu 0 = 0 := zero_mul _

/-- One layer is the formula's, for weights and a bias that are layer `i` of the whole. A row of zeros has the bias alone. -/
theorem layer_at (C : FVec Ideal S8x2048 .f32) (X : FVec Ideal S2048 .f32) (W : FVec Ideal S4x2048x6144 .f32) (B : FVec Ideal S4x6144 .f32) (i : Fin 4)
    (w : FVec Ideal S2048x6144 .f32) (b : FVec Ideal S6144 .f32) (hw : ∀ k n, w (ix2 k n) = W (ix3 i k n)) (hb : ∀ n, b (ix1 n) = B (ix2 i n))
    (r : Fin 16) (n : Fin 6144) : layer (actL C) (actC X) w b (ix2 r n) = entry C X W B i r n := by
  unfold layer
  refine (cat_at _ _ _ r n).trans ?_
  unfold entry
  by_cases h : r.val < 8
  · rw [dif_pos h, rowsL_at, hb]
    refine congrArg (· + _) (Finset.sum_congr rfl fun k _ => ?_)
    rw [actL_at, hw]
    unfold inRow
    rw [dif_pos h]
  · rw [dif_neg h]
    by_cases h' : r.val - 8 < 1
    · rw [dif_pos h']
      have e : (⟨r.val - 8, h'⟩ : Fin 1) = 0 := Subsingleton.elim _ _
      rw [e, rowC_at, hb]
      refine congrArg (· + _) (Finset.sum_congr rfl fun k _ => ?_)
      rw [actC_at, hw]
      unfold inRow
      rw [dif_neg h, if_pos (by omega)]
    · rw [dif_neg h', rowsB_at, hb]
      refine (zero_add _).symm.trans (congrArg (· + _) (Finset.sum_eq_zero fun k _ => ?_).symm)
      unfold inRow
      rw [dif_neg h, if_neg (by omega), silu_zero, zero_mul]

/-- The reference's function is `SPEC`. -/
theorem ref_eq (C : FVec Ideal S8x2048 .f32) (X : FVec Ideal S2048 .f32) (W : FVec Ideal S4x2048x6144 .f32) (B : FVec Ideal S4x6144 .f32) :
    REF C X W B = SPEC C X W B := by
  funext j
  obtain ⟨i, r, n, rfl⟩ : ∃ (i : Fin 4) (r : Fin 16) (n : Fin 6144), j = ix3 i r n := ⟨j 0, j 1, j 2, eq_ix3 (n0 := 4) (n1 := 16) (n2 := 6144) j⟩
  show _ = entry C X W B i r n
  unfold REF
  fin_cases i
  · exact (stack0_at _ _ _ _ r n).trans (layer_at C X W B 0 _ _ (w0_at W) (b0_at B) r n)
  · exact (stack1_at _ _ _ _ r n).trans (layer_at C X W B 1 _ _ (w1_at W) (b1_at B) r n)
  · exact (stack2_at _ _ _ _ r n).trans (layer_at C X W B 2 _ _ (w2_at W) (b2_at B) r n)
  · exact (stack3_at _ _ _ _ r n).trans (layer_at C X W B 3 _ _ (w3_at W) (b3_at B) r n)

end Cert.Proof.Mod

end
-- ==== Proof.Mod.Claim.lean ====
/- The claims about the modulation of the layers: its frames, and the kernel's result equal to
   the reference's. -/
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import Idealize.ShloMosaic.Lib.Claim
public import proofs.«01_k».proof.Proof.Mod.Final
public import proofs.«01_k».proof.Proof.Mod.Ref

@[expose] public section

set_option maxRecDepth 16384

noncomputable section

namespace Cert.Proof.Mod

open Idealize.ShloMosaic Idealize.ShloMosaic.TcCoe Idealize.SL.Sem

theorem frame_kernel : Cert.quiescent_Kernel6 (hKernel6 := Cert.Kernel6.Gen.facts) := fun m ρ _ => Cert.Kernel6.Gen.frame m ρ

theorem frame_ideal : Cert.quiescent_Kernel6Ideal (hKernel6Ideal := Cert.Kernel6Ideal.Gen.facts) :=
  fun m ρ _ => Cert.Kernel6Ideal.Gen.frame m ρ

theorem frame_ref : Cert.quiescent_Reference6Ideal (hReference6Ideal := Cert.Reference6Ideal.Gen.facts) := by
  intro m g _
  exact (θ_run Cert.Reference6Ideal.defs _ _).mono (fun r h => ⟨fun c => (h c).2, Idealize.ShloMosaic.sem_eq_zero_of_no_sems (by decide) r.2⟩)
    (Cert.Reference6Ideal.Value.run (F := Ideal) m g)

/-- THE VALUE CLAIM. -/
theorem algebraic : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    refine Eq.trans (b := REF (m' (c.tc.loc Cert.Reference6Ideal.main_arg0)) (m' (c.tc.loc Cert.Reference6Ideal.main_arg1))
      (m' (c.tc.loc Cert.Reference6Ideal.main_arg2)) (m' (c.tc.loc Cert.Reference6Ideal.main_arg3))) rfl ?_
    rw [(hagree c).1, (hagree c).2.1, (hagree c).2.2.1, (hagree c).2.2.2, ref_eq]
    exact (final m c).symm

end Cert.Proof.Mod

end
-- ==== Proof.lean ====
/-
  The proof of this directory's certificate: the claims of each call, put together.
-/
module

public import proofs.«01_k».proof.Defs
public import proofs.«01_k».proof.Proof.Attn.Claim
public import proofs.«01_k».proof.Proof.Inproj.Claim
public import proofs.«01_k».proof.Proof.Last.Claim
public import proofs.«01_k».proof.Proof.Out.Claim
public import proofs.«01_k».proof.Proof.Prep.Claim
public import proofs.«01_k».proof.Proof.Mod.Claim

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Attn.preFacts,
    Attn.frame_kernel, Attn.frame_ideal, Attn.frame_ideal_pre, Attn.frame_ref, Attn.frame_ref_pre,
    Inproj.frame_kernel, Inproj.frame_ideal, Inproj.frame_ref,
    Last.frame_kernel, Last.frame_ideal, Last.frame_ref,
    Out.frame_kernel, Out.frame_ideal, Out.frame_ref,
    Prep.frame_kernel, Prep.frame_ideal, Prep.frame_ref,
    Mod.frame_kernel, Mod.frame_ideal, Mod.frame_ref,
    trivial, Attn.algebraic, trivial, Inproj.algebraic, trivial, Last.algebraic, trivial, Out.algebraic, trivial, Prep.algebraic, trivial, Mod.algebraic⟩

end Cert.Proof

end
